-- ==== Defs.lean ====
def Pre_FfnPre (m : (ℓ : Loc Cert.FfnPre.nD Cert.FfnPre.τ Cert.FfnPre.sig) → Buf (Elt Bits) ℓ) : Prop :=
  True

def Pre_FfnPreIdeal (m : (ℓ : Loc Cert.FfnPreIdeal.nD Cert.FfnPreIdeal.τ Cert.FfnPreIdeal.sig) → Buf (Elt Ideal) ℓ) : Prop :=
  True

def Pre_FfnPreRefIdeal (m : (ℓ : Loc Cert.FfnPreRefIdeal.nD Cert.FfnPreRefIdeal.τ Cert.FfnPreRefIdeal.sig) → Buf (Elt Ideal) ℓ) : Prop :=
  True

def Pre_FfnAb (m : (ℓ : Loc Cert.FfnAb.nD Cert.FfnAb.τ Cert.FfnAb.sig) → Buf (Elt Bits) ℓ) : Prop :=
  True

def Pre_FfnAbIdeal (m : (ℓ : Loc Cert.FfnAbIdeal.nD Cert.FfnAbIdeal.τ Cert.FfnAbIdeal.sig) → Buf (Elt Ideal) ℓ) : Prop :=
  True

def Pre_FfnAbRefIdeal (m : (ℓ : Loc Cert.FfnAbRefIdeal.nD Cert.FfnAbRefIdeal.τ Cert.FfnAbRefIdeal.sig) → Buf (Elt Ideal) ℓ) : Prop :=
  True

def Pre_FfnC (m : (ℓ : Loc Cert.FfnC.nD Cert.FfnC.τ Cert.FfnC.sig) → Buf (Elt Bits) ℓ) : Prop :=
  True

def Pre_FfnCIdeal (m : (ℓ : Loc Cert.FfnCIdeal.nD Cert.FfnCIdeal.τ Cert.FfnCIdeal.sig) → Buf (Elt Ideal) ℓ) : Prop :=
  True

def Pre_FfnCRefIdeal (m : (ℓ : Loc Cert.FfnCRefIdeal.nD Cert.FfnCRefIdeal.τ Cert.FfnCRefIdeal.sig) → Buf (Elt Ideal) ℓ) : Prop :=
  True

def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_finite [hPre_finite : Cert.Pre_finite.Facts] (m : (ℓ : Loc Cert.GqaIdeal.nD Cert.GqaIdeal.τ Cert.GqaIdeal.sig) → Buf (Elt Ideal) ℓ) : Prop :=
  ∀ c : Dev Cert.GqaIdeal.nD,
    (Cert.Pre_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_finite [hPre_finite : Cert.Pre_finite.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1))) = (fun _ => 1#1)

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite_diff [hPre_finite_diff : Cert.Pre_finite_diff.Facts] (m : (ℓ : Loc Cert.DiffIdeal.nD Cert.DiffIdeal.τ Cert.DiffIdeal.sig) → Buf (Elt Ideal) ℓ) : Prop :=
  ∀ c : Dev Cert.DiffIdeal.nD,
    (Cert.Pre_finite_diff.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite_diff [hPre_finite_diff : Cert.Pre_finite_diff.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite_diff.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6))) = (fun _ => 1#1)

def Pre_CtxPre (m : (ℓ : Loc Cert.CtxPre.nD Cert.CtxPre.τ Cert.CtxPre.sig) → Buf (Elt Bits) ℓ) : Prop :=
  True

def Pre_CtxPreIdeal (m : (ℓ : Loc Cert.CtxPreIdeal.nD Cert.CtxPreIdeal.τ Cert.CtxPreIdeal.sig) → Buf (Elt Ideal) ℓ) : Prop :=
  True

def Pre_CtxPreRefIdeal (m : (ℓ : Loc Cert.CtxPreRefIdeal.nD Cert.CtxPreRefIdeal.τ Cert.CtxPreRefIdeal.sig) → Buf (Elt Ideal) ℓ) : Prop :=
  True

def Pre_CtxAb (m : (ℓ : Loc Cert.CtxAb.nD Cert.CtxAb.τ Cert.CtxAb.sig) → Buf (Elt Bits) ℓ) : Prop :=
  True

def Pre_CtxAbIdeal (m : (ℓ : Loc Cert.CtxAbIdeal.nD Cert.CtxAbIdeal.τ Cert.CtxAbIdeal.sig) → Buf (Elt Ideal) ℓ) : Prop :=
  True

def Pre_CtxAbRefIdeal (m : (ℓ : Loc Cert.CtxAbRefIdeal.nD Cert.CtxAbRefIdeal.τ Cert.CtxAbRefIdeal.sig) → Buf (Elt Ideal) ℓ) : Prop :=
  True

def Pre_ProjC (m : (ℓ : Loc Cert.ProjC.nD Cert.ProjC.τ Cert.ProjC.sig) → Buf (Elt Bits) ℓ) : Prop :=
  True

def Pre_ProjCIdeal (m : (ℓ : Loc Cert.ProjCIdeal.nD Cert.ProjCIdeal.τ Cert.ProjCIdeal.sig) → Buf (Elt Ideal) ℓ) : Prop :=
  True

def Pre_ProjCRefIdeal (m : (ℓ : Loc Cert.ProjCRefIdeal.nD Cert.ProjCRefIdeal.τ Cert.ProjCRefIdeal.sig) → Buf (Elt Ideal) ℓ) : Prop :=
  True

def quiescent_FfnPre [hFfnPre : Cert.FfnPre.Facts] : Prop :=
  ∀ (m : (ℓ : Loc Cert.FfnPre.nD Cert.FfnPre.τ Cert.FfnPre.sig) → Buf (Elt Bits) ℓ) (g : Dev Cert.FfnPre.nD → PrngReg), Pre_FfnPre m →
    θ_run (Cert.FfnPre.defs (F := Bits)) (onTc (τ := Cert.FfnPre.τ) (Cert.FfnPre.main (F := Bits))) ⟨m, fun _ => 0, g⟩ (fun r => (∀ c : Dev Cert.FfnPre.nD,
      r.2.mem ((c.tc : Thread Cert.FfnPre.nD Cert.FfnPre.τ).loc Cert.FfnPre.main_arg0) = m ((c.tc : Thread Cert.FfnPre.nD Cert.FfnPre.τ).loc Cert.FfnPre.main_arg0)
      ∧ r.2.mem ((c.tc : Thread Cert.FfnPre.nD Cert.FfnPre.τ).loc Cert.FfnPre.main_arg1) = m ((c.tc : Thread Cert.FfnPre.nD Cert.FfnPre.τ).loc Cert.FfnPre.main_arg1)
      ∧ r.2.mem ((c.tc : Thread Cert.FfnPre.nD Cert.FfnPre.τ).loc Cert.FfnPre.main_arg2) = m ((c.tc : Thread Cert.FfnPre.nD Cert.FfnPre.τ).loc Cert.FfnPre.main_arg2)
      ∧ r.2.mem ((c.tc : Thread Cert.FfnPre.nD Cert.FfnPre.τ).loc Cert.FfnPre.main_arg3) = m ((c.tc : Thread Cert.FfnPre.nD Cert.FfnPre.τ).loc Cert.FfnPre.main_arg3)
      ∧ r.2.mem ((c.tc : Thread Cert.FfnPre.nD Cert.FfnPre.τ).loc Cert.FfnPre.main_arg4) = m ((c.tc : Thread Cert.FfnPre.nD Cert.FfnPre.τ).loc Cert.FfnPre.main_arg4)
      ∧ r.2.mem ((c.tc : Thread Cert.FfnPre.nD Cert.FfnPre.τ).loc Cert.FfnPre.main_arg5) = m ((c.tc : Thread Cert.FfnPre.nD Cert.FfnPre.τ).loc Cert.FfnPre.main_arg5)
      ∧ r.2.mem ((c.tc : Thread Cert.FfnPre.nD Cert.FfnPre.τ).loc Cert.FfnPre.main_arg6) = m ((c.tc : Thread Cert.FfnPre.nD Cert.FfnPre.τ).loc Cert.FfnPre.main_arg6))
      ∧ r.2.sem = fun _ => 0)

def quiescent_FfnPreIdeal [hFfnPreIdeal : Cert.FfnPreIdeal.Facts] : Prop :=
  ∀ (m : (ℓ : Loc Cert.FfnPreIdeal.nD Cert.FfnPreIdeal.τ Cert.FfnPreIdeal.sig) → Buf (Elt Ideal) ℓ) (g : Dev Cert.FfnPreIdeal.nD → PrngReg), Pre_FfnPreIdeal m →
    θ_run (Cert.FfnPreIdeal.defs (F := Ideal)) (onTc (τ := Cert.FfnPreIdeal.τ) (Cert.FfnPreIdeal.main (F := Ideal))) ⟨m, fun _ => 0, g⟩ (fun r => (∀ c : Dev Cert.FfnPreIdeal.nD,
      r.2.mem ((c.tc : Thread Cert.FfnPreIdeal.nD Cert.FfnPreIdeal.τ).loc Cert.FfnPreIdeal.main_arg0) = m ((c.tc : Thread Cert.FfnPreIdeal.nD Cert.FfnPreIdeal.τ).loc Cert.FfnPreIdeal.main_arg0)
      ∧ r.2.mem ((c.tc : Thread Cert.FfnPreIdeal.nD Cert.FfnPreIdeal.τ).loc Cert.FfnPreIdeal.main_arg1) = m ((c.tc : Thread Cert.FfnPreIdeal.nD Cert.FfnPreIdeal.τ).loc Cert.FfnPreIdeal.main_arg1)
      ∧ r.2.mem ((c.tc : Thread Cert.FfnPreIdeal.nD Cert.FfnPreIdeal.τ).loc Cert.FfnPreIdeal.main_arg2) = m ((c.tc : Thread Cert.FfnPreIdeal.nD Cert.FfnPreIdeal.τ).loc Cert.FfnPreIdeal.main_arg2)
      ∧ r.2.mem ((c.tc : Thread Cert.FfnPreIdeal.nD Cert.FfnPreIdeal.τ).loc Cert.FfnPreIdeal.main_arg3) = m ((c.tc : Thread Cert.FfnPreIdeal.nD Cert.FfnPreIdeal.τ).loc Cert.FfnPreIdeal.main_arg3)
      ∧ r.2.mem ((c.tc : Thread Cert.FfnPreIdeal.nD Cert.FfnPreIdeal.τ).loc Cert.FfnPreIdeal.main_arg4) = m ((c.tc : Thread Cert.FfnPreIdeal.nD Cert.FfnPreIdeal.τ).loc Cert.FfnPreIdeal.main_arg4)
      ∧ r.2.mem ((c.tc : Thread Cert.FfnPreIdeal.nD Cert.FfnPreIdeal.τ).loc Cert.FfnPreIdeal.main_arg5) = m ((c.tc : Thread Cert.FfnPreIdeal.nD Cert.FfnPreIdeal.τ).loc Cert.FfnPreIdeal.main_arg5)
      ∧ r.2.mem ((c.tc : Thread Cert.FfnPreIdeal.nD Cert.FfnPreIdeal.τ).loc Cert.FfnPreIdeal.main_arg6) = m ((c.tc : Thread Cert.FfnPreIdeal.nD Cert.FfnPreIdeal.τ).loc Cert.FfnPreIdeal.main_arg6))
      ∧ r.2.sem = fun _ => 0)

def quiescent_FfnPreRefIdeal [hFfnPreRefIdeal : Cert.FfnPreRefIdeal.Facts] : Prop :=
  ∀ (m : (ℓ : Loc Cert.FfnPreRefIdeal.nD Cert.FfnPreRefIdeal.τ Cert.FfnPreRefIdeal.sig) → Buf (Elt Ideal) ℓ) (g : Dev Cert.FfnPreRefIdeal.nD → PrngReg), Pre_FfnPreRefIdeal m →
    θ_run (Cert.FfnPreRefIdeal.defs (F := Ideal)) (onTc (τ := Cert.FfnPreRefIdeal.τ) (Cert.FfnPreRefIdeal.main (F := Ideal))) ⟨m, fun _ => 0, g⟩ (fun r => (∀ c : Dev Cert.FfnPreRefIdeal.nD,
      r.2.mem ((c.tc : Thread Cert.FfnPreRefIdeal.nD Cert.FfnPreRefIdeal.τ).loc Cert.FfnPreRefIdeal.main_arg0) = m ((c.tc : Thread Cert.FfnPreRefIdeal.nD Cert.FfnPreRefIdeal.τ).loc Cert.FfnPreRefIdeal.main_arg0)
      ∧ r.2.mem ((c.tc : Thread Cert.FfnPreRefIdeal.nD Cert.FfnPreRefIdeal.τ).loc Cert.FfnPreRefIdeal.main_arg1) = m ((c.tc : Thread Cert.FfnPreRefIdeal.nD Cert.FfnPreRefIdeal.τ).loc Cert.FfnPreRefIdeal.main_arg1)
      ∧ r.2.mem ((c.tc : Thread Cert.FfnPreRefIdeal.nD Cert.FfnPreRefIdeal.τ).loc Cert.FfnPreRefIdeal.main_arg2) = m ((c.tc : Thread Cert.FfnPreRefIdeal.nD Cert.FfnPreRefIdeal.τ).loc Cert.FfnPreRefIdeal.main_arg2)
      ∧ r.2.mem ((c.tc : Thread Cert.FfnPreRefIdeal.nD Cert.FfnPreRefIdeal.τ).loc Cert.FfnPreRefIdeal.main_arg3) = m ((c.tc : Thread Cert.FfnPreRefIdeal.nD Cert.FfnPreRefIdeal.τ).loc Cert.FfnPreRefIdeal.main_arg3)
      ∧ r.2.mem ((c.tc : Thread Cert.FfnPreRefIdeal.nD Cert.FfnPreRefIdeal.τ).loc Cert.FfnPreRefIdeal.main_arg4) = m ((c.tc : Thread Cert.FfnPreRefIdeal.nD Cert.FfnPreRefIdeal.τ).loc Cert.FfnPreRefIdeal.main_arg4)
      ∧ r.2.mem ((c.tc : Thread Cert.FfnPreRefIdeal.nD Cert.FfnPreRefIdeal.τ).loc Cert.FfnPreRefIdeal.main_arg5) = m ((c.tc : Thread Cert.FfnPreRefIdeal.nD Cert.FfnPreRefIdeal.τ).loc Cert.FfnPreRefIdeal.main_arg5)
      ∧ r.2.mem ((c.tc : Thread Cert.FfnPreRefIdeal.nD Cert.FfnPreRefIdeal.τ).loc Cert.FfnPreRefIdeal.main_arg6) = m ((c.tc : Thread Cert.FfnPreRefIdeal.nD Cert.FfnPreRefIdeal.τ).loc Cert.FfnPreRefIdeal.main_arg6))
      ∧ r.2.sem = fun _ => 0)

def quiescent_FfnAb [hFfnAb : Cert.FfnAb.Facts] : Prop :=
  ∀ (m : (ℓ : Loc Cert.FfnAb.nD Cert.FfnAb.τ Cert.FfnAb.sig) → Buf (Elt Bits) ℓ) (g : Dev Cert.FfnAb.nD → PrngReg), Pre_FfnAb m →
    θ_run (Cert.FfnAb.defs (F := Bits)) (onTc (τ := Cert.FfnAb.τ) (Cert.FfnAb.main (F := Bits))) ⟨m, fun _ => 0, g⟩ (fun r => (∀ c : Dev Cert.FfnAb.nD,
      r.2.mem ((c.tc : Thread Cert.FfnAb.nD Cert.FfnAb.τ).loc Cert.FfnAb.main_arg0) = m ((c.tc : Thread Cert.FfnAb.nD Cert.FfnAb.τ).loc Cert.FfnAb.main_arg0)
      ∧ r.2.mem ((c.tc : Thread Cert.FfnAb.nD Cert.FfnAb.τ).loc Cert.FfnAb.main_arg1) = m ((c.tc : Thread Cert.FfnAb.nD Cert.FfnAb.τ).loc Cert.FfnAb.main_arg1)
      ∧ r.2.mem ((c.tc : Thread Cert.FfnAb.nD Cert.FfnAb.τ).loc Cert.FfnAb.main_arg2) = m ((c.tc : Thread Cert.FfnAb.nD Cert.FfnAb.τ).loc Cert.FfnAb.main_arg2)
      ∧ r.2.mem ((c.tc : Thread Cert.FfnAb.nD Cert.FfnAb.τ).loc Cert.FfnAb.main_arg3) = m ((c.tc : Thread Cert.FfnAb.nD Cert.FfnAb.τ).loc Cert.FfnAb.main_arg3)
      ∧ r.2.mem ((c.tc : Thread Cert.FfnAb.nD Cert.FfnAb.τ).loc Cert.FfnAb.main_arg4) = m ((c.tc : Thread Cert.FfnAb.nD Cert.FfnAb.τ).loc Cert.FfnAb.main_arg4)
      ∧ r.2.mem ((c.tc : Thread Cert.FfnAb.nD Cert.FfnAb.τ).loc Cert.FfnAb.main_arg5) = m ((c.tc : Thread Cert.FfnAb.nD Cert.FfnAb.τ).loc Cert.FfnAb.main_arg5)
      ∧ r.2.mem ((c.tc : Thread Cert.FfnAb.nD Cert.FfnAb.τ).loc Cert.FfnAb.main_arg6) = m ((c.tc : Thread Cert.FfnAb.nD Cert.FfnAb.τ).loc Cert.FfnAb.main_arg6)
      ∧ r.2.mem ((c.tc : Thread Cert.FfnAb.nD Cert.FfnAb.τ).loc Cert.FfnAb.main_arg7) = m ((c.tc : Thread Cert.FfnAb.nD Cert.FfnAb.τ).loc Cert.FfnAb.main_arg7)
      ∧ r.2.mem ((c.tc : Thread Cert.FfnAb.nD Cert.FfnAb.τ).loc Cert.FfnAb.main_arg8) = m ((c.tc : Thread Cert.FfnAb.nD Cert.FfnAb.τ).loc Cert.FfnAb.main_arg8)
      ∧ r.2.mem ((c.tc : Thread Cert.FfnAb.nD Cert.FfnAb.τ).loc Cert.FfnAb.main_arg9) = m ((c.tc : Thread Cert.FfnAb.nD Cert.FfnAb.τ).loc Cert.FfnAb.main_arg9))
      ∧ r.2.sem = fun _ => 0)

def quiescent_FfnAbIdeal [hFfnAbIdeal : Cert.FfnAbIdeal.Facts] : Prop :=
  ∀ (m : (ℓ : Loc Cert.FfnAbIdeal.nD Cert.FfnAbIdeal.τ Cert.FfnAbIdeal.sig) → Buf (Elt Ideal) ℓ) (g : Dev Cert.FfnAbIdeal.nD → PrngReg), Pre_FfnAbIdeal m →
    θ_run (Cert.FfnAbIdeal.defs (F := Ideal)) (onTc (τ := Cert.FfnAbIdeal.τ) (Cert.FfnAbIdeal.main (F := Ideal))) ⟨m, fun _ => 0, g⟩ (fun r => (∀ c : Dev Cert.FfnAbIdeal.nD,
      r.2.mem ((c.tc : Thread Cert.FfnAbIdeal.nD Cert.FfnAbIdeal.τ).loc Cert.FfnAbIdeal.main_arg0) = m ((c.tc : Thread Cert.FfnAbIdeal.nD Cert.FfnAbIdeal.τ).loc Cert.FfnAbIdeal.main_arg0)
      ∧ r.2.mem ((c.tc : Thread Cert.FfnAbIdeal.nD Cert.FfnAbIdeal.τ).loc Cert.FfnAbIdeal.main_arg1) = m ((c.tc : Thread Cert.FfnAbIdeal.nD Cert.FfnAbIdeal.τ).loc Cert.FfnAbIdeal.main_arg1)
      ∧ r.2.mem ((c.tc : Thread Cert.FfnAbIdeal.nD Cert.FfnAbIdeal.τ).loc Cert.FfnAbIdeal.main_arg2) = m ((c.tc : Thread Cert.FfnAbIdeal.nD Cert.FfnAbIdeal.τ).loc Cert.FfnAbIdeal.main_arg2)
      ∧ r.2.mem ((c.tc : Thread Cert.FfnAbIdeal.nD Cert.FfnAbIdeal.τ).loc Cert.FfnAbIdeal.main_arg3) = m ((c.tc : Thread Cert.FfnAbIdeal.nD Cert.FfnAbIdeal.τ).loc Cert.FfnAbIdeal.main_arg3)
      ∧ r.2.mem ((c.tc : Thread Cert.FfnAbIdeal.nD Cert.FfnAbIdeal.τ).loc Cert.FfnAbIdeal.main_arg4) = m ((c.tc : Thread Cert.FfnAbIdeal.nD Cert.FfnAbIdeal.τ).loc Cert.FfnAbIdeal.main_arg4)
      ∧ r.2.mem ((c.tc : Thread Cert.FfnAbIdeal.nD Cert.FfnAbIdeal.τ).loc Cert.FfnAbIdeal.main_arg5) = m ((c.tc : Thread Cert.FfnAbIdeal.nD Cert.FfnAbIdeal.τ).loc Cert.FfnAbIdeal.main_arg5)
      ∧ r.2.mem ((c.tc : Thread Cert.FfnAbIdeal.nD Cert.FfnAbIdeal.τ).loc Cert.FfnAbIdeal.main_arg6) = m ((c.tc : Thread Cert.FfnAbIdeal.nD Cert.FfnAbIdeal.τ).loc Cert.FfnAbIdeal.main_arg6)
      ∧ r.2.mem ((c.tc : Thread Cert.FfnAbIdeal.nD Cert.FfnAbIdeal.τ).loc Cert.FfnAbIdeal.main_arg7) = m ((c.tc : Thread Cert.FfnAbIdeal.nD Cert.FfnAbIdeal.τ).loc Cert.FfnAbIdeal.main_arg7)
      ∧ r.2.mem ((c.tc : Thread Cert.FfnAbIdeal.nD Cert.FfnAbIdeal.τ).loc Cert.FfnAbIdeal.main_arg8) = m ((c.tc : Thread Cert.FfnAbIdeal.nD Cert.FfnAbIdeal.τ).loc Cert.FfnAbIdeal.main_arg8)
      ∧ r.2.mem ((c.tc : Thread Cert.FfnAbIdeal.nD Cert.FfnAbIdeal.τ).loc Cert.FfnAbIdeal.main_arg9) = m ((c.tc : Thread Cert.FfnAbIdeal.nD Cert.FfnAbIdeal.τ).loc Cert.FfnAbIdeal.main_arg9))
      ∧ r.2.sem = fun _ => 0)

def quiescent_FfnAbRefIdeal [hFfnAbRefIdeal : Cert.FfnAbRefIdeal.Facts] : Prop :=
  ∀ (m : (ℓ : Loc Cert.FfnAbRefIdeal.nD Cert.FfnAbRefIdeal.τ Cert.FfnAbRefIdeal.sig) → Buf (Elt Ideal) ℓ) (g : Dev Cert.FfnAbRefIdeal.nD → PrngReg), Pre_FfnAbRefIdeal m →
    θ_run (Cert.FfnAbRefIdeal.defs (F := Ideal)) (onTc (τ := Cert.FfnAbRefIdeal.τ) (Cert.FfnAbRefIdeal.main (F := Ideal))) ⟨m, fun _ => 0, g⟩ (fun r => (∀ c : Dev Cert.FfnAbRefIdeal.nD,
      r.2.mem ((c.tc : Thread Cert.FfnAbRefIdeal.nD Cert.FfnAbRefIdeal.τ).loc Cert.FfnAbRefIdeal.main_arg0) = m ((c.tc : Thread Cert.FfnAbRefIdeal.nD Cert.FfnAbRefIdeal.τ).loc Cert.FfnAbRefIdeal.main_arg0)
      ∧ r.2.mem ((c.tc : Thread Cert.FfnAbRefIdeal.nD Cert.FfnAbRefIdeal.τ).loc Cert.FfnAbRefIdeal.main_arg1) = m ((c.tc : Thread Cert.FfnAbRefIdeal.nD Cert.FfnAbRefIdeal.τ).loc Cert.FfnAbRefIdeal.main_arg1)
      ∧ r.2.mem ((c.tc : Thread Cert.FfnAbRefIdeal.nD Cert.FfnAbRefIdeal.τ).loc Cert.FfnAbRefIdeal.main_arg2) = m ((c.tc : Thread Cert.FfnAbRefIdeal.nD Cert.FfnAbRefIdeal.τ).loc Cert.FfnAbRefIdeal.main_arg2)
      ∧ r.2.mem ((c.tc : Thread Cert.FfnAbRefIdeal.nD Cert.FfnAbRefIdeal.τ).loc Cert.FfnAbRefIdeal.main_arg3) = m ((c.tc : Thread Cert.FfnAbRefIdeal.nD Cert.FfnAbRefIdeal.τ).loc Cert.FfnAbRefIdeal.main_arg3)
      ∧ r.2.mem ((c.tc : Thread Cert.FfnAbRefIdeal.nD Cert.FfnAbRefIdeal.τ).loc Cert.FfnAbRefIdeal.main_arg4) = m ((c.tc : Thread Cert.FfnAbRefIdeal.nD Cert.FfnAbRefIdeal.τ).loc Cert.FfnAbRefIdeal.main_arg4)
      ∧ r.2.mem ((c.tc : Thread Cert.FfnAbRefIdeal.nD Cert.FfnAbRefIdeal.τ).loc Cert.FfnAbRefIdeal.main_arg5) = m ((c.tc : Thread Cert.FfnAbRefIdeal.nD Cert.FfnAbRefIdeal.τ).loc Cert.FfnAbRefIdeal.main_arg5)
      ∧ r.2.mem ((c.tc : Thread Cert.FfnAbRefIdeal.nD Cert.FfnAbRefIdeal.τ).loc Cert.FfnAbRefIdeal.main_arg6) = m ((c.tc : Thread Cert.FfnAbRefIdeal.nD Cert.FfnAbRefIdeal.τ).loc Cert.FfnAbRefIdeal.main_arg6)
      ∧ r.2.mem ((c.tc : Thread Cert.FfnAbRefIdeal.nD Cert.FfnAbRefIdeal.τ).loc Cert.FfnAbRefIdeal.main_arg7) = m ((c.tc : Thread Cert.FfnAbRefIdeal.nD Cert.FfnAbRefIdeal.τ).loc Cert.FfnAbRefIdeal.main_arg7)
      ∧ r.2.mem ((c.tc : Thread Cert.FfnAbRefIdeal.nD Cert.FfnAbRefIdeal.τ).loc Cert.FfnAbRefIdeal.main_arg8) = m ((c.tc : Thread Cert.FfnAbRefIdeal.nD Cert.FfnAbRefIdeal.τ).loc Cert.FfnAbRefIdeal.main_arg8)
      ∧ r.2.mem ((c.tc : Thread Cert.FfnAbRefIdeal.nD Cert.FfnAbRefIdeal.τ).loc Cert.FfnAbRefIdeal.main_arg9) = m ((c.tc : Thread Cert.FfnAbRefIdeal.nD Cert.FfnAbRefIdeal.τ).loc Cert.FfnAbRefIdeal.main_arg9))
      ∧ r.2.sem = fun _ => 0)

def quiescent_FfnC [hFfnC : Cert.FfnC.Facts] : Prop :=
  ∀ (m : (ℓ : Loc Cert.FfnC.nD Cert.FfnC.τ Cert.FfnC.sig) → Buf (Elt Bits) ℓ) (g : Dev Cert.FfnC.nD → PrngReg), Pre_FfnC m →
    θ_run (Cert.FfnC.defs (F := Bits)) (onTc (τ := Cert.FfnC.τ) (Cert.FfnC.main (F := Bits))) ⟨m, fun _ => 0, g⟩ (fun r => (∀ c : Dev Cert.FfnC.nD,
      r.2.mem ((c.tc : Thread Cert.FfnC.nD Cert.FfnC.τ).loc Cert.FfnC.main_arg0) = m ((c.tc : Thread Cert.FfnC.nD Cert.FfnC.τ).loc Cert.FfnC.main_arg0)
      ∧ r.2.mem ((c.tc : Thread Cert.FfnC.nD Cert.FfnC.τ).loc Cert.FfnC.main_arg1) = m ((c.tc : Thread Cert.FfnC.nD Cert.FfnC.τ).loc Cert.FfnC.main_arg1)
      ∧ r.2.mem ((c.tc : Thread Cert.FfnC.nD Cert.FfnC.τ).loc Cert.FfnC.main_arg2) = m ((c.tc : Thread Cert.FfnC.nD Cert.FfnC.τ).loc Cert.FfnC.main_arg2)
      ∧ r.2.mem ((c.tc : Thread Cert.FfnC.nD Cert.FfnC.τ).loc Cert.FfnC.main_arg3) = m ((c.tc : Thread Cert.FfnC.nD Cert.FfnC.τ).loc Cert.FfnC.main_arg3)
      ∧ r.2.mem ((c.tc : Thread Cert.FfnC.nD Cert.FfnC.τ).loc Cert.FfnC.main_arg4) = m ((c.tc : Thread Cert.FfnC.nD Cert.FfnC.τ).loc Cert.FfnC.main_arg4)
      ∧ r.2.mem ((c.tc : Thread Cert.FfnC.nD Cert.FfnC.τ).loc Cert.FfnC.main_arg5) = m ((c.tc : Thread Cert.FfnC.nD Cert.FfnC.τ).loc Cert.FfnC.main_arg5)
      ∧ r.2.mem ((c.tc : Thread Cert.FfnC.nD Cert.FfnC.τ).loc Cert.FfnC.main_arg6) = m ((c.tc : Thread Cert.FfnC.nD Cert.FfnC.τ).loc Cert.FfnC.main_arg6)
      ∧ r.2.mem ((c.tc : Thread Cert.FfnC.nD Cert.FfnC.τ).loc Cert.FfnC.main_arg7) = m ((c.tc : Thread Cert.FfnC.nD Cert.FfnC.τ).loc Cert.FfnC.main_arg7)
      ∧ r.2.mem ((c.tc : Thread Cert.FfnC.nD Cert.FfnC.τ).loc Cert.FfnC.main_arg8) = m ((c.tc : Thread Cert.FfnC.nD Cert.FfnC.τ).loc Cert.FfnC.main_arg8))
      ∧ r.2.sem = fun _ => 0)

def quiescent_FfnCIdeal [hFfnCIdeal : Cert.FfnCIdeal.Facts] : Prop :=
  ∀ (m : (ℓ : Loc Cert.FfnCIdeal.nD Cert.FfnCIdeal.τ Cert.FfnCIdeal.sig) → Buf (Elt Ideal) ℓ) (g : Dev Cert.FfnCIdeal.nD → PrngReg), Pre_FfnCIdeal m →
    θ_run (Cert.FfnCIdeal.defs (F := Ideal)) (onTc (τ := Cert.FfnCIdeal.τ) (Cert.FfnCIdeal.main (F := Ideal))) ⟨m, fun _ => 0, g⟩ (fun r => (∀ c : Dev Cert.FfnCIdeal.nD,
      r.2.mem ((c.tc : Thread Cert.FfnCIdeal.nD Cert.FfnCIdeal.τ).loc Cert.FfnCIdeal.main_arg0) = m ((c.tc : Thread Cert.FfnCIdeal.nD Cert.FfnCIdeal.τ).loc Cert.FfnCIdeal.main_arg0)
      ∧ r.2.mem ((c.tc : Thread Cert.FfnCIdeal.nD Cert.FfnCIdeal.τ).loc Cert.FfnCIdeal.main_arg1) = m ((c.tc : Thread Cert.FfnCIdeal.nD Cert.FfnCIdeal.τ).loc Cert.FfnCIdeal.main_arg1)
      ∧ r.2.mem ((c.tc : Thread Cert.FfnCIdeal.nD Cert.FfnCIdeal.τ).loc Cert.FfnCIdeal.main_arg2) = m ((c.tc : Thread Cert.FfnCIdeal.nD Cert.FfnCIdeal.τ).loc Cert.FfnCIdeal.main_arg2)
      ∧ r.2.mem ((c.tc : Thread Cert.FfnCIdeal.nD Cert.FfnCIdeal.τ).loc Cert.FfnCIdeal.main_arg3) = m ((c.tc : Thread Cert.FfnCIdeal.nD Cert.FfnCIdeal.τ).loc Cert.FfnCIdeal.main_arg3)
      ∧ r.2.mem ((c.tc : Thread Cert.FfnCIdeal.nD Cert.FfnCIdeal.τ).loc Cert.FfnCIdeal.main_arg4) = m ((c.tc : Thread Cert.FfnCIdeal.nD Cert.FfnCIdeal.τ).loc Cert.FfnCIdeal.main_arg4)
      ∧ r.2.mem ((c.tc : Thread Cert.FfnCIdeal.nD Cert.FfnCIdeal.τ).loc Cert.FfnCIdeal.main_arg5) = m ((c.tc : Thread Cert.FfnCIdeal.nD Cert.FfnCIdeal.τ).loc Cert.FfnCIdeal.main_arg5)
      ∧ r.2.mem ((c.tc : Thread Cert.FfnCIdeal.nD Cert.FfnCIdeal.τ).loc Cert.FfnCIdeal.main_arg6) = m ((c.tc : Thread Cert.FfnCIdeal.nD Cert.FfnCIdeal.τ).loc Cert.FfnCIdeal.main_arg6)
      ∧ r.2.mem ((c.tc : Thread Cert.FfnCIdeal.nD Cert.FfnCIdeal.τ).loc Cert.FfnCIdeal.main_arg7) = m ((c.tc : Thread Cert.FfnCIdeal.nD Cert.FfnCIdeal.τ).loc Cert.FfnCIdeal.main_arg7)
      ∧ r.2.mem ((c.tc : Thread Cert.FfnCIdeal.nD Cert.FfnCIdeal.τ).loc Cert.FfnCIdeal.main_arg8) = m ((c.tc : Thread Cert.FfnCIdeal.nD Cert.FfnCIdeal.τ).loc Cert.FfnCIdeal.main_arg8))
      ∧ r.2.sem = fun _ => 0)

def quiescent_FfnCRefIdeal [hFfnCRefIdeal : Cert.FfnCRefIdeal.Facts] : Prop :=
  ∀ (m : (ℓ : Loc Cert.FfnCRefIdeal.nD Cert.FfnCRefIdeal.τ Cert.FfnCRefIdeal.sig) → Buf (Elt Ideal) ℓ) (g : Dev Cert.FfnCRefIdeal.nD → PrngReg), Pre_FfnCRefIdeal m →
    θ_run (Cert.FfnCRefIdeal.defs (F := Ideal)) (onTc (τ := Cert.FfnCRefIdeal.τ) (Cert.FfnCRefIdeal.main (F := Ideal))) ⟨m, fun _ => 0, g⟩ (fun r => (∀ c : Dev Cert.FfnCRefIdeal.nD,
      r.2.mem ((c.tc : Thread Cert.FfnCRefIdeal.nD Cert.FfnCRefIdeal.τ).loc Cert.FfnCRefIdeal.main_arg0) = m ((c.tc : Thread Cert.FfnCRefIdeal.nD Cert.FfnCRefIdeal.τ).loc Cert.FfnCRefIdeal.main_arg0)
      ∧ r.2.mem ((c.tc : Thread Cert.FfnCRefIdeal.nD Cert.FfnCRefIdeal.τ).loc Cert.FfnCRefIdeal.main_arg1) = m ((c.tc : Thread Cert.FfnCRefIdeal.nD Cert.FfnCRefIdeal.τ).loc Cert.FfnCRefIdeal.main_arg1)
      ∧ r.2.mem ((c.tc : Thread Cert.FfnCRefIdeal.nD Cert.FfnCRefIdeal.τ).loc Cert.FfnCRefIdeal.main_arg2) = m ((c.tc : Thread Cert.FfnCRefIdeal.nD Cert.FfnCRefIdeal.τ).loc Cert.FfnCRefIdeal.main_arg2)
      ∧ r.2.mem ((c.tc : Thread Cert.FfnCRefIdeal.nD Cert.FfnCRefIdeal.τ).loc Cert.FfnCRefIdeal.main_arg3) = m ((c.tc : Thread Cert.FfnCRefIdeal.nD Cert.FfnCRefIdeal.τ).loc Cert.FfnCRefIdeal.main_arg3)
      ∧ r.2.mem ((c.tc : Thread Cert.FfnCRefIdeal.nD Cert.FfnCRefIdeal.τ).loc Cert.FfnCRefIdeal.main_arg4) = m ((c.tc : Thread Cert.FfnCRefIdeal.nD Cert.FfnCRefIdeal.τ).loc Cert.FfnCRefIdeal.main_arg4)
      ∧ r.2.mem ((c.tc : Thread Cert.FfnCRefIdeal.nD Cert.FfnCRefIdeal.τ).loc Cert.FfnCRefIdeal.main_arg5) = m ((c.tc : Thread Cert.FfnCRefIdeal.nD Cert.FfnCRefIdeal.τ).loc Cert.FfnCRefIdeal.main_arg5)
      ∧ r.2.mem ((c.tc : Thread Cert.FfnCRefIdeal.nD Cert.FfnCRefIdeal.τ).loc Cert.FfnCRefIdeal.main_arg6) = m ((c.tc : Thread Cert.FfnCRefIdeal.nD Cert.FfnCRefIdeal.τ).loc Cert.FfnCRefIdeal.main_arg6)
      ∧ r.2.mem ((c.tc : Thread Cert.FfnCRefIdeal.nD Cert.FfnCRefIdeal.τ).loc Cert.FfnCRefIdeal.main_arg7) = m ((c.tc : Thread Cert.FfnCRefIdeal.nD Cert.FfnCRefIdeal.τ).loc Cert.FfnCRefIdeal.main_arg7)
      ∧ r.2.mem ((c.tc : Thread Cert.FfnCRefIdeal.nD Cert.FfnCRefIdeal.τ).loc Cert.FfnCRefIdeal.main_arg8) = m ((c.tc : Thread Cert.FfnCRefIdeal.nD Cert.FfnCRefIdeal.τ).loc Cert.FfnCRefIdeal.main_arg8))
      ∧ r.2.sem = fun _ => 0)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1))
      ∧ r.2.sem = fun _ => 0)

def quiescent_GqaIdeal_pre_finite [hGqaIdeal : Cert.GqaIdeal.Facts] [hPre_finite : Cert.Pre_finite.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_finite m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1))
      ∧ r.2.sem = fun _ => 0)

def quiescent_GqaRefIdeal_pre_finite [hGqaRefIdeal : Cert.GqaRefIdeal.Facts] [hPre_finite : Cert.Pre_finite.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_finite m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5)
      ∧ r.2.mem ((c.tc : Thread Cert.Diff.nD Cert.Diff.τ).loc Cert.Diff.main_arg6) = m ((c.tc : Thread Cert.Diff.nD Cert.Diff.τ).loc Cert.Diff.main_arg6))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6))
      ∧ r.2.sem = fun _ => 0)

def quiescent_DiffIdeal_pre_finite_diff [hDiffIdeal : Cert.DiffIdeal.Facts] [hPre_finite_diff : Cert.Pre_finite_diff.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite_diff m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6))
      ∧ r.2.sem = fun _ => 0)

def quiescent_DiffRefIdeal_pre_finite_diff [hDiffRefIdeal : Cert.DiffRefIdeal.Facts] [hPre_finite_diff : Cert.Pre_finite_diff.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite_diff m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6))
      ∧ r.2.sem = fun _ => 0)

def quiescent_CtxPre [hCtxPre : Cert.CtxPre.Facts] : Prop :=
  ∀ (m : (ℓ : Loc Cert.CtxPre.nD Cert.CtxPre.τ Cert.CtxPre.sig) → Buf (Elt Bits) ℓ) (g : Dev Cert.CtxPre.nD → PrngReg), Pre_CtxPre m →
    θ_run (Cert.CtxPre.defs (F := Bits)) (onTc (τ := Cert.CtxPre.τ) (Cert.CtxPre.main (F := Bits))) ⟨m, fun _ => 0, g⟩ (fun r => (∀ c : Dev Cert.CtxPre.nD,
      r.2.mem ((c.tc : Thread Cert.CtxPre.nD Cert.CtxPre.τ).loc Cert.CtxPre.main_arg0) = m ((c.tc : Thread Cert.CtxPre.nD Cert.CtxPre.τ).loc Cert.CtxPre.main_arg0)
      ∧ r.2.mem ((c.tc : Thread Cert.CtxPre.nD Cert.CtxPre.τ).loc Cert.CtxPre.main_arg1) = m ((c.tc : Thread Cert.CtxPre.nD Cert.CtxPre.τ).loc Cert.CtxPre.main_arg1)
      ∧ r.2.mem ((c.tc : Thread Cert.CtxPre.nD Cert.CtxPre.τ).loc Cert.CtxPre.main_arg2) = m ((c.tc : Thread Cert.CtxPre.nD Cert.CtxPre.τ).loc Cert.CtxPre.main_arg2)
      ∧ r.2.mem ((c.tc : Thread Cert.CtxPre.nD Cert.CtxPre.τ).loc Cert.CtxPre.main_arg3) = m ((c.tc : Thread Cert.CtxPre.nD Cert.CtxPre.τ).loc Cert.CtxPre.main_arg3)
      ∧ r.2.mem ((c.tc : Thread Cert.CtxPre.nD Cert.CtxPre.τ).loc Cert.CtxPre.main_arg4) = m ((c.tc : Thread Cert.CtxPre.nD Cert.CtxPre.τ).loc Cert.CtxPre.main_arg4)
      ∧ r.2.mem ((c.tc : Thread Cert.CtxPre.nD Cert.CtxPre.τ).loc Cert.CtxPre.main_arg5) = m ((c.tc : Thread Cert.CtxPre.nD Cert.CtxPre.τ).loc Cert.CtxPre.main_arg5)
      ∧ r.2.mem ((c.tc : Thread Cert.CtxPre.nD Cert.CtxPre.τ).loc Cert.CtxPre.main_arg6) = m ((c.tc : Thread Cert.CtxPre.nD Cert.CtxPre.τ).loc Cert.CtxPre.main_arg6))
      ∧ r.2.sem = fun _ => 0)

def quiescent_CtxPreIdeal [hCtxPreIdeal : Cert.CtxPreIdeal.Facts] : Prop :=
  ∀ (m : (ℓ : Loc Cert.CtxPreIdeal.nD Cert.CtxPreIdeal.τ Cert.CtxPreIdeal.sig) → Buf (Elt Ideal) ℓ) (g : Dev Cert.CtxPreIdeal.nD → PrngReg), Pre_CtxPreIdeal m →
    θ_run (Cert.CtxPreIdeal.defs (F := Ideal)) (onTc (τ := Cert.CtxPreIdeal.τ) (Cert.CtxPreIdeal.main (F := Ideal))) ⟨m, fun _ => 0, g⟩ (fun r => (∀ c : Dev Cert.CtxPreIdeal.nD,
      r.2.mem ((c.tc : Thread Cert.CtxPreIdeal.nD Cert.CtxPreIdeal.τ).loc Cert.CtxPreIdeal.main_arg0) = m ((c.tc : Thread Cert.CtxPreIdeal.nD Cert.CtxPreIdeal.τ).loc Cert.CtxPreIdeal.main_arg0)
      ∧ r.2.mem ((c.tc : Thread Cert.CtxPreIdeal.nD Cert.CtxPreIdeal.τ).loc Cert.CtxPreIdeal.main_arg1) = m ((c.tc : Thread Cert.CtxPreIdeal.nD Cert.CtxPreIdeal.τ).loc Cert.CtxPreIdeal.main_arg1)
      ∧ r.2.mem ((c.tc : Thread Cert.CtxPreIdeal.nD Cert.CtxPreIdeal.τ).loc Cert.CtxPreIdeal.main_arg2) = m ((c.tc : Thread Cert.CtxPreIdeal.nD Cert.CtxPreIdeal.τ).loc Cert.CtxPreIdeal.main_arg2)
      ∧ r.2.mem ((c.tc : Thread Cert.CtxPreIdeal.nD Cert.CtxPreIdeal.τ).loc Cert.CtxPreIdeal.main_arg3) = m ((c.tc : Thread Cert.CtxPreIdeal.nD Cert.CtxPreIdeal.τ).loc Cert.CtxPreIdeal.main_arg3)
      ∧ r.2.mem ((c.tc : Thread Cert.CtxPreIdeal.nD Cert.CtxPreIdeal.τ).loc Cert.CtxPreIdeal.main_arg4) = m ((c.tc : Thread Cert.CtxPreIdeal.nD Cert.CtxPreIdeal.τ).loc Cert.CtxPreIdeal.main_arg4)
      ∧ r.2.mem ((c.tc : Thread Cert.CtxPreIdeal.nD Cert.CtxPreIdeal.τ).loc Cert.CtxPreIdeal.main_arg5) = m ((c.tc : Thread Cert.CtxPreIdeal.nD Cert.CtxPreIdeal.τ).loc Cert.CtxPreIdeal.main_arg5)
      ∧ r.2.mem ((c.tc : Thread Cert.CtxPreIdeal.nD Cert.CtxPreIdeal.τ).loc Cert.CtxPreIdeal.main_arg6) = m ((c.tc : Thread Cert.CtxPreIdeal.nD Cert.CtxPreIdeal.τ).loc Cert.CtxPreIdeal.main_arg6))
      ∧ r.2.sem = fun _ => 0)

def quiescent_CtxPreRefIdeal [hCtxPreRefIdeal : Cert.CtxPreRefIdeal.Facts] : Prop :=
  ∀ (m : (ℓ : Loc Cert.CtxPreRefIdeal.nD Cert.CtxPreRefIdeal.τ Cert.CtxPreRefIdeal.sig) → Buf (Elt Ideal) ℓ) (g : Dev Cert.CtxPreRefIdeal.nD → PrngReg), Pre_CtxPreRefIdeal m →
    θ_run (Cert.CtxPreRefIdeal.defs (F := Ideal)) (onTc (τ := Cert.CtxPreRefIdeal.τ) (Cert.CtxPreRefIdeal.main (F := Ideal))) ⟨m, fun _ => 0, g⟩ (fun r => (∀ c : Dev Cert.CtxPreRefIdeal.nD,
      r.2.mem ((c.tc : Thread Cert.CtxPreRefIdeal.nD Cert.CtxPreRefIdeal.τ).loc Cert.CtxPreRefIdeal.main_arg0) = m ((c.tc : Thread Cert.CtxPreRefIdeal.nD Cert.CtxPreRefIdeal.τ).loc Cert.CtxPreRefIdeal.main_arg0)
      ∧ r.2.mem ((c.tc : Thread Cert.CtxPreRefIdeal.nD Cert.CtxPreRefIdeal.τ).loc Cert.CtxPreRefIdeal.main_arg1) = m ((c.tc : Thread Cert.CtxPreRefIdeal.nD Cert.CtxPreRefIdeal.τ).loc Cert.CtxPreRefIdeal.main_arg1)
      ∧ r.2.mem ((c.tc : Thread Cert.CtxPreRefIdeal.nD Cert.CtxPreRefIdeal.τ).loc Cert.CtxPreRefIdeal.main_arg2) = m ((c.tc : Thread Cert.CtxPreRefIdeal.nD Cert.CtxPreRefIdeal.τ).loc Cert.CtxPreRefIdeal.main_arg2)
      ∧ r.2.mem ((c.tc : Thread Cert.CtxPreRefIdeal.nD Cert.CtxPreRefIdeal.τ).loc Cert.CtxPreRefIdeal.main_arg3) = m ((c.tc : Thread Cert.CtxPreRefIdeal.nD Cert.CtxPreRefIdeal.τ).loc Cert.CtxPreRefIdeal.main_arg3)
      ∧ r.2.mem ((c.tc : Thread Cert.CtxPreRefIdeal.nD Cert.CtxPreRefIdeal.τ).loc Cert.CtxPreRefIdeal.main_arg4) = m ((c.tc : Thread Cert.CtxPreRefIdeal.nD Cert.CtxPreRefIdeal.τ).loc Cert.CtxPreRefIdeal.main_arg4)
      ∧ r.2.mem ((c.tc : Thread Cert.CtxPreRefIdeal.nD Cert.CtxPreRefIdeal.τ).loc Cert.CtxPreRefIdeal.main_arg5) = m ((c.tc : Thread Cert.CtxPreRefIdeal.nD Cert.CtxPreRefIdeal.τ).loc Cert.CtxPreRefIdeal.main_arg5)
      ∧ r.2.mem ((c.tc : Thread Cert.CtxPreRefIdeal.nD Cert.CtxPreRefIdeal.τ).loc Cert.CtxPreRefIdeal.main_arg6) = m ((c.tc : Thread Cert.CtxPreRefIdeal.nD Cert.CtxPreRefIdeal.τ).loc Cert.CtxPreRefIdeal.main_arg6))
      ∧ r.2.sem = fun _ => 0)

def quiescent_CtxAb [hCtxAb : Cert.CtxAb.Facts] : Prop :=
  ∀ (m : (ℓ : Loc Cert.CtxAb.nD Cert.CtxAb.τ Cert.CtxAb.sig) → Buf (Elt Bits) ℓ) (g : Dev Cert.CtxAb.nD → PrngReg), Pre_CtxAb m →
    θ_run (Cert.CtxAb.defs (F := Bits)) (onTc (τ := Cert.CtxAb.τ) (Cert.CtxAb.main (F := Bits))) ⟨m, fun _ => 0, g⟩ (fun r => (∀ c : Dev Cert.CtxAb.nD,
      r.2.mem ((c.tc : Thread Cert.CtxAb.nD Cert.CtxAb.τ).loc Cert.CtxAb.main_arg0) = m ((c.tc : Thread Cert.CtxAb.nD Cert.CtxAb.τ).loc Cert.CtxAb.main_arg0)
      ∧ r.2.mem ((c.tc : Thread Cert.CtxAb.nD Cert.CtxAb.τ).loc Cert.CtxAb.main_arg1) = m ((c.tc : Thread Cert.CtxAb.nD Cert.CtxAb.τ).loc Cert.CtxAb.main_arg1)
      ∧ r.2.mem ((c.tc : Thread Cert.CtxAb.nD Cert.CtxAb.τ).loc Cert.CtxAb.main_arg2) = m ((c.tc : Thread Cert.CtxAb.nD Cert.CtxAb.τ).loc Cert.CtxAb.main_arg2)
      ∧ r.2.mem ((c.tc : Thread Cert.CtxAb.nD Cert.CtxAb.τ).loc Cert.CtxAb.main_arg3) = m ((c.tc : Thread Cert.CtxAb.nD Cert.CtxAb.τ).loc Cert.CtxAb.main_arg3)
      ∧ r.2.mem ((c.tc : Thread Cert.CtxAb.nD Cert.CtxAb.τ).loc Cert.CtxAb.main_arg4) = m ((c.tc : Thread Cert.CtxAb.nD Cert.CtxAb.τ).loc Cert.CtxAb.main_arg4)
      ∧ r.2.mem ((c.tc : Thread Cert.CtxAb.nD Cert.CtxAb.τ).loc Cert.CtxAb.main_arg5) = m ((c.tc : Thread Cert.CtxAb.nD Cert.CtxAb.τ).loc Cert.CtxAb.main_arg5)
      ∧ r.2.mem ((c.tc : Thread Cert.CtxAb.nD Cert.CtxAb.τ).loc Cert.CtxAb.main_arg6) = m ((c.tc : Thread Cert.CtxAb.nD Cert.CtxAb.τ).loc Cert.CtxAb.main_arg6)
      ∧ r.2.mem ((c.tc : Thread Cert.CtxAb.nD Cert.CtxAb.τ).loc Cert.CtxAb.main_arg7) = m ((c.tc : Thread Cert.CtxAb.nD Cert.CtxAb.τ).loc Cert.CtxAb.main_arg7)
      ∧ r.2.mem ((c.tc : Thread Cert.CtxAb.nD Cert.CtxAb.τ).loc Cert.CtxAb.main_arg8) = m ((c.tc : Thread Cert.CtxAb.nD Cert.CtxAb.τ).loc Cert.CtxAb.main_arg8)
      ∧ r.2.mem ((c.tc : Thread Cert.CtxAb.nD Cert.CtxAb.τ).loc Cert.CtxAb.main_arg9) = m ((c.tc : Thread Cert.CtxAb.nD Cert.CtxAb.τ).loc Cert.CtxAb.main_arg9))
      ∧ r.2.sem = fun _ => 0)

def quiescent_CtxAbIdeal [hCtxAbIdeal : Cert.CtxAbIdeal.Facts] : Prop :=
  ∀ (m : (ℓ : Loc Cert.CtxAbIdeal.nD Cert.CtxAbIdeal.τ Cert.CtxAbIdeal.sig) → Buf (Elt Ideal) ℓ) (g : Dev Cert.CtxAbIdeal.nD → PrngReg), Pre_CtxAbIdeal m →
    θ_run (Cert.CtxAbIdeal.defs (F := Ideal)) (onTc (τ := Cert.CtxAbIdeal.τ) (Cert.CtxAbIdeal.main (F := Ideal))) ⟨m, fun _ => 0, g⟩ (fun r => (∀ c : Dev Cert.CtxAbIdeal.nD,
      r.2.mem ((c.tc : Thread Cert.CtxAbIdeal.nD Cert.CtxAbIdeal.τ).loc Cert.CtxAbIdeal.main_arg0) = m ((c.tc : Thread Cert.CtxAbIdeal.nD Cert.CtxAbIdeal.τ).loc Cert.CtxAbIdeal.main_arg0)
      ∧ r.2.mem ((c.tc : Thread Cert.CtxAbIdeal.nD Cert.CtxAbIdeal.τ).loc Cert.CtxAbIdeal.main_arg1) = m ((c.tc : Thread Cert.CtxAbIdeal.nD Cert.CtxAbIdeal.τ).loc Cert.CtxAbIdeal.main_arg1)
      ∧ r.2.mem ((c.tc : Thread Cert.CtxAbIdeal.nD Cert.CtxAbIdeal.τ).loc Cert.CtxAbIdeal.main_arg2) = m ((c.tc : Thread Cert.CtxAbIdeal.nD Cert.CtxAbIdeal.τ).loc Cert.CtxAbIdeal.main_arg2)
      ∧ r.2.mem ((c.tc : Thread Cert.CtxAbIdeal.nD Cert.CtxAbIdeal.τ).loc Cert.CtxAbIdeal.main_arg3) = m ((c.tc : Thread Cert.CtxAbIdeal.nD Cert.CtxAbIdeal.τ).loc Cert.CtxAbIdeal.main_arg3)
      ∧ r.2.mem ((c.tc : Thread Cert.CtxAbIdeal.nD Cert.CtxAbIdeal.τ).loc Cert.CtxAbIdeal.main_arg4) = m ((c.tc : Thread Cert.CtxAbIdeal.nD Cert.CtxAbIdeal.τ).loc Cert.CtxAbIdeal.main_arg4)
      ∧ r.2.mem ((c.tc : Thread Cert.CtxAbIdeal.nD Cert.CtxAbIdeal.τ).loc Cert.CtxAbIdeal.main_arg5) = m ((c.tc : Thread Cert.CtxAbIdeal.nD Cert.CtxAbIdeal.τ).loc Cert.CtxAbIdeal.main_arg5)
      ∧ r.2.mem ((c.tc : Thread Cert.CtxAbIdeal.nD Cert.CtxAbIdeal.τ).loc Cert.CtxAbIdeal.main_arg6) = m ((c.tc : Thread Cert.CtxAbIdeal.nD Cert.CtxAbIdeal.τ).loc Cert.CtxAbIdeal.main_arg6)
      ∧ r.2.mem ((c.tc : Thread Cert.CtxAbIdeal.nD Cert.CtxAbIdeal.τ).loc Cert.CtxAbIdeal.main_arg7) = m ((c.tc : Thread Cert.CtxAbIdeal.nD Cert.CtxAbIdeal.τ).loc Cert.CtxAbIdeal.main_arg7)
      ∧ r.2.mem ((c.tc : Thread Cert.CtxAbIdeal.nD Cert.CtxAbIdeal.τ).loc Cert.CtxAbIdeal.main_arg8) = m ((c.tc : Thread Cert.CtxAbIdeal.nD Cert.CtxAbIdeal.τ).loc Cert.CtxAbIdeal.main_arg8)
      ∧ r.2.mem ((c.tc : Thread Cert.CtxAbIdeal.nD Cert.CtxAbIdeal.τ).loc Cert.CtxAbIdeal.main_arg9) = m ((c.tc : Thread Cert.CtxAbIdeal.nD Cert.CtxAbIdeal.τ).loc Cert.CtxAbIdeal.main_arg9))
      ∧ r.2.sem = fun _ => 0)

def quiescent_CtxAbRefIdeal [hCtxAbRefIdeal : Cert.CtxAbRefIdeal.Facts] : Prop :=
  ∀ (m : (ℓ : Loc Cert.CtxAbRefIdeal.nD Cert.CtxAbRefIdeal.τ Cert.CtxAbRefIdeal.sig) → Buf (Elt Ideal) ℓ) (g : Dev Cert.CtxAbRefIdeal.nD → PrngReg), Pre_CtxAbRefIdeal m →
    θ_run (Cert.CtxAbRefIdeal.defs (F := Ideal)) (onTc (τ := Cert.CtxAbRefIdeal.τ) (Cert.CtxAbRefIdeal.main (F := Ideal))) ⟨m, fun _ => 0, g⟩ (fun r => (∀ c : Dev Cert.CtxAbRefIdeal.nD,
      r.2.mem ((c.tc : Thread Cert.CtxAbRefIdeal.nD Cert.CtxAbRefIdeal.τ).loc Cert.CtxAbRefIdeal.main_arg0) = m ((c.tc : Thread Cert.CtxAbRefIdeal.nD Cert.CtxAbRefIdeal.τ).loc Cert.CtxAbRefIdeal.main_arg0)
      ∧ r.2.mem ((c.tc : Thread Cert.CtxAbRefIdeal.nD Cert.CtxAbRefIdeal.τ).loc Cert.CtxAbRefIdeal.main_arg1) = m ((c.tc : Thread Cert.CtxAbRefIdeal.nD Cert.CtxAbRefIdeal.τ).loc Cert.CtxAbRefIdeal.main_arg1)
      ∧ r.2.mem ((c.tc : Thread Cert.CtxAbRefIdeal.nD Cert.CtxAbRefIdeal.τ).loc Cert.CtxAbRefIdeal.main_arg2) = m ((c.tc : Thread Cert.CtxAbRefIdeal.nD Cert.CtxAbRefIdeal.τ).loc Cert.CtxAbRefIdeal.main_arg2)
      ∧ r.2.mem ((c.tc : Thread Cert.CtxAbRefIdeal.nD Cert.CtxAbRefIdeal.τ).loc Cert.CtxAbRefIdeal.main_arg3) = m ((c.tc : Thread Cert.CtxAbRefIdeal.nD Cert.CtxAbRefIdeal.τ).loc Cert.CtxAbRefIdeal.main_arg3)
      ∧ r.2.mem ((c.tc : Thread Cert.CtxAbRefIdeal.nD Cert.CtxAbRefIdeal.τ).loc Cert.CtxAbRefIdeal.main_arg4) = m ((c.tc : Thread Cert.CtxAbRefIdeal.nD Cert.CtxAbRefIdeal.τ).loc Cert.CtxAbRefIdeal.main_arg4)
      ∧ r.2.mem ((c.tc : Thread Cert.CtxAbRefIdeal.nD Cert.CtxAbRefIdeal.τ).loc Cert.CtxAbRefIdeal.main_arg5) = m ((c.tc : Thread Cert.CtxAbRefIdeal.nD Cert.CtxAbRefIdeal.τ).loc Cert.CtxAbRefIdeal.main_arg5)
      ∧ r.2.mem ((c.tc : Thread Cert.CtxAbRefIdeal.nD Cert.CtxAbRefIdeal.τ).loc Cert.CtxAbRefIdeal.main_arg6) = m ((c.tc : Thread Cert.CtxAbRefIdeal.nD Cert.CtxAbRefIdeal.τ).loc Cert.CtxAbRefIdeal.main_arg6)
      ∧ r.2.mem ((c.tc : Thread Cert.CtxAbRefIdeal.nD Cert.CtxAbRefIdeal.τ).loc Cert.CtxAbRefIdeal.main_arg7) = m ((c.tc : Thread Cert.CtxAbRefIdeal.nD Cert.CtxAbRefIdeal.τ).loc Cert.CtxAbRefIdeal.main_arg7)
      ∧ r.2.mem ((c.tc : Thread Cert.CtxAbRefIdeal.nD Cert.CtxAbRefIdeal.τ).loc Cert.CtxAbRefIdeal.main_arg8) = m ((c.tc : Thread Cert.CtxAbRefIdeal.nD Cert.CtxAbRefIdeal.τ).loc Cert.CtxAbRefIdeal.main_arg8)
      ∧ r.2.mem ((c.tc : Thread Cert.CtxAbRefIdeal.nD Cert.CtxAbRefIdeal.τ).loc Cert.CtxAbRefIdeal.main_arg9) = m ((c.tc : Thread Cert.CtxAbRefIdeal.nD Cert.CtxAbRefIdeal.τ).loc Cert.CtxAbRefIdeal.main_arg9))
      ∧ r.2.sem = fun _ => 0)

def quiescent_ProjC [hProjC : Cert.ProjC.Facts] : Prop :=
  ∀ (m : (ℓ : Loc Cert.ProjC.nD Cert.ProjC.τ Cert.ProjC.sig) → Buf (Elt Bits) ℓ) (g : Dev Cert.ProjC.nD → PrngReg), Pre_ProjC m →
    θ_run (Cert.ProjC.defs (F := Bits)) (onTc (τ := Cert.ProjC.τ) (Cert.ProjC.main (F := Bits))) ⟨m, fun _ => 0, g⟩ (fun r => (∀ c : Dev Cert.ProjC.nD,
      r.2.mem ((c.tc : Thread Cert.ProjC.nD Cert.ProjC.τ).loc Cert.ProjC.main_arg0) = m ((c.tc : Thread Cert.ProjC.nD Cert.ProjC.τ).loc Cert.ProjC.main_arg0)
      ∧ r.2.mem ((c.tc : Thread Cert.ProjC.nD Cert.ProjC.τ).loc Cert.ProjC.main_arg1) = m ((c.tc : Thread Cert.ProjC.nD Cert.ProjC.τ).loc Cert.ProjC.main_arg1)
      ∧ r.2.mem ((c.tc : Thread Cert.ProjC.nD Cert.ProjC.τ).loc Cert.ProjC.main_arg2) = m ((c.tc : Thread Cert.ProjC.nD Cert.ProjC.τ).loc Cert.ProjC.main_arg2)
      ∧ r.2.mem ((c.tc : Thread Cert.ProjC.nD Cert.ProjC.τ).loc Cert.ProjC.main_arg3) = m ((c.tc : Thread Cert.ProjC.nD Cert.ProjC.τ).loc Cert.ProjC.main_arg3)
      ∧ r.2.mem ((c.tc : Thread Cert.ProjC.nD Cert.ProjC.τ).loc Cert.ProjC.main_arg4) = m ((c.tc : Thread Cert.ProjC.nD Cert.ProjC.τ).loc Cert.ProjC.main_arg4)
      ∧ r.2.mem ((c.tc : Thread Cert.ProjC.nD Cert.ProjC.τ).loc Cert.ProjC.main_arg5) = m ((c.tc : Thread Cert.ProjC.nD Cert.ProjC.τ).loc Cert.ProjC.main_arg5))
      ∧ r.2.sem = fun _ => 0)

def quiescent_ProjCIdeal [hProjCIdeal : Cert.ProjCIdeal.Facts] : Prop :=
  ∀ (m : (ℓ : Loc Cert.ProjCIdeal.nD Cert.ProjCIdeal.τ Cert.ProjCIdeal.sig) → Buf (Elt Ideal) ℓ) (g : Dev Cert.ProjCIdeal.nD → PrngReg), Pre_ProjCIdeal m →
    θ_run (Cert.ProjCIdeal.defs (F := Ideal)) (onTc (τ := Cert.ProjCIdeal.τ) (Cert.ProjCIdeal.main (F := Ideal))) ⟨m, fun _ => 0, g⟩ (fun r => (∀ c : Dev Cert.ProjCIdeal.nD,
      r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
      ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1)
      ∧ r.2.mem ((c.tc : Thread Cert.ProjCIdeal.nD Cert.ProjCIdeal.τ).loc Cert.ProjCIdeal.main_arg2) = m ((c.tc : Thread Cert.ProjCIdeal.nD Cert.ProjCIdeal.τ).loc Cert.ProjCIdeal.main_arg2)
      ∧ r.2.mem ((c.tc : Thread Cert.ProjCIdeal.nD Cert.ProjCIdeal.τ).loc Cert.ProjCIdeal.main_arg3) = m ((c.tc : Thread Cert.ProjCIdeal.nD Cert.ProjCIdeal.τ).loc Cert.ProjCIdeal.main_arg3)
      ∧ r.2.mem ((c.tc : Thread Cert.ProjCIdeal.nD Cert.ProjCIdeal.τ).loc Cert.ProjCIdeal.main_arg4) = m ((c.tc : Thread Cert.ProjCIdeal.nD Cert.ProjCIdeal.τ).loc Cert.ProjCIdeal.main_arg4)
      ∧ r.2.mem ((c.tc : Thread Cert.ProjCIdeal.nD Cert.ProjCIdeal.τ).loc Cert.ProjCIdeal.main_arg5) = m ((c.tc : Thread Cert.ProjCIdeal.nD Cert.ProjCIdeal.τ).loc Cert.ProjCIdeal.main_arg5))
      ∧ r.2.sem = fun _ => 0)

def quiescent_ProjCRefIdeal [hProjCRefIdeal : Cert.ProjCRefIdeal.Facts] : Prop :=
  ∀ (m : (ℓ : Loc Cert.ProjCRefIdeal.nD Cert.ProjCRefIdeal.τ Cert.ProjCRefIdeal.sig) → Buf (Elt Ideal) ℓ) (g : Dev Cert.ProjCRefIdeal.nD → PrngReg), Pre_ProjCRefIdeal m →
    θ_run (Cert.ProjCRefIdeal.defs (F := Ideal)) (onTc (τ := Cert.ProjCRefIdeal.τ) (Cert.ProjCRefIdeal.main (F := Ideal))) ⟨m, fun _ => 0, g⟩ (fun r => (∀ c : Dev Cert.ProjCRefIdeal.nD,
      r.2.mem ((c.tc : Thread Cert.ProjCRefIdeal.nD Cert.ProjCRefIdeal.τ).loc Cert.ProjCRefIdeal.main_arg0) = m ((c.tc : Thread Cert.ProjCRefIdeal.nD Cert.ProjCRefIdeal.τ).loc Cert.ProjCRefIdeal.main_arg0)
      ∧ r.2.mem ((c.tc : Thread Cert.ProjCRefIdeal.nD Cert.ProjCRefIdeal.τ).loc Cert.ProjCRefIdeal.main_arg1) = m ((c.tc : Thread Cert.ProjCRefIdeal.nD Cert.ProjCRefIdeal.τ).loc Cert.ProjCRefIdeal.main_arg1)
      ∧ r.2.mem ((c.tc : Thread Cert.ProjCRefIdeal.nD Cert.ProjCRefIdeal.τ).loc Cert.ProjCRefIdeal.main_arg2) = m ((c.tc : Thread Cert.ProjCRefIdeal.nD Cert.ProjCRefIdeal.τ).loc Cert.ProjCRefIdeal.main_arg2)
      ∧ r.2.mem ((c.tc : Thread Cert.ProjCRefIdeal.nD Cert.ProjCRefIdeal.τ).loc Cert.ProjCRefIdeal.main_arg3) = m ((c.tc : Thread Cert.ProjCRefIdeal.nD Cert.ProjCRefIdeal.τ).loc Cert.ProjCRefIdeal.main_arg3)
      ∧ r.2.mem ((c.tc : Thread Cert.ProjCRefIdeal.nD Cert.ProjCRefIdeal.τ).loc Cert.ProjCRefIdeal.main_arg4) = m ((c.tc : Thread Cert.ProjCRefIdeal.nD Cert.ProjCRefIdeal.τ).loc Cert.ProjCRefIdeal.main_arg4)
      ∧ r.2.mem ((c.tc : Thread Cert.ProjCRefIdeal.nD Cert.ProjCRefIdeal.τ).loc Cert.ProjCRefIdeal.main_arg5) = m ((c.tc : Thread Cert.ProjCRefIdeal.nD Cert.ProjCRefIdeal.τ).loc Cert.ProjCRefIdeal.main_arg5))
      ∧ r.2.sem = fun _ => 0)

def preserves_FfnPre_FfnPreIdeal : Prop :=
  True

def algebraic_FfnPreIdeal_FfnPreRefIdeal [hFfnPreIdeal : Cert.FfnPreIdeal.Facts] [hFfnPreRefIdeal : Cert.FfnPreRefIdeal.Facts] : Prop :=
  ∀ (m : (ℓ : Loc Cert.FfnPreIdeal.nD Cert.FfnPreIdeal.τ Cert.FfnPreIdeal.sig) → Buf (Elt Ideal) ℓ) (g : Dev Cert.FfnPreIdeal.nD → PrngReg)
    (m' : (ℓ : Loc Cert.FfnPreRefIdeal.nD Cert.FfnPreRefIdeal.τ Cert.FfnPreRefIdeal.sig) → Buf (Elt Ideal) ℓ) (g' : Dev Cert.FfnPreRefIdeal.nD → PrngReg), Pre_FfnPreIdeal m →
    (∀ c : Dev Cert.FfnPreIdeal.nD,
      m' ((c.tc : Thread Cert.FfnPreRefIdeal.nD Cert.FfnPreRefIdeal.τ).loc Cert.FfnPreRefIdeal.main_arg0) = m ((c.tc : Thread Cert.FfnPreIdeal.nD Cert.FfnPreIdeal.τ).loc Cert.FfnPreIdeal.main_arg0)
      ∧ m' ((c.tc : Thread Cert.FfnPreRefIdeal.nD Cert.FfnPreRefIdeal.τ).loc Cert.FfnPreRefIdeal.main_arg1) = m ((c.tc : Thread Cert.FfnPreIdeal.nD Cert.FfnPreIdeal.τ).loc Cert.FfnPreIdeal.main_arg1)
      ∧ m' ((c.tc : Thread Cert.FfnPreRefIdeal.nD Cert.FfnPreRefIdeal.τ).loc Cert.FfnPreRefIdeal.main_arg2) = m ((c.tc : Thread Cert.FfnPreIdeal.nD Cert.FfnPreIdeal.τ).loc Cert.FfnPreIdeal.main_arg2)
      ∧ m' ((c.tc : Thread Cert.FfnPreRefIdeal.nD Cert.FfnPreRefIdeal.τ).loc Cert.FfnPreRefIdeal.main_arg3) = m ((c.tc : Thread Cert.FfnPreIdeal.nD Cert.FfnPreIdeal.τ).loc Cert.FfnPreIdeal.main_arg3)
      ∧ m' ((c.tc : Thread Cert.FfnPreRefIdeal.nD Cert.FfnPreRefIdeal.τ).loc Cert.FfnPreRefIdeal.main_arg4) = m ((c.tc : Thread Cert.FfnPreIdeal.nD Cert.FfnPreIdeal.τ).loc Cert.FfnPreIdeal.main_arg4)
      ∧ m' ((c.tc : Thread Cert.FfnPreRefIdeal.nD Cert.FfnPreRefIdeal.τ).loc Cert.FfnPreRefIdeal.main_arg5) = m ((c.tc : Thread Cert.FfnPreIdeal.nD Cert.FfnPreIdeal.τ).loc Cert.FfnPreIdeal.main_arg5)
      ∧ m' ((c.tc : Thread Cert.FfnPreRefIdeal.nD Cert.FfnPreRefIdeal.τ).loc Cert.FfnPreRefIdeal.main_arg6) = m ((c.tc : Thread Cert.FfnPreIdeal.nD Cert.FfnPreIdeal.τ).loc Cert.FfnPreIdeal.main_arg6)) →
    ∃ (v0 : (c : Dev Cert.FfnPreIdeal.nD) → Buf (Elt Ideal) ((c.tc : Thread Cert.FfnPreIdeal.nD Cert.FfnPreIdeal.τ).loc Cert.FfnPreIdeal.main_v3)),
      θ_run (Cert.FfnPreIdeal.defs (F := Ideal)) (onTc (τ := Cert.FfnPreIdeal.τ) (Cert.FfnPreIdeal.main (F := Ideal))) ⟨m, fun _ => 0, g⟩ (fun r => ∀ c : Dev Cert.FfnPreIdeal.nD,
          r.2.mem ((c.tc : Thread Cert.FfnPreIdeal.nD Cert.FfnPreIdeal.τ).loc Cert.FfnPreIdeal.main_v3) = v0 c
          ∧ r.2.mem ((c.tc : Thread Cert.FfnPreIdeal.nD Cert.FfnPreIdeal.τ).loc Cert.FfnPreIdeal.main_arg0) = m ((c.tc : Thread Cert.FfnPreIdeal.nD Cert.FfnPreIdeal.τ).loc Cert.FfnPreIdeal.main_arg0)
          ∧ r.2.mem ((c.tc : Thread Cert.FfnPreIdeal.nD Cert.FfnPreIdeal.τ).loc Cert.FfnPreIdeal.main_arg1) = m ((c.tc : Thread Cert.FfnPreIdeal.nD Cert.FfnPreIdeal.τ).loc Cert.FfnPreIdeal.main_arg1)
          ∧ r.2.mem ((c.tc : Thread Cert.FfnPreIdeal.nD Cert.FfnPreIdeal.τ).loc Cert.FfnPreIdeal.main_arg2) = m ((c.tc : Thread Cert.FfnPreIdeal.nD Cert.FfnPreIdeal.τ).loc Cert.FfnPreIdeal.main_arg2)
          ∧ r.2.mem ((c.tc : Thread Cert.FfnPreIdeal.nD Cert.FfnPreIdeal.τ).loc Cert.FfnPreIdeal.main_arg3) = m ((c.tc : Thread Cert.FfnPreIdeal.nD Cert.FfnPreIdeal.τ).loc Cert.FfnPreIdeal.main_arg3)
          ∧ r.2.mem ((c.tc : Thread Cert.FfnPreIdeal.nD Cert.FfnPreIdeal.τ).loc Cert.FfnPreIdeal.main_arg4) = m ((c.tc : Thread Cert.FfnPreIdeal.nD Cert.FfnPreIdeal.τ).loc Cert.FfnPreIdeal.main_arg4)
          ∧ r.2.mem ((c.tc : Thread Cert.FfnPreIdeal.nD Cert.FfnPreIdeal.τ).loc Cert.FfnPreIdeal.main_arg5) = m ((c.tc : Thread Cert.FfnPreIdeal.nD Cert.FfnPreIdeal.τ).loc Cert.FfnPreIdeal.main_arg5)
          ∧ r.2.mem ((c.tc : Thread Cert.FfnPreIdeal.nD Cert.FfnPreIdeal.τ).loc Cert.FfnPreIdeal.main_arg6) = m ((c.tc : Thread Cert.FfnPreIdeal.nD Cert.FfnPreIdeal.τ).loc Cert.FfnPreIdeal.main_arg6))
      ∧ θ_run (Cert.FfnPreRefIdeal.defs (F := Ideal)) (onTc (τ := Cert.FfnPreRefIdeal.τ) (Cert.FfnPreRefIdeal.main (F := Ideal))) ⟨m', fun _ => 0, g'⟩ (fun r => ∀ c : Dev Cert.FfnPreRefIdeal.nD,
          r.2.mem ((c.tc : Thread Cert.FfnPreRefIdeal.nD Cert.FfnPreRefIdeal.τ).loc Cert.FfnPreRefIdeal.main_v52) = v0 c
          ∧ r.2.mem ((c.tc : Thread Cert.FfnPreRefIdeal.nD Cert.FfnPreRefIdeal.τ).loc Cert.FfnPreRefIdeal.main_arg0) = m' ((c.tc : Thread Cert.FfnPreRefIdeal.nD Cert.FfnPreRefIdeal.τ).loc Cert.FfnPreRefIdeal.main_arg0)
          ∧ r.2.mem ((c.tc : Thread Cert.FfnPreRefIdeal.nD Cert.FfnPreRefIdeal.τ).loc Cert.FfnPreRefIdeal.main_arg1) = m' ((c.tc : Thread Cert.FfnPreRefIdeal.nD Cert.FfnPreRefIdeal.τ).loc Cert.FfnPreRefIdeal.main_arg1)
          ∧ r.2.mem ((c.tc : Thread Cert.FfnPreRefIdeal.nD Cert.FfnPreRefIdeal.τ).loc Cert.FfnPreRefIdeal.main_arg2) = m' ((c.tc : Thread Cert.FfnPreRefIdeal.nD Cert.FfnPreRefIdeal.τ).loc Cert.FfnPreRefIdeal.main_arg2)
          ∧ r.2.mem ((c.tc : Thread Cert.FfnPreRefIdeal.nD Cert.FfnPreRefIdeal.τ).loc Cert.FfnPreRefIdeal.main_arg3) = m' ((c.tc : Thread Cert.FfnPreRefIdeal.nD Cert.FfnPreRefIdeal.τ).loc Cert.FfnPreRefIdeal.main_arg3)
          ∧ r.2.mem ((c.tc : Thread Cert.FfnPreRefIdeal.nD Cert.FfnPreRefIdeal.τ).loc Cert.FfnPreRefIdeal.main_arg4) = m' ((c.tc : Thread Cert.FfnPreRefIdeal.nD Cert.FfnPreRefIdeal.τ).loc Cert.FfnPreRefIdeal.main_arg4)
          ∧ r.2.mem ((c.tc : Thread Cert.FfnPreRefIdeal.nD Cert.FfnPreRefIdeal.τ).loc Cert.FfnPreRefIdeal.main_arg5) = m' ((c.tc : Thread Cert.FfnPreRefIdeal.nD Cert.FfnPreRefIdeal.τ).loc Cert.FfnPreRefIdeal.main_arg5)
          ∧ r.2.mem ((c.tc : Thread Cert.FfnPreRefIdeal.nD Cert.FfnPreRefIdeal.τ).loc Cert.FfnPreRefIdeal.main_arg6) = m' ((c.tc : Thread Cert.FfnPreRefIdeal.nD Cert.FfnPreRefIdeal.τ).loc Cert.FfnPreRefIdeal.main_arg6))

def preserves_FfnAb_FfnAbIdeal : Prop :=
  True

def algebraic_FfnAbIdeal_FfnAbRefIdeal [hFfnAbIdeal : Cert.FfnAbIdeal.Facts] [hFfnAbRefIdeal : Cert.FfnAbRefIdeal.Facts] : Prop :=
  ∀ (m : (ℓ : Loc Cert.FfnAbIdeal.nD Cert.FfnAbIdeal.τ Cert.FfnAbIdeal.sig) → Buf (Elt Ideal) ℓ) (g : Dev Cert.FfnAbIdeal.nD → PrngReg)
    (m' : (ℓ : Loc Cert.FfnAbRefIdeal.nD Cert.FfnAbRefIdeal.τ Cert.FfnAbRefIdeal.sig) → Buf (Elt Ideal) ℓ) (g' : Dev Cert.FfnAbRefIdeal.nD → PrngReg), Pre_FfnAbIdeal m →
    (∀ c : Dev Cert.FfnAbIdeal.nD,
      m' ((c.tc : Thread Cert.FfnAbRefIdeal.nD Cert.FfnAbRefIdeal.τ).loc Cert.FfnAbRefIdeal.main_arg0) = m ((c.tc : Thread Cert.FfnAbIdeal.nD Cert.FfnAbIdeal.τ).loc Cert.FfnAbIdeal.main_arg0)
      ∧ m' ((c.tc : Thread Cert.FfnAbRefIdeal.nD Cert.FfnAbRefIdeal.τ).loc Cert.FfnAbRefIdeal.main_arg1) = m ((c.tc : Thread Cert.FfnAbIdeal.nD Cert.FfnAbIdeal.τ).loc Cert.FfnAbIdeal.main_arg1)
      ∧ m' ((c.tc : Thread Cert.FfnAbRefIdeal.nD Cert.FfnAbRefIdeal.τ).loc Cert.FfnAbRefIdeal.main_arg2) = m ((c.tc : Thread Cert.FfnAbIdeal.nD Cert.FfnAbIdeal.τ).loc Cert.FfnAbIdeal.main_arg2)
      ∧ m' ((c.tc : Thread Cert.FfnAbRefIdeal.nD Cert.FfnAbRefIdeal.τ).loc Cert.FfnAbRefIdeal.main_arg3) = m ((c.tc : Thread Cert.FfnAbIdeal.nD Cert.FfnAbIdeal.τ).loc Cert.FfnAbIdeal.main_arg3)
      ∧ m' ((c.tc : Thread Cert.FfnAbRefIdeal.nD Cert.FfnAbRefIdeal.τ).loc Cert.FfnAbRefIdeal.main_arg4) = m ((c.tc : Thread Cert.FfnAbIdeal.nD Cert.FfnAbIdeal.τ).loc Cert.FfnAbIdeal.main_arg4)
      ∧ m' ((c.tc : Thread Cert.FfnAbRefIdeal.nD Cert.FfnAbRefIdeal.τ).loc Cert.FfnAbRefIdeal.main_arg5) = m ((c.tc : Thread Cert.FfnAbIdeal.nD Cert.FfnAbIdeal.τ).loc Cert.FfnAbIdeal.main_arg5)
      ∧ m' ((c.tc : Thread Cert.FfnAbRefIdeal.nD Cert.FfnAbRefIdeal.τ).loc Cert.FfnAbRefIdeal.main_arg6) = m ((c.tc : Thread Cert.FfnAbIdeal.nD Cert.FfnAbIdeal.τ).loc Cert.FfnAbIdeal.main_arg6)
      ∧ m' ((c.tc : Thread Cert.FfnAbRefIdeal.nD Cert.FfnAbRefIdeal.τ).loc Cert.FfnAbRefIdeal.main_arg7) = m ((c.tc : Thread Cert.FfnAbIdeal.nD Cert.FfnAbIdeal.τ).loc Cert.FfnAbIdeal.main_arg7)
      ∧ m' ((c.tc : Thread Cert.FfnAbRefIdeal.nD Cert.FfnAbRefIdeal.τ).loc Cert.FfnAbRefIdeal.main_arg8) = m ((c.tc : Thread Cert.FfnAbIdeal.nD Cert.FfnAbIdeal.τ).loc Cert.FfnAbIdeal.main_arg8)
      ∧ m' ((c.tc : Thread Cert.FfnAbRefIdeal.nD Cert.FfnAbRefIdeal.τ).loc Cert.FfnAbRefIdeal.main_arg9) = m ((c.tc : Thread Cert.FfnAbIdeal.nD Cert.FfnAbIdeal.τ).loc Cert.FfnAbIdeal.main_arg9)) →
    ∃ (v0 : (c : Dev Cert.FfnAbIdeal.nD) → Buf (Elt Ideal) ((c.tc : Thread Cert.FfnAbIdeal.nD Cert.FfnAbIdeal.τ).loc Cert.FfnAbIdeal.main_v4)),
      θ_run (Cert.FfnAbIdeal.defs (F := Ideal)) (onTc (τ := Cert.FfnAbIdeal.τ) (Cert.FfnAbIdeal.main (F := Ideal))) ⟨m, fun _ => 0, g⟩ (fun r => ∀ c : Dev Cert.FfnAbIdeal.nD,
          r.2.mem ((c.tc : Thread Cert.FfnAbIdeal.nD Cert.FfnAbIdeal.τ).loc Cert.FfnAbIdeal.main_v4) = v0 c
          ∧ r.2.mem ((c.tc : Thread Cert.FfnAbIdeal.nD Cert.FfnAbIdeal.τ).loc Cert.FfnAbIdeal.main_arg0) = m ((c.tc : Thread Cert.FfnAbIdeal.nD Cert.FfnAbIdeal.τ).loc Cert.FfnAbIdeal.main_arg0)
          ∧ r.2.mem ((c.tc : Thread Cert.FfnAbIdeal.nD Cert.FfnAbIdeal.τ).loc Cert.FfnAbIdeal.main_arg1) = m ((c.tc : Thread Cert.FfnAbIdeal.nD Cert.FfnAbIdeal.τ).loc Cert.FfnAbIdeal.main_arg1)
          ∧ r.2.mem ((c.tc : Thread Cert.FfnAbIdeal.nD Cert.FfnAbIdeal.τ).loc Cert.FfnAbIdeal.main_arg2) = m ((c.tc : Thread Cert.FfnAbIdeal.nD Cert.FfnAbIdeal.τ).loc Cert.FfnAbIdeal.main_arg2)
          ∧ r.2.mem ((c.tc : Thread Cert.FfnAbIdeal.nD Cert.FfnAbIdeal.τ).loc Cert.FfnAbIdeal.main_arg3) = m ((c.tc : Thread Cert.FfnAbIdeal.nD Cert.FfnAbIdeal.τ).loc Cert.FfnAbIdeal.main_arg3)
          ∧ r.2.mem ((c.tc : Thread Cert.FfnAbIdeal.nD Cert.FfnAbIdeal.τ).loc Cert.FfnAbIdeal.main_arg4) = m ((c.tc : Thread Cert.FfnAbIdeal.nD Cert.FfnAbIdeal.τ).loc Cert.FfnAbIdeal.main_arg4)
          ∧ r.2.mem ((c.tc : Thread Cert.FfnAbIdeal.nD Cert.FfnAbIdeal.τ).loc Cert.FfnAbIdeal.main_arg5) = m ((c.tc : Thread Cert.FfnAbIdeal.nD Cert.FfnAbIdeal.τ).loc Cert.FfnAbIdeal.main_arg5)
          ∧ r.2.mem ((c.tc : Thread Cert.FfnAbIdeal.nD Cert.FfnAbIdeal.τ).loc Cert.FfnAbIdeal.main_arg6) = m ((c.tc : Thread Cert.FfnAbIdeal.nD Cert.FfnAbIdeal.τ).loc Cert.FfnAbIdeal.main_arg6)
          ∧ r.2.mem ((c.tc : Thread Cert.FfnAbIdeal.nD Cert.FfnAbIdeal.τ).loc Cert.FfnAbIdeal.main_arg7) = m ((c.tc : Thread Cert.FfnAbIdeal.nD Cert.FfnAbIdeal.τ).loc Cert.FfnAbIdeal.main_arg7)
          ∧ r.2.mem ((c.tc : Thread Cert.FfnAbIdeal.nD Cert.FfnAbIdeal.τ).loc Cert.FfnAbIdeal.main_arg8) = m ((c.tc : Thread Cert.FfnAbIdeal.nD Cert.FfnAbIdeal.τ).loc Cert.FfnAbIdeal.main_arg8)
          ∧ r.2.mem ((c.tc : Thread Cert.FfnAbIdeal.nD Cert.FfnAbIdeal.τ).loc Cert.FfnAbIdeal.main_arg9) = m ((c.tc : Thread Cert.FfnAbIdeal.nD Cert.FfnAbIdeal.τ).loc Cert.FfnAbIdeal.main_arg9))
      ∧ θ_run (Cert.FfnAbRefIdeal.defs (F := Ideal)) (onTc (τ := Cert.FfnAbRefIdeal.τ) (Cert.FfnAbRefIdeal.main (F := Ideal))) ⟨m', fun _ => 0, g'⟩ (fun r => ∀ c : Dev Cert.FfnAbRefIdeal.nD,
          r.2.mem ((c.tc : Thread Cert.FfnAbRefIdeal.nD Cert.FfnAbRefIdeal.τ).loc Cert.FfnAbRefIdeal.main_v74) = v0 c
          ∧ r.2.mem ((c.tc : Thread Cert.FfnAbRefIdeal.nD Cert.FfnAbRefIdeal.τ).loc Cert.FfnAbRefIdeal.main_arg0) = m' ((c.tc : Thread Cert.FfnAbRefIdeal.nD Cert.FfnAbRefIdeal.τ).loc Cert.FfnAbRefIdeal.main_arg0)
          ∧ r.2.mem ((c.tc : Thread Cert.FfnAbRefIdeal.nD Cert.FfnAbRefIdeal.τ).loc Cert.FfnAbRefIdeal.main_arg1) = m' ((c.tc : Thread Cert.FfnAbRefIdeal.nD Cert.FfnAbRefIdeal.τ).loc Cert.FfnAbRefIdeal.main_arg1)
          ∧ r.2.mem ((c.tc : Thread Cert.FfnAbRefIdeal.nD Cert.FfnAbRefIdeal.τ).loc Cert.FfnAbRefIdeal.main_arg2) = m' ((c.tc : Thread Cert.FfnAbRefIdeal.nD Cert.FfnAbRefIdeal.τ).loc Cert.FfnAbRefIdeal.main_arg2)
          ∧ r.2.mem ((c.tc : Thread Cert.FfnAbRefIdeal.nD Cert.FfnAbRefIdeal.τ).loc Cert.FfnAbRefIdeal.main_arg3) = m' ((c.tc : Thread Cert.FfnAbRefIdeal.nD Cert.FfnAbRefIdeal.τ).loc Cert.FfnAbRefIdeal.main_arg3)
          ∧ r.2.mem ((c.tc : Thread Cert.FfnAbRefIdeal.nD Cert.FfnAbRefIdeal.τ).loc Cert.FfnAbRefIdeal.main_arg4) = m' ((c.tc : Thread Cert.FfnAbRefIdeal.nD Cert.FfnAbRefIdeal.τ).loc Cert.FfnAbRefIdeal.main_arg4)
          ∧ r.2.mem ((c.tc : Thread Cert.FfnAbRefIdeal.nD Cert.FfnAbRefIdeal.τ).loc Cert.FfnAbRefIdeal.main_arg5) = m' ((c.tc : Thread Cert.FfnAbRefIdeal.nD Cert.FfnAbRefIdeal.τ).loc Cert.FfnAbRefIdeal.main_arg5)
          ∧ r.2.mem ((c.tc : Thread Cert.FfnAbRefIdeal.nD Cert.FfnAbRefIdeal.τ).loc Cert.FfnAbRefIdeal.main_arg6) = m' ((c.tc : Thread Cert.FfnAbRefIdeal.nD Cert.FfnAbRefIdeal.τ).loc Cert.FfnAbRefIdeal.main_arg6)
          ∧ r.2.mem ((c.tc : Thread Cert.FfnAbRefIdeal.nD Cert.FfnAbRefIdeal.τ).loc Cert.FfnAbRefIdeal.main_arg7) = m' ((c.tc : Thread Cert.FfnAbRefIdeal.nD Cert.FfnAbRefIdeal.τ).loc Cert.FfnAbRefIdeal.main_arg7)
          ∧ r.2.mem ((c.tc : Thread Cert.FfnAbRefIdeal.nD Cert.FfnAbRefIdeal.τ).loc Cert.FfnAbRefIdeal.main_arg8) = m' ((c.tc : Thread Cert.FfnAbRefIdeal.nD Cert.FfnAbRefIdeal.τ).loc Cert.FfnAbRefIdeal.main_arg8)
          ∧ r.2.mem ((c.tc : Thread Cert.FfnAbRefIdeal.nD Cert.FfnAbRefIdeal.τ).loc Cert.FfnAbRefIdeal.main_arg9) = m' ((c.tc : Thread Cert.FfnAbRefIdeal.nD Cert.FfnAbRefIdeal.τ).loc Cert.FfnAbRefIdeal.main_arg9))

def preserves_FfnC_FfnCIdeal : Prop :=
  True

def algebraic_FfnCIdeal_FfnCRefIdeal [hFfnCIdeal : Cert.FfnCIdeal.Facts] [hFfnCRefIdeal : Cert.FfnCRefIdeal.Facts] : Prop :=
  ∀ (m : (ℓ : Loc Cert.FfnCIdeal.nD Cert.FfnCIdeal.τ Cert.FfnCIdeal.sig) → Buf (Elt Ideal) ℓ) (g : Dev Cert.FfnCIdeal.nD → PrngReg)
    (m' : (ℓ : Loc Cert.FfnCRefIdeal.nD Cert.FfnCRefIdeal.τ Cert.FfnCRefIdeal.sig) → Buf (Elt Ideal) ℓ) (g' : Dev Cert.FfnCRefIdeal.nD → PrngReg), Pre_FfnCIdeal m →
    (∀ c : Dev Cert.FfnCIdeal.nD,
      m' ((c.tc : Thread Cert.FfnCRefIdeal.nD Cert.FfnCRefIdeal.τ).loc Cert.FfnCRefIdeal.main_arg0) = m ((c.tc : Thread Cert.FfnCIdeal.nD Cert.FfnCIdeal.τ).loc Cert.FfnCIdeal.main_arg0)
      ∧ m' ((c.tc : Thread Cert.FfnCRefIdeal.nD Cert.FfnCRefIdeal.τ).loc Cert.FfnCRefIdeal.main_arg1) = m ((c.tc : Thread Cert.FfnCIdeal.nD Cert.FfnCIdeal.τ).loc Cert.FfnCIdeal.main_arg1)
      ∧ m' ((c.tc : Thread Cert.FfnCRefIdeal.nD Cert.FfnCRefIdeal.τ).loc Cert.FfnCRefIdeal.main_arg2) = m ((c.tc : Thread Cert.FfnCIdeal.nD Cert.FfnCIdeal.τ).loc Cert.FfnCIdeal.main_arg2)
      ∧ m' ((c.tc : Thread Cert.FfnCRefIdeal.nD Cert.FfnCRefIdeal.τ).loc Cert.FfnCRefIdeal.main_arg3) = m ((c.tc : Thread Cert.FfnCIdeal.nD Cert.FfnCIdeal.τ).loc Cert.FfnCIdeal.main_arg3)
      ∧ m' ((c.tc : Thread Cert.FfnCRefIdeal.nD Cert.FfnCRefIdeal.τ).loc Cert.FfnCRefIdeal.main_arg4) = m ((c.tc : Thread Cert.FfnCIdeal.nD Cert.FfnCIdeal.τ).loc Cert.FfnCIdeal.main_arg4)
      ∧ m' ((c.tc : Thread Cert.FfnCRefIdeal.nD Cert.FfnCRefIdeal.τ).loc Cert.FfnCRefIdeal.main_arg5) = m ((c.tc : Thread Cert.FfnCIdeal.nD Cert.FfnCIdeal.τ).loc Cert.FfnCIdeal.main_arg5)
      ∧ m' ((c.tc : Thread Cert.FfnCRefIdeal.nD Cert.FfnCRefIdeal.τ).loc Cert.FfnCRefIdeal.main_arg6) = m ((c.tc : Thread Cert.FfnCIdeal.nD Cert.FfnCIdeal.τ).loc Cert.FfnCIdeal.main_arg6)
      ∧ m' ((c.tc : Thread Cert.FfnCRefIdeal.nD Cert.FfnCRefIdeal.τ).loc Cert.FfnCRefIdeal.main_arg7) = m ((c.tc : Thread Cert.FfnCIdeal.nD Cert.FfnCIdeal.τ).loc Cert.FfnCIdeal.main_arg7)
      ∧ m' ((c.tc : Thread Cert.FfnCRefIdeal.nD Cert.FfnCRefIdeal.τ).loc Cert.FfnCRefIdeal.main_arg8) = m ((c.tc : Thread Cert.FfnCIdeal.nD Cert.FfnCIdeal.τ).loc Cert.FfnCIdeal.main_arg8)) →
    ∃ (v0 : (c : Dev Cert.FfnCIdeal.nD) → Buf (Elt Ideal) ((c.tc : Thread Cert.FfnCIdeal.nD Cert.FfnCIdeal.τ).loc Cert.FfnCIdeal.main_v4)),
      θ_run (Cert.FfnCIdeal.defs (F := Ideal)) (onTc (τ := Cert.FfnCIdeal.τ) (Cert.FfnCIdeal.main (F := Ideal))) ⟨m, fun _ => 0, g⟩ (fun r => ∀ c : Dev Cert.FfnCIdeal.nD,
          r.2.mem ((c.tc : Thread Cert.FfnCIdeal.nD Cert.FfnCIdeal.τ).loc Cert.FfnCIdeal.main_v4) = v0 c
          ∧ r.2.mem ((c.tc : Thread Cert.FfnCIdeal.nD Cert.FfnCIdeal.τ).loc Cert.FfnCIdeal.main_arg0) = m ((c.tc : Thread Cert.FfnCIdeal.nD Cert.FfnCIdeal.τ).loc Cert.FfnCIdeal.main_arg0)
          ∧ r.2.mem ((c.tc : Thread Cert.FfnCIdeal.nD Cert.FfnCIdeal.τ).loc Cert.FfnCIdeal.main_arg1) = m ((c.tc : Thread Cert.FfnCIdeal.nD Cert.FfnCIdeal.τ).loc Cert.FfnCIdeal.main_arg1)
          ∧ r.2.mem ((c.tc : Thread Cert.FfnCIdeal.nD Cert.FfnCIdeal.τ).loc Cert.FfnCIdeal.main_arg2) = m ((c.tc : Thread Cert.FfnCIdeal.nD Cert.FfnCIdeal.τ).loc Cert.FfnCIdeal.main_arg2)
          ∧ r.2.mem ((c.tc : Thread Cert.FfnCIdeal.nD Cert.FfnCIdeal.τ).loc Cert.FfnCIdeal.main_arg3) = m ((c.tc : Thread Cert.FfnCIdeal.nD Cert.FfnCIdeal.τ).loc Cert.FfnCIdeal.main_arg3)
          ∧ r.2.mem ((c.tc : Thread Cert.FfnCIdeal.nD Cert.FfnCIdeal.τ).loc Cert.FfnCIdeal.main_arg4) = m ((c.tc : Thread Cert.FfnCIdeal.nD Cert.FfnCIdeal.τ).loc Cert.FfnCIdeal.main_arg4)
          ∧ r.2.mem ((c.tc : Thread Cert.FfnCIdeal.nD Cert.FfnCIdeal.τ).loc Cert.FfnCIdeal.main_arg5) = m ((c.tc : Thread Cert.FfnCIdeal.nD Cert.FfnCIdeal.τ).loc Cert.FfnCIdeal.main_arg5)
          ∧ r.2.mem ((c.tc : Thread Cert.FfnCIdeal.nD Cert.FfnCIdeal.τ).loc Cert.FfnCIdeal.main_arg6) = m ((c.tc : Thread Cert.FfnCIdeal.nD Cert.FfnCIdeal.τ).loc Cert.FfnCIdeal.main_arg6)
          ∧ r.2.mem ((c.tc : Thread Cert.FfnCIdeal.nD Cert.FfnCIdeal.τ).loc Cert.FfnCIdeal.main_arg7) = m ((c.tc : Thread Cert.FfnCIdeal.nD Cert.FfnCIdeal.τ).loc Cert.FfnCIdeal.main_arg7)
          ∧ r.2.mem ((c.tc : Thread Cert.FfnCIdeal.nD Cert.FfnCIdeal.τ).loc Cert.FfnCIdeal.main_arg8) = m ((c.tc : Thread Cert.FfnCIdeal.nD Cert.FfnCIdeal.τ).loc Cert.FfnCIdeal.main_arg8))
      ∧ θ_run (Cert.FfnCRefIdeal.defs (F := Ideal)) (onTc (τ := Cert.FfnCRefIdeal.τ) (Cert.FfnCRefIdeal.main (F := Ideal))) ⟨m', fun _ => 0, g'⟩ (fun r => ∀ c : Dev Cert.FfnCRefIdeal.nD,
          r.2.mem ((c.tc : Thread Cert.FfnCRefIdeal.nD Cert.FfnCRefIdeal.τ).loc Cert.FfnCRefIdeal.main_v72) = v0 c
          ∧ r.2.mem ((c.tc : Thread Cert.FfnCRefIdeal.nD Cert.FfnCRefIdeal.τ).loc Cert.FfnCRefIdeal.main_arg0) = m' ((c.tc : Thread Cert.FfnCRefIdeal.nD Cert.FfnCRefIdeal.τ).loc Cert.FfnCRefIdeal.main_arg0)
          ∧ r.2.mem ((c.tc : Thread Cert.FfnCRefIdeal.nD Cert.FfnCRefIdeal.τ).loc Cert.FfnCRefIdeal.main_arg1) = m' ((c.tc : Thread Cert.FfnCRefIdeal.nD Cert.FfnCRefIdeal.τ).loc Cert.FfnCRefIdeal.main_arg1)
          ∧ r.2.mem ((c.tc : Thread Cert.FfnCRefIdeal.nD Cert.FfnCRefIdeal.τ).loc Cert.FfnCRefIdeal.main_arg2) = m' ((c.tc : Thread Cert.FfnCRefIdeal.nD Cert.FfnCRefIdeal.τ).loc Cert.FfnCRefIdeal.main_arg2)
          ∧ r.2.mem ((c.tc : Thread Cert.FfnCRefIdeal.nD Cert.FfnCRefIdeal.τ).loc Cert.FfnCRefIdeal.main_arg3) = m' ((c.tc : Thread Cert.FfnCRefIdeal.nD Cert.FfnCRefIdeal.τ).loc Cert.FfnCRefIdeal.main_arg3)
          ∧ r.2.mem ((c.tc : Thread Cert.FfnCRefIdeal.nD Cert.FfnCRefIdeal.τ).loc Cert.FfnCRefIdeal.main_arg4) = m' ((c.tc : Thread Cert.FfnCRefIdeal.nD Cert.FfnCRefIdeal.τ).loc Cert.FfnCRefIdeal.main_arg4)
          ∧ r.2.mem ((c.tc : Thread Cert.FfnCRefIdeal.nD Cert.FfnCRefIdeal.τ).loc Cert.FfnCRefIdeal.main_arg5) = m' ((c.tc : Thread Cert.FfnCRefIdeal.nD Cert.FfnCRefIdeal.τ).loc Cert.FfnCRefIdeal.main_arg5)
          ∧ r.2.mem ((c.tc : Thread Cert.FfnCRefIdeal.nD Cert.FfnCRefIdeal.τ).loc Cert.FfnCRefIdeal.main_arg6) = m' ((c.tc : Thread Cert.FfnCRefIdeal.nD Cert.FfnCRefIdeal.τ).loc Cert.FfnCRefIdeal.main_arg6)
          ∧ r.2.mem ((c.tc : Thread Cert.FfnCRefIdeal.nD Cert.FfnCRefIdeal.τ).loc Cert.FfnCRefIdeal.main_arg7) = m' ((c.tc : Thread Cert.FfnCRefIdeal.nD Cert.FfnCRefIdeal.τ).loc Cert.FfnCRefIdeal.main_arg7)
          ∧ r.2.mem ((c.tc : Thread Cert.FfnCRefIdeal.nD Cert.FfnCRefIdeal.τ).loc Cert.FfnCRefIdeal.main_arg8) = m' ((c.tc : Thread Cert.FfnCRefIdeal.nD Cert.FfnCRefIdeal.τ).loc Cert.FfnCRefIdeal.main_arg8))

def preserves_Gqa_GqaIdeal : Prop :=
  True

def algebraic_GqaIdeal_GqaRefIdeal_pre_finite [hGqaIdeal : Cert.GqaIdeal.Facts] [hGqaRefIdeal : Cert.GqaRefIdeal.Facts] [hPre_finite : Cert.Pre_finite.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_finite m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)) →
    ∃ (v0 : (c : Dev Cert.GqaIdeal.nD) → Buf (Elt Ideal) ((c.tc : Thread Cert.GqaIdeal.nD Cert.GqaIdeal.τ).loc Cert.GqaIdeal.main_v0)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v0) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v36) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1))

def preserves_Diff_DiffIdeal : Prop :=
  True

def algebraic_DiffIdeal_DiffRefIdeal_pre_finite_diff [hDiffIdeal : Cert.DiffIdeal.Facts] [hDiffRefIdeal : Cert.DiffRefIdeal.Facts] [hPre_finite_diff : Cert.Pre_finite_diff.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_finite_diff m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)
      ∧ m' ((c.tc : Thread Cert.DiffRefIdeal.nD Cert.DiffRefIdeal.τ).loc Cert.DiffRefIdeal.main_arg5) = m ((c.tc : Thread Cert.DiffIdeal.nD Cert.DiffIdeal.τ).loc Cert.DiffIdeal.main_arg5)
      ∧ m' ((c.tc : Thread Cert.DiffRefIdeal.nD Cert.DiffRefIdeal.τ).loc Cert.DiffRefIdeal.main_arg6) = m ((c.tc : Thread Cert.DiffIdeal.nD Cert.DiffIdeal.τ).loc Cert.DiffIdeal.main_arg6)) →
    ∃ (v0 : (c : Dev Cert.DiffIdeal.nD) → Buf (Elt Ideal) ((c.tc : Thread Cert.DiffIdeal.nD Cert.DiffIdeal.τ).loc Cert.DiffIdeal.main_v14)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v14) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
          ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v64) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4)
          ∧ r.2.mem ((c.tc : Thread Cert.DiffRefIdeal.nD Cert.DiffRefIdeal.τ).loc Cert.DiffRefIdeal.main_arg5) = m' ((c.tc : Thread Cert.DiffRefIdeal.nD Cert.DiffRefIdeal.τ).loc Cert.DiffRefIdeal.main_arg5)
          ∧ r.2.mem ((c.tc : Thread Cert.DiffRefIdeal.nD Cert.DiffRefIdeal.τ).loc Cert.DiffRefIdeal.main_arg6) = m' ((c.tc : Thread Cert.DiffRefIdeal.nD Cert.DiffRefIdeal.τ).loc Cert.DiffRefIdeal.main_arg6))

def preserves_CtxPre_CtxPreIdeal : Prop :=
  True

def algebraic_CtxPreIdeal_CtxPreRefIdeal [hCtxPreIdeal : Cert.CtxPreIdeal.Facts] [hCtxPreRefIdeal : Cert.CtxPreRefIdeal.Facts] : Prop :=
  ∀ (m : (ℓ : Loc Cert.CtxPreIdeal.nD Cert.CtxPreIdeal.τ Cert.CtxPreIdeal.sig) → Buf (Elt Ideal) ℓ) (g : Dev Cert.CtxPreIdeal.nD → PrngReg)
    (m' : (ℓ : Loc Cert.CtxPreRefIdeal.nD Cert.CtxPreRefIdeal.τ Cert.CtxPreRefIdeal.sig) → Buf (Elt Ideal) ℓ) (g' : Dev Cert.CtxPreRefIdeal.nD → PrngReg), Pre_CtxPreIdeal m →
    (∀ c : Dev Cert.CtxPreIdeal.nD,
      m' ((c.tc : Thread Cert.CtxPreRefIdeal.nD Cert.CtxPreRefIdeal.τ).loc Cert.CtxPreRefIdeal.main_arg0) = m ((c.tc : Thread Cert.CtxPreIdeal.nD Cert.CtxPreIdeal.τ).loc Cert.CtxPreIdeal.main_arg0)
      ∧ m' ((c.tc : Thread Cert.CtxPreRefIdeal.nD Cert.CtxPreRefIdeal.τ).loc Cert.CtxPreRefIdeal.main_arg1) = m ((c.tc : Thread Cert.CtxPreIdeal.nD Cert.CtxPreIdeal.τ).loc Cert.CtxPreIdeal.main_arg1)
      ∧ m' ((c.tc : Thread Cert.CtxPreRefIdeal.nD Cert.CtxPreRefIdeal.τ).loc Cert.CtxPreRefIdeal.main_arg2) = m ((c.tc : Thread Cert.CtxPreIdeal.nD Cert.CtxPreIdeal.τ).loc Cert.CtxPreIdeal.main_arg2)
      ∧ m' ((c.tc : Thread Cert.CtxPreRefIdeal.nD Cert.CtxPreRefIdeal.τ).loc Cert.CtxPreRefIdeal.main_arg3) = m ((c.tc : Thread Cert.CtxPreIdeal.nD Cert.CtxPreIdeal.τ).loc Cert.CtxPreIdeal.main_arg3)
      ∧ m' ((c.tc : Thread Cert.CtxPreRefIdeal.nD Cert.CtxPreRefIdeal.τ).loc Cert.CtxPreRefIdeal.main_arg4) = m ((c.tc : Thread Cert.CtxPreIdeal.nD Cert.CtxPreIdeal.τ).loc Cert.CtxPreIdeal.main_arg4)
      ∧ m' ((c.tc : Thread Cert.CtxPreRefIdeal.nD Cert.CtxPreRefIdeal.τ).loc Cert.CtxPreRefIdeal.main_arg5) = m ((c.tc : Thread Cert.CtxPreIdeal.nD Cert.CtxPreIdeal.τ).loc Cert.CtxPreIdeal.main_arg5)
      ∧ m' ((c.tc : Thread Cert.CtxPreRefIdeal.nD Cert.CtxPreRefIdeal.τ).loc Cert.CtxPreRefIdeal.main_arg6) = m ((c.tc : Thread Cert.CtxPreIdeal.nD Cert.CtxPreIdeal.τ).loc Cert.CtxPreIdeal.main_arg6)) →
    ∃ (v0 : (c : Dev Cert.CtxPreIdeal.nD) → Buf (Elt Ideal) ((c.tc : Thread Cert.CtxPreIdeal.nD Cert.CtxPreIdeal.τ).loc Cert.CtxPreIdeal.main_v3)),
      θ_run (Cert.CtxPreIdeal.defs (F := Ideal)) (onTc (τ := Cert.CtxPreIdeal.τ) (Cert.CtxPreIdeal.main (F := Ideal))) ⟨m, fun _ => 0, g⟩ (fun r => ∀ c : Dev Cert.CtxPreIdeal.nD,
          r.2.mem ((c.tc : Thread Cert.CtxPreIdeal.nD Cert.CtxPreIdeal.τ).loc Cert.CtxPreIdeal.main_v3) = v0 c
          ∧ r.2.mem ((c.tc : Thread Cert.CtxPreIdeal.nD Cert.CtxPreIdeal.τ).loc Cert.CtxPreIdeal.main_arg0) = m ((c.tc : Thread Cert.CtxPreIdeal.nD Cert.CtxPreIdeal.τ).loc Cert.CtxPreIdeal.main_arg0)
          ∧ r.2.mem ((c.tc : Thread Cert.CtxPreIdeal.nD Cert.CtxPreIdeal.τ).loc Cert.CtxPreIdeal.main_arg1) = m ((c.tc : Thread Cert.CtxPreIdeal.nD Cert.CtxPreIdeal.τ).loc Cert.CtxPreIdeal.main_arg1)
          ∧ r.2.mem ((c.tc : Thread Cert.CtxPreIdeal.nD Cert.CtxPreIdeal.τ).loc Cert.CtxPreIdeal.main_arg2) = m ((c.tc : Thread Cert.CtxPreIdeal.nD Cert.CtxPreIdeal.τ).loc Cert.CtxPreIdeal.main_arg2)
          ∧ r.2.mem ((c.tc : Thread Cert.CtxPreIdeal.nD Cert.CtxPreIdeal.τ).loc Cert.CtxPreIdeal.main_arg3) = m ((c.tc : Thread Cert.CtxPreIdeal.nD Cert.CtxPreIdeal.τ).loc Cert.CtxPreIdeal.main_arg3)
          ∧ r.2.mem ((c.tc : Thread Cert.CtxPreIdeal.nD Cert.CtxPreIdeal.τ).loc Cert.CtxPreIdeal.main_arg4) = m ((c.tc : Thread Cert.CtxPreIdeal.nD Cert.CtxPreIdeal.τ).loc Cert.CtxPreIdeal.main_arg4)
          ∧ r.2.mem ((c.tc : Thread Cert.CtxPreIdeal.nD Cert.CtxPreIdeal.τ).loc Cert.CtxPreIdeal.main_arg5) = m ((c.tc : Thread Cert.CtxPreIdeal.nD Cert.CtxPreIdeal.τ).loc Cert.CtxPreIdeal.main_arg5)
          ∧ r.2.mem ((c.tc : Thread Cert.CtxPreIdeal.nD Cert.CtxPreIdeal.τ).loc Cert.CtxPreIdeal.main_arg6) = m ((c.tc : Thread Cert.CtxPreIdeal.nD Cert.CtxPreIdeal.τ).loc Cert.CtxPreIdeal.main_arg6))
      ∧ θ_run (Cert.CtxPreRefIdeal.defs (F := Ideal)) (onTc (τ := Cert.CtxPreRefIdeal.τ) (Cert.CtxPreRefIdeal.main (F := Ideal))) ⟨m', fun _ => 0, g'⟩ (fun r => ∀ c : Dev Cert.CtxPreRefIdeal.nD,
          r.2.mem ((c.tc : Thread Cert.CtxPreRefIdeal.nD Cert.CtxPreRefIdeal.τ).loc Cert.CtxPreRefIdeal.main_v53) = v0 c
          ∧ r.2.mem ((c.tc : Thread Cert.CtxPreRefIdeal.nD Cert.CtxPreRefIdeal.τ).loc Cert.CtxPreRefIdeal.main_arg0) = m' ((c.tc : Thread Cert.CtxPreRefIdeal.nD Cert.CtxPreRefIdeal.τ).loc Cert.CtxPreRefIdeal.main_arg0)
          ∧ r.2.mem ((c.tc : Thread Cert.CtxPreRefIdeal.nD Cert.CtxPreRefIdeal.τ).loc Cert.CtxPreRefIdeal.main_arg1) = m' ((c.tc : Thread Cert.CtxPreRefIdeal.nD Cert.CtxPreRefIdeal.τ).loc Cert.CtxPreRefIdeal.main_arg1)
          ∧ r.2.mem ((c.tc : Thread Cert.CtxPreRefIdeal.nD Cert.CtxPreRefIdeal.τ).loc Cert.CtxPreRefIdeal.main_arg2) = m' ((c.tc : Thread Cert.CtxPreRefIdeal.nD Cert.CtxPreRefIdeal.τ).loc Cert.CtxPreRefIdeal.main_arg2)
          ∧ r.2.mem ((c.tc : Thread Cert.CtxPreRefIdeal.nD Cert.CtxPreRefIdeal.τ).loc Cert.CtxPreRefIdeal.main_arg3) = m' ((c.tc : Thread Cert.CtxPreRefIdeal.nD Cert.CtxPreRefIdeal.τ).loc Cert.CtxPreRefIdeal.main_arg3)
          ∧ r.2.mem ((c.tc : Thread Cert.CtxPreRefIdeal.nD Cert.CtxPreRefIdeal.τ).loc Cert.CtxPreRefIdeal.main_arg4) = m' ((c.tc : Thread Cert.CtxPreRefIdeal.nD Cert.CtxPreRefIdeal.τ).loc Cert.CtxPreRefIdeal.main_arg4)
          ∧ r.2.mem ((c.tc : Thread Cert.CtxPreRefIdeal.nD Cert.CtxPreRefIdeal.τ).loc Cert.CtxPreRefIdeal.main_arg5) = m' ((c.tc : Thread Cert.CtxPreRefIdeal.nD Cert.CtxPreRefIdeal.τ).loc Cert.CtxPreRefIdeal.main_arg5)
          ∧ r.2.mem ((c.tc : Thread Cert.CtxPreRefIdeal.nD Cert.CtxPreRefIdeal.τ).loc Cert.CtxPreRefIdeal.main_arg6) = m' ((c.tc : Thread Cert.CtxPreRefIdeal.nD Cert.CtxPreRefIdeal.τ).loc Cert.CtxPreRefIdeal.main_arg6))

def preserves_CtxAb_CtxAbIdeal : Prop :=
  True

def algebraic_CtxAbIdeal_CtxAbRefIdeal [hCtxAbIdeal : Cert.CtxAbIdeal.Facts] [hCtxAbRefIdeal : Cert.CtxAbRefIdeal.Facts] : Prop :=
  ∀ (m : (ℓ : Loc Cert.CtxAbIdeal.nD Cert.CtxAbIdeal.τ Cert.CtxAbIdeal.sig) → Buf (Elt Ideal) ℓ) (g : Dev Cert.CtxAbIdeal.nD → PrngReg)
    (m' : (ℓ : Loc Cert.CtxAbRefIdeal.nD Cert.CtxAbRefIdeal.τ Cert.CtxAbRefIdeal.sig) → Buf (Elt Ideal) ℓ) (g' : Dev Cert.CtxAbRefIdeal.nD → PrngReg), Pre_CtxAbIdeal m →
    (∀ c : Dev Cert.CtxAbIdeal.nD,
      m' ((c.tc : Thread Cert.CtxAbRefIdeal.nD Cert.CtxAbRefIdeal.τ).loc Cert.CtxAbRefIdeal.main_arg0) = m ((c.tc : Thread Cert.CtxAbIdeal.nD Cert.CtxAbIdeal.τ).loc Cert.CtxAbIdeal.main_arg0)
      ∧ m' ((c.tc : Thread Cert.CtxAbRefIdeal.nD Cert.CtxAbRefIdeal.τ).loc Cert.CtxAbRefIdeal.main_arg1) = m ((c.tc : Thread Cert.CtxAbIdeal.nD Cert.CtxAbIdeal.τ).loc Cert.CtxAbIdeal.main_arg1)
      ∧ m' ((c.tc : Thread Cert.CtxAbRefIdeal.nD Cert.CtxAbRefIdeal.τ).loc Cert.CtxAbRefIdeal.main_arg2) = m ((c.tc : Thread Cert.CtxAbIdeal.nD Cert.CtxAbIdeal.τ).loc Cert.CtxAbIdeal.main_arg2)
      ∧ m' ((c.tc : Thread Cert.CtxAbRefIdeal.nD Cert.CtxAbRefIdeal.τ).loc Cert.CtxAbRefIdeal.main_arg3) = m ((c.tc : Thread Cert.CtxAbIdeal.nD Cert.CtxAbIdeal.τ).loc Cert.CtxAbIdeal.main_arg3)
      ∧ m' ((c.tc : Thread Cert.CtxAbRefIdeal.nD Cert.CtxAbRefIdeal.τ).loc Cert.CtxAbRefIdeal.main_arg4) = m ((c.tc : Thread Cert.CtxAbIdeal.nD Cert.CtxAbIdeal.τ).loc Cert.CtxAbIdeal.main_arg4)
      ∧ m' ((c.tc : Thread Cert.CtxAbRefIdeal.nD Cert.CtxAbRefIdeal.τ).loc Cert.CtxAbRefIdeal.main_arg5) = m ((c.tc : Thread Cert.CtxAbIdeal.nD Cert.CtxAbIdeal.τ).loc Cert.CtxAbIdeal.main_arg5)
      ∧ m' ((c.tc : Thread Cert.CtxAbRefIdeal.nD Cert.CtxAbRefIdeal.τ).loc Cert.CtxAbRefIdeal.main_arg6) = m ((c.tc : Thread Cert.CtxAbIdeal.nD Cert.CtxAbIdeal.τ).loc Cert.CtxAbIdeal.main_arg6)
      ∧ m' ((c.tc : Thread Cert.CtxAbRefIdeal.nD Cert.CtxAbRefIdeal.τ).loc Cert.CtxAbRefIdeal.main_arg7) = m ((c.tc : Thread Cert.CtxAbIdeal.nD Cert.CtxAbIdeal.τ).loc Cert.CtxAbIdeal.main_arg7)
      ∧ m' ((c.tc : Thread Cert.CtxAbRefIdeal.nD Cert.CtxAbRefIdeal.τ).loc Cert.CtxAbRefIdeal.main_arg8) = m ((c.tc : Thread Cert.CtxAbIdeal.nD Cert.CtxAbIdeal.τ).loc Cert.CtxAbIdeal.main_arg8)
      ∧ m' ((c.tc : Thread Cert.CtxAbRefIdeal.nD Cert.CtxAbRefIdeal.τ).loc Cert.CtxAbRefIdeal.main_arg9) = m ((c.tc : Thread Cert.CtxAbIdeal.nD Cert.CtxAbIdeal.τ).loc Cert.CtxAbIdeal.main_arg9)) →
    ∃ (v0 : (c : Dev Cert.CtxAbIdeal.nD) → Buf (Elt Ideal) ((c.tc : Thread Cert.CtxAbIdeal.nD Cert.CtxAbIdeal.τ).loc Cert.CtxAbIdeal.main_v4)),
      θ_run (Cert.CtxAbIdeal.defs (F := Ideal)) (onTc (τ := Cert.CtxAbIdeal.τ) (Cert.CtxAbIdeal.main (F := Ideal))) ⟨m, fun _ => 0, g⟩ (fun r => ∀ c : Dev Cert.CtxAbIdeal.nD,
          r.2.mem ((c.tc : Thread Cert.CtxAbIdeal.nD Cert.CtxAbIdeal.τ).loc Cert.CtxAbIdeal.main_v4) = v0 c
          ∧ r.2.mem ((c.tc : Thread Cert.CtxAbIdeal.nD Cert.CtxAbIdeal.τ).loc Cert.CtxAbIdeal.main_arg0) = m ((c.tc : Thread Cert.CtxAbIdeal.nD Cert.CtxAbIdeal.τ).loc Cert.CtxAbIdeal.main_arg0)
          ∧ r.2.mem ((c.tc : Thread Cert.CtxAbIdeal.nD Cert.CtxAbIdeal.τ).loc Cert.CtxAbIdeal.main_arg1) = m ((c.tc : Thread Cert.CtxAbIdeal.nD Cert.CtxAbIdeal.τ).loc Cert.CtxAbIdeal.main_arg1)
          ∧ r.2.mem ((c.tc : Thread Cert.CtxAbIdeal.nD Cert.CtxAbIdeal.τ).loc Cert.CtxAbIdeal.main_arg2) = m ((c.tc : Thread Cert.CtxAbIdeal.nD Cert.CtxAbIdeal.τ).loc Cert.CtxAbIdeal.main_arg2)
          ∧ r.2.mem ((c.tc : Thread Cert.CtxAbIdeal.nD Cert.CtxAbIdeal.τ).loc Cert.CtxAbIdeal.main_arg3) = m ((c.tc : Thread Cert.CtxAbIdeal.nD Cert.CtxAbIdeal.τ).loc Cert.CtxAbIdeal.main_arg3)
          ∧ r.2.mem ((c.tc : Thread Cert.CtxAbIdeal.nD Cert.CtxAbIdeal.τ).loc Cert.CtxAbIdeal.main_arg4) = m ((c.tc : Thread Cert.CtxAbIdeal.nD Cert.CtxAbIdeal.τ).loc Cert.CtxAbIdeal.main_arg4)
          ∧ r.2.mem ((c.tc : Thread Cert.CtxAbIdeal.nD Cert.CtxAbIdeal.τ).loc Cert.CtxAbIdeal.main_arg5) = m ((c.tc : Thread Cert.CtxAbIdeal.nD Cert.CtxAbIdeal.τ).loc Cert.CtxAbIdeal.main_arg5)
          ∧ r.2.mem ((c.tc : Thread Cert.CtxAbIdeal.nD Cert.CtxAbIdeal.τ).loc Cert.CtxAbIdeal.main_arg6) = m ((c.tc : Thread Cert.CtxAbIdeal.nD Cert.CtxAbIdeal.τ).loc Cert.CtxAbIdeal.main_arg6)
          ∧ r.2.mem ((c.tc : Thread Cert.CtxAbIdeal.nD Cert.CtxAbIdeal.τ).loc Cert.CtxAbIdeal.main_arg7) = m ((c.tc : Thread Cert.CtxAbIdeal.nD Cert.CtxAbIdeal.τ).loc Cert.CtxAbIdeal.main_arg7)
          ∧ r.2.mem ((c.tc : Thread Cert.CtxAbIdeal.nD Cert.CtxAbIdeal.τ).loc Cert.CtxAbIdeal.main_arg8) = m ((c.tc : Thread Cert.CtxAbIdeal.nD Cert.CtxAbIdeal.τ).loc Cert.CtxAbIdeal.main_arg8)
          ∧ r.2.mem ((c.tc : Thread Cert.CtxAbIdeal.nD Cert.CtxAbIdeal.τ).loc Cert.CtxAbIdeal.main_arg9) = m ((c.tc : Thread Cert.CtxAbIdeal.nD Cert.CtxAbIdeal.τ).loc Cert.CtxAbIdeal.main_arg9))
      ∧ θ_run (Cert.CtxAbRefIdeal.defs (F := Ideal)) (onTc (τ := Cert.CtxAbRefIdeal.τ) (Cert.CtxAbRefIdeal.main (F := Ideal))) ⟨m', fun _ => 0, g'⟩ (fun r => ∀ c : Dev Cert.CtxAbRefIdeal.nD,
          r.2.mem ((c.tc : Thread Cert.CtxAbRefIdeal.nD Cert.CtxAbRefIdeal.τ).loc Cert.CtxAbRefIdeal.main_v75) = v0 c
          ∧ r.2.mem ((c.tc : Thread Cert.CtxAbRefIdeal.nD Cert.CtxAbRefIdeal.τ).loc Cert.CtxAbRefIdeal.main_arg0) = m' ((c.tc : Thread Cert.CtxAbRefIdeal.nD Cert.CtxAbRefIdeal.τ).loc Cert.CtxAbRefIdeal.main_arg0)
          ∧ r.2.mem ((c.tc : Thread Cert.CtxAbRefIdeal.nD Cert.CtxAbRefIdeal.τ).loc Cert.CtxAbRefIdeal.main_arg1) = m' ((c.tc : Thread Cert.CtxAbRefIdeal.nD Cert.CtxAbRefIdeal.τ).loc Cert.CtxAbRefIdeal.main_arg1)
          ∧ r.2.mem ((c.tc : Thread Cert.CtxAbRefIdeal.nD Cert.CtxAbRefIdeal.τ).loc Cert.CtxAbRefIdeal.main_arg2) = m' ((c.tc : Thread Cert.CtxAbRefIdeal.nD Cert.CtxAbRefIdeal.τ).loc Cert.CtxAbRefIdeal.main_arg2)
          ∧ r.2.mem ((c.tc : Thread Cert.CtxAbRefIdeal.nD Cert.CtxAbRefIdeal.τ).loc Cert.CtxAbRefIdeal.main_arg3) = m' ((c.tc : Thread Cert.CtxAbRefIdeal.nD Cert.CtxAbRefIdeal.τ).loc Cert.CtxAbRefIdeal.main_arg3)
          ∧ r.2.mem ((c.tc : Thread Cert.CtxAbRefIdeal.nD Cert.CtxAbRefIdeal.τ).loc Cert.CtxAbRefIdeal.main_arg4) = m' ((c.tc : Thread Cert.CtxAbRefIdeal.nD Cert.CtxAbRefIdeal.τ).loc Cert.CtxAbRefIdeal.main_arg4)
          ∧ r.2.mem ((c.tc : Thread Cert.CtxAbRefIdeal.nD Cert.CtxAbRefIdeal.τ).loc Cert.CtxAbRefIdeal.main_arg5) = m' ((c.tc : Thread Cert.CtxAbRefIdeal.nD Cert.CtxAbRefIdeal.τ).loc Cert.CtxAbRefIdeal.main_arg5)
          ∧ r.2.mem ((c.tc : Thread Cert.CtxAbRefIdeal.nD Cert.CtxAbRefIdeal.τ).loc Cert.CtxAbRefIdeal.main_arg6) = m' ((c.tc : Thread Cert.CtxAbRefIdeal.nD Cert.CtxAbRefIdeal.τ).loc Cert.CtxAbRefIdeal.main_arg6)
          ∧ r.2.mem ((c.tc : Thread Cert.CtxAbRefIdeal.nD Cert.CtxAbRefIdeal.τ).loc Cert.CtxAbRefIdeal.main_arg7) = m' ((c.tc : Thread Cert.CtxAbRefIdeal.nD Cert.CtxAbRefIdeal.τ).loc Cert.CtxAbRefIdeal.main_arg7)
          ∧ r.2.mem ((c.tc : Thread Cert.CtxAbRefIdeal.nD Cert.CtxAbRefIdeal.τ).loc Cert.CtxAbRefIdeal.main_arg8) = m' ((c.tc : Thread Cert.CtxAbRefIdeal.nD Cert.CtxAbRefIdeal.τ).loc Cert.CtxAbRefIdeal.main_arg8)
          ∧ r.2.mem ((c.tc : Thread Cert.CtxAbRefIdeal.nD Cert.CtxAbRefIdeal.τ).loc Cert.CtxAbRefIdeal.main_arg9) = m' ((c.tc : Thread Cert.CtxAbRefIdeal.nD Cert.CtxAbRefIdeal.τ).loc Cert.CtxAbRefIdeal.main_arg9))

def preserves_ProjC_ProjCIdeal : Prop :=
  True

def algebraic_ProjCIdeal_ProjCRefIdeal [hProjCIdeal : Cert.ProjCIdeal.Facts] [hProjCRefIdeal : Cert.ProjCRefIdeal.Facts] : Prop :=
  ∀ (m : (ℓ : Loc Cert.ProjCIdeal.nD Cert.ProjCIdeal.τ Cert.ProjCIdeal.sig) → Buf (Elt Ideal) ℓ) (g : Dev Cert.ProjCIdeal.nD → PrngReg)
    (m' : (ℓ : Loc Cert.ProjCRefIdeal.nD Cert.ProjCRefIdeal.τ Cert.ProjCRefIdeal.sig) → Buf (Elt Ideal) ℓ) (g' : Dev Cert.ProjCRefIdeal.nD → PrngReg), Pre_ProjCIdeal m →
    (∀ c : Dev Cert.ProjCIdeal.nD,
      m' ((c.tc : Thread Cert.ProjCRefIdeal.nD Cert.ProjCRefIdeal.τ).loc Cert.ProjCRefIdeal.main_arg0) = m ((c.tc : Thread Cert.ProjCIdeal.nD Cert.ProjCIdeal.τ).loc Cert.ProjCIdeal.main_arg0)
      ∧ m' ((c.tc : Thread Cert.ProjCRefIdeal.nD Cert.ProjCRefIdeal.τ).loc Cert.ProjCRefIdeal.main_arg1) = m ((c.tc : Thread Cert.ProjCIdeal.nD Cert.ProjCIdeal.τ).loc Cert.ProjCIdeal.main_arg1)
      ∧ m' ((c.tc : Thread Cert.ProjCRefIdeal.nD Cert.ProjCRefIdeal.τ).loc Cert.ProjCRefIdeal.main_arg2) = m ((c.tc : Thread Cert.ProjCIdeal.nD Cert.ProjCIdeal.τ).loc Cert.ProjCIdeal.main_arg2)
      ∧ m' ((c.tc : Thread Cert.ProjCRefIdeal.nD Cert.ProjCRefIdeal.τ).loc Cert.ProjCRefIdeal.main_arg3) = m ((c.tc : Thread Cert.ProjCIdeal.nD Cert.ProjCIdeal.τ).loc Cert.ProjCIdeal.main_arg3)
      ∧ m' ((c.tc : Thread Cert.ProjCRefIdeal.nD Cert.ProjCRefIdeal.τ).loc Cert.ProjCRefIdeal.main_arg4) = m ((c.tc : Thread Cert.ProjCIdeal.nD Cert.ProjCIdeal.τ).loc Cert.ProjCIdeal.main_arg4)
      ∧ m' ((c.tc : Thread Cert.ProjCRefIdeal.nD Cert.ProjCRefIdeal.τ).loc Cert.ProjCRefIdeal.main_arg5) = m ((c.tc : Thread Cert.ProjCIdeal.nD Cert.ProjCIdeal.τ).loc Cert.ProjCIdeal.main_arg5)) →
    ∃ (v0 : (c : Dev Cert.ProjCIdeal.nD) → Buf (Elt Ideal) ((c.tc : Thread Cert.ProjCIdeal.nD Cert.ProjCIdeal.τ).loc Cert.ProjCIdeal.main_v23)),
      θ_run (Cert.ProjCIdeal.defs (F := Ideal)) (onTc (τ := Cert.ProjCIdeal.τ) (Cert.ProjCIdeal.main (F := Ideal))) ⟨m, fun _ => 0, g⟩ (fun r => ∀ c : Dev Cert.ProjCIdeal.nD,
          r.2.mem ((c.tc : Thread Cert.ProjCIdeal.nD Cert.ProjCIdeal.τ).loc Cert.ProjCIdeal.main_v23) = v0 c
          ∧ r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
          ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1)
          ∧ r.2.mem ((c.tc : Thread Cert.ProjCIdeal.nD Cert.ProjCIdeal.τ).loc Cert.ProjCIdeal.main_arg2) = m ((c.tc : Thread Cert.ProjCIdeal.nD Cert.ProjCIdeal.τ).loc Cert.ProjCIdeal.main_arg2)
          ∧ r.2.mem ((c.tc : Thread Cert.ProjCIdeal.nD Cert.ProjCIdeal.τ).loc Cert.ProjCIdeal.main_arg3) = m ((c.tc : Thread Cert.ProjCIdeal.nD Cert.ProjCIdeal.τ).loc Cert.ProjCIdeal.main_arg3)
          ∧ r.2.mem ((c.tc : Thread Cert.ProjCIdeal.nD Cert.ProjCIdeal.τ).loc Cert.ProjCIdeal.main_arg4) = m ((c.tc : Thread Cert.ProjCIdeal.nD Cert.ProjCIdeal.τ).loc Cert.ProjCIdeal.main_arg4)
          ∧ r.2.mem ((c.tc : Thread Cert.ProjCIdeal.nD Cert.ProjCIdeal.τ).loc Cert.ProjCIdeal.main_arg5) = m ((c.tc : Thread Cert.ProjCIdeal.nD Cert.ProjCIdeal.τ).loc Cert.ProjCIdeal.main_arg5))
      ∧ θ_run (Cert.ProjCRefIdeal.defs (F := Ideal)) (onTc (τ := Cert.ProjCRefIdeal.τ) (Cert.ProjCRefIdeal.main (F := Ideal))) ⟨m', fun _ => 0, g'⟩ (fun r => ∀ c : Dev Cert.ProjCRefIdeal.nD,
          r.2.mem ((c.tc : Thread Cert.ProjCRefIdeal.nD Cert.ProjCRefIdeal.τ).loc Cert.ProjCRefIdeal.main_v67) = v0 c
          ∧ r.2.mem ((c.tc : Thread Cert.ProjCRefIdeal.nD Cert.ProjCRefIdeal.τ).loc Cert.ProjCRefIdeal.main_arg0) = m' ((c.tc : Thread Cert.ProjCRefIdeal.nD Cert.ProjCRefIdeal.τ).loc Cert.ProjCRefIdeal.main_arg0)
          ∧ r.2.mem ((c.tc : Thread Cert.ProjCRefIdeal.nD Cert.ProjCRefIdeal.τ).loc Cert.ProjCRefIdeal.main_arg1) = m' ((c.tc : Thread Cert.ProjCRefIdeal.nD Cert.ProjCRefIdeal.τ).loc Cert.ProjCRefIdeal.main_arg1)
          ∧ r.2.mem ((c.tc : Thread Cert.ProjCRefIdeal.nD Cert.ProjCRefIdeal.τ).loc Cert.ProjCRefIdeal.main_arg2) = m' ((c.tc : Thread Cert.ProjCRefIdeal.nD Cert.ProjCRefIdeal.τ).loc Cert.ProjCRefIdeal.main_arg2)
          ∧ r.2.mem ((c.tc : Thread Cert.ProjCRefIdeal.nD Cert.ProjCRefIdeal.τ).loc Cert.ProjCRefIdeal.main_arg3) = m' ((c.tc : Thread Cert.ProjCRefIdeal.nD Cert.ProjCRefIdeal.τ).loc Cert.ProjCRefIdeal.main_arg3)
          ∧ r.2.mem ((c.tc : Thread Cert.ProjCRefIdeal.nD Cert.ProjCRefIdeal.τ).loc Cert.ProjCRefIdeal.main_arg4) = m' ((c.tc : Thread Cert.ProjCRefIdeal.nD Cert.ProjCRefIdeal.τ).loc Cert.ProjCRefIdeal.main_arg4)
          ∧ r.2.mem ((c.tc : Thread Cert.ProjCRefIdeal.nD Cert.ProjCRefIdeal.τ).loc Cert.ProjCRefIdeal.main_arg5) = m' ((c.tc : Thread Cert.ProjCRefIdeal.nD Cert.ProjCRefIdeal.τ).loc Cert.ProjCRefIdeal.main_arg5))

def Claim : Prop :=
  ∃ (hFfnPre : Cert.FfnPre.Facts) (hFfnPreIdeal : Cert.FfnPreIdeal.Facts) (hFfnPreRefIdeal : Cert.FfnPreRefIdeal.Facts) (hFfnAb : Cert.FfnAb.Facts) (hFfnAbIdeal : Cert.FfnAbIdeal.Facts) (hFfnAbRefIdeal : Cert.FfnAbRefIdeal.Facts) (hFfnC : Cert.FfnC.Facts) (hFfnCIdeal : Cert.FfnCIdeal.Facts) (hFfnCRefIdeal : Cert.FfnCRefIdeal.Facts) (hGqa : Cert.Gqa.Facts) (hGqaIdeal : Cert.GqaIdeal.Facts) (hGqaRefIdeal : Cert.GqaRefIdeal.Facts) (hDiff : Cert.Diff.Facts) (hDiffIdeal : Cert.DiffIdeal.Facts) (hDiffRefIdeal : Cert.DiffRefIdeal.Facts) (hCtxPre : Cert.CtxPre.Facts) (hCtxPreIdeal : Cert.CtxPreIdeal.Facts) (hCtxPreRefIdeal : Cert.CtxPreRefIdeal.Facts) (hCtxAb : Cert.CtxAb.Facts) (hCtxAbIdeal : Cert.CtxAbIdeal.Facts) (hCtxAbRefIdeal : Cert.CtxAbRefIdeal.Facts) (hProjC : Cert.ProjC.Facts) (hProjCIdeal : Cert.ProjCIdeal.Facts) (hProjCRefIdeal : Cert.ProjCRefIdeal.Facts) (hPre_finite : Cert.Pre_finite.Facts) (hPre_finite_diff : Cert.Pre_finite_diff.Facts),
    quiescent_FfnPre (hFfnPre := hFfnPre)
    ∧ quiescent_FfnPreIdeal (hFfnPreIdeal := hFfnPreIdeal)
    ∧ quiescent_FfnPreRefIdeal (hFfnPreRefIdeal := hFfnPreRefIdeal)
    ∧ quiescent_FfnAb (hFfnAb := hFfnAb)
    ∧ quiescent_FfnAbIdeal (hFfnAbIdeal := hFfnAbIdeal)
    ∧ quiescent_FfnAbRefIdeal (hFfnAbRefIdeal := hFfnAbRefIdeal)
    ∧ quiescent_FfnC (hFfnC := hFfnC)
    ∧ quiescent_FfnCIdeal (hFfnCIdeal := hFfnCIdeal)
    ∧ quiescent_FfnCRefIdeal (hFfnCRefIdeal := hFfnCRefIdeal)
    ∧ quiescent_Gqa (hGqa := hGqa)
    ∧ quiescent_GqaIdeal (hGqaIdeal := hGqaIdeal)
    ∧ quiescent_GqaIdeal_pre_finite (hGqaIdeal := hGqaIdeal) (hPre_finite := hPre_finite)
    ∧ quiescent_GqaRefIdeal (hGqaRefIdeal := hGqaRefIdeal)
    ∧ quiescent_GqaRefIdeal_pre_finite (hGqaRefIdeal := hGqaRefIdeal) (hPre_finite := hPre_finite)
    ∧ quiescent_Diff (hDiff := hDiff)
    ∧ quiescent_DiffIdeal (hDiffIdeal := hDiffIdeal)
    ∧ quiescent_DiffIdeal_pre_finite_diff (hDiffIdeal := hDiffIdeal) (hPre_finite_diff := hPre_finite_diff)
    ∧ quiescent_DiffRefIdeal (hDiffRefIdeal := hDiffRefIdeal)
    ∧ quiescent_DiffRefIdeal_pre_finite_diff (hDiffRefIdeal := hDiffRefIdeal) (hPre_finite_diff := hPre_finite_diff)
    ∧ quiescent_CtxPre (hCtxPre := hCtxPre)
    ∧ quiescent_CtxPreIdeal (hCtxPreIdeal := hCtxPreIdeal)
    ∧ quiescent_CtxPreRefIdeal (hCtxPreRefIdeal := hCtxPreRefIdeal)
    ∧ quiescent_CtxAb (hCtxAb := hCtxAb)
    ∧ quiescent_CtxAbIdeal (hCtxAbIdeal := hCtxAbIdeal)
    ∧ quiescent_CtxAbRefIdeal (hCtxAbRefIdeal := hCtxAbRefIdeal)
    ∧ quiescent_ProjC (hProjC := hProjC)
    ∧ quiescent_ProjCIdeal (hProjCIdeal := hProjCIdeal)
    ∧ quiescent_ProjCRefIdeal (hProjCRefIdeal := hProjCRefIdeal)
    ∧ preserves_FfnPre_FfnPreIdeal
    ∧ algebraic_FfnPreIdeal_FfnPreRefIdeal (hFfnPreIdeal := hFfnPreIdeal) (hFfnPreRefIdeal := hFfnPreRefIdeal)
    ∧ preserves_FfnAb_FfnAbIdeal
    ∧ algebraic_FfnAbIdeal_FfnAbRefIdeal (hFfnAbIdeal := hFfnAbIdeal) (hFfnAbRefIdeal := hFfnAbRefIdeal)
    ∧ preserves_FfnC_FfnCIdeal
    ∧ algebraic_FfnCIdeal_FfnCRefIdeal (hFfnCIdeal := hFfnCIdeal) (hFfnCRefIdeal := hFfnCRefIdeal)
    ∧ preserves_Gqa_GqaIdeal
    ∧ algebraic_GqaIdeal_GqaRefIdeal_pre_finite (hGqaIdeal := hGqaIdeal) (hGqaRefIdeal := hGqaRefIdeal) (hPre_finite := hPre_finite)
    ∧ preserves_Diff_DiffIdeal
    ∧ algebraic_DiffIdeal_DiffRefIdeal_pre_finite_diff (hDiffIdeal := hDiffIdeal) (hDiffRefIdeal := hDiffRefIdeal) (hPre_finite_diff := hPre_finite_diff)
    ∧ preserves_CtxPre_CtxPreIdeal
    ∧ algebraic_CtxPreIdeal_CtxPreRefIdeal (hCtxPreIdeal := hCtxPreIdeal) (hCtxPreRefIdeal := hCtxPreRefIdeal)
    ∧ preserves_CtxAb_CtxAbIdeal
    ∧ algebraic_CtxAbIdeal_CtxAbRefIdeal (hCtxAbIdeal := hCtxAbIdeal) (hCtxAbRefIdeal := hCtxAbRefIdeal)
    ∧ preserves_ProjC_ProjCIdeal
    ∧ algebraic_ProjCIdeal_ProjCRefIdeal (hProjCIdeal := hProjCIdeal) (hProjCRefIdeal := hProjCRefIdeal)
-- ==== Pre_finite.lean ====
abbrev S16x2048x2304 : Shape := ⟨3, ![16, 2048, 2304]⟩
abbrev S16x256x2304 : Shape := ⟨3, ![16, 256, 2304]⟩
abbrev S16x2048x640 : Shape := ⟨3, ![16, 2048, 640]⟩
abbrev S16x256x128 : Shape := ⟨3, ![16, 256, 128]⟩
abbrev S_ : Shape := ⟨0, ![]⟩

class Facts : Prop where
  slices_S16x2048x2304_S16x2048x640_0_0_0 : S16x2048x2304.Slices ![0, 0, 0] S16x2048x640
  bitsLt_bf16_f32 : FTy.bits .bf16 < FTy.bits .f32
  slices_S16x256x2304_S16x256x128_0_0_512 : S16x256x2304.Slices ![0, 0, 512] S16x256x128
  bcast_S_S16x2048x640 : S_.BroadcastsInDim S16x2048x640 (![] : Fin 0 → Fin S16x2048x640.rank)
  reducesTo_S16x2048x640_S_d0_1_2 : S16x2048x640.ReducesTo [0, 1, 2] S_
  h_S_ : 0 < S_.numel
  bcast_S_S16x256x128 : S_.BroadcastsInDim S16x256x128 (![] : Fin 0 → Fin S16x256x128.rank)
  reducesTo_S16x256x128_S_d0_1_2 : S16x256x128.ReducesTo [0, 1, 2] S_

variable [Facts]

def fn {F : FTy → Type} [FloatOps F] (main_arg0 : FVec F S16x2048x2304 .bf16) (main_arg1 : FVec F S16x256x2304 .bf16) : IVec S_ 1 :=
  let main_v0 : FVec F S16x2048x640 .bf16 := (extractStridedSlice S16x2048x640 ![0, 0, 0] · slices_S16x2048x2304_S16x2048x640_0_0_0) main_arg0
  let main_v1 : FVec F S16x2048x640 .f32 := (extf .f32 · bitsLt_bf16_f32) main_v0
  let main_v2 : FVec F S16x256x128 .bf16 := (extractStridedSlice S16x256x128 ![0, 0, 512] · slices_S16x256x2304_S16x256x128_0_0_512) main_arg1
  let main_v3 : FVec F S16x256x128 .f32 := (extf .f32 · bitsLt_bf16_f32) main_v2
  let main_v4 : FVec F S16x2048x640 .f32 := Host.absf main_v1
  let main_cst : FVec F S_ .f32 := constant S_ .f32 0x7F800000#32
  let main_v5 : FVec F S16x2048x640 .f32 := broadcastInDim S16x2048x640 ![] bcast_S_S16x2048x640 main_cst
  let main_v6 : IVec S16x2048x640 1 := cmpf .olt main_v4 main_v5
  let main_c : IVec S_ 1 := constantI S_ 1 1#1
  let main_v7 : IVec S_ 1 := (fun x v => Host.reduce IntOp.andi x v reducesTo_S16x2048x640_S_d0_1_2 h_S_) main_v6 main_c
  let main_v8 : FVec F S16x256x128 .f32 := Host.absf main_v3
  let main_cst_0 : FVec F S_ .f32 := constant S_ .f32 0x7F800000#32
  let main_v9 : FVec F S16x256x128 .f32 := broadcastInDim S16x256x128 ![] bcast_S_S16x256x128 main_cst_0
  let main_v10 : IVec S16x256x128 1 := cmpf .olt main_v8 main_v9
  let main_c_1 : IVec S_ 1 := constantI S_ 1 1#1
  let main_v11 : IVec S_ 1 := (fun x v => Host.reduce IntOp.andi x v reducesTo_S16x256x128_S_d0_1_2 h_S_) main_v10 main_c_1
  let main_v12 : IVec S_ 1 := andi main_v7 main_v11
  main_v12
-- ==== Pre_finite_diff.lean ====
abbrev S16x2048x2304 : Shape := ⟨3, ![16, 2048, 2304]⟩
abbrev S16x256x2304 : Shape := ⟨3, ![16, 256, 2304]⟩
abbrev S64 : Shape := ⟨1, ![64]⟩
abbrev S128 : Shape := ⟨1, ![128]⟩
abbrev S16x2048x1536 : Shape := ⟨3, ![16, 2048, 1536]⟩
abbrev S16x256x1024 : Shape := ⟨3, ![16, 256, 1024]⟩
abbrev S256 : Shape := ⟨1, ![256]⟩
abbrev S_ : Shape := ⟨0, ![]⟩

class Facts : Prop where
  slices_S16x2048x2304_S16x2048x1536_0_0_768 : S16x2048x2304.Slices ![0, 0, 768] S16x2048x1536
  bitsLt_bf16_f32 : FTy.bits .bf16 < FTy.bits .f32
  slices_S16x256x2304_S16x256x1024_0_0_1280 : S16x256x2304.Slices ![0, 0, 1280] S16x256x1024
  concatenates_S64_S64_S64_S64_S256_d0 : Shape.Concatenates [S64, S64, S64, S64] S256 0
  bcast_S_S16x2048x1536 : S_.BroadcastsInDim S16x2048x1536 (![] : Fin 0 → Fin S16x2048x1536.rank)
  reducesTo_S16x2048x1536_S_d0_1_2 : S16x2048x1536.ReducesTo [0, 1, 2] S_
  h_S_ : 0 < S_.numel
  bcast_S_S16x256x1024 : S_.BroadcastsInDim S16x256x1024 (![] : Fin 0 → Fin S16x256x1024.rank)
  reducesTo_S16x256x1024_S_d0_1_2 : S16x256x1024.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v17 : IVec S_ 1) : IVec S_ 1 :=
  let main_v18 : IVec S_ 1 := andi main_v13 main_v17
  main_v18

def fn {F : FTy → Type} [FloatOps F] (main_arg0 : FVec F S16x2048x2304 .bf16) (main_arg1 : FVec F S16x256x2304 .bf16) (main_arg2 : FVec F S64 .f32) (main_arg3 : FVec F S64 .f32) (main_arg4 : FVec F S64 .f32) (main_arg5 : FVec F S64 .f32) (main_arg6 : FVec F S128 .f32) : IVec S_ 1 :=
  let main_v0 : FVec F S16x2048x1536 .bf16 := (extractStridedSlice S16x2048x1536 ![0, 0, 768] · slices_S16x2048x2304_S16x2048x1536_0_0_768) main_arg0
  let main_v1 : FVec F S16x2048x1536 .f32 := (extf .f32 · bitsLt_bf16_f32) main_v0
  let main_v2 : FVec F S16x256x1024 .bf16 := (extractStridedSlice S16x256x1024 ![0, 0, 1280] · slices_S16x256x2304_S16x256x1024_0_0_1280) main_arg1
  let main_v3 : FVec F S16x256x1024 .f32 := (extf .f32 · bitsLt_bf16_f32) main_v2
  let main_v4 : FVec F S256 .f32 := concatenate S256 0 [⟨S64, main_arg2⟩, ⟨S64, main_arg3⟩, ⟨S64, main_arg4⟩, ⟨S64, main_arg5⟩] concatenates_S64_S64_S64_S64_S256_d0
  let main_v5 : FVec F S16x2048x1536 .f32 := Host.absf main_v1
  let main_cst : FVec F S_ .f32 := constant S_ .f32 0x7F800000#32
  let main_v6 : FVec F S16x2048x1536 .f32 := broadcastInDim S16x2048x1536 ![] bcast_S_S16x2048x1536 main_cst
  let main_v7 : IVec S16x2048x1536 1 := cmpf .olt main_v5 main_v6
  let main_c : IVec S_ 1 := constantI S_ 1 1#1
  let main_v8 : IVec S_ 1 := (fun x v => Host.reduce IntOp.andi x v reducesTo_S16x2048x1536_S_d0_1_2 h_S_) main_v7 main_c
  let main_v9 : FVec F S16x256x1024 .f32 := Host.absf main_v3
  let main_cst_0 : FVec F S_ .f32 := constant S_ .f32 0x7F800000#32
  let main_v10 : FVec F S16x256x1024 .f32 := broadcastInDim S16x256x1024 ![] bcast_S_S16x256x1024 main_cst_0
  let main_v11 : IVec S16x256x1024 1 := cmpf .olt main_v9 main_v10
  let main_c_1 : IVec S_ 1 := constantI S_ 1 1#1
  let main_v12 : IVec S_ 1 := (fun x v => Host.reduce IntOp.andi x v reducesTo_S16x256x1024_S_d0_1_2 h_S_) main_v11 main_c_1
  let main_v13 : IVec S_ 1 := andi main_v8 main_v12
  let main_v14 : FVec F S256 .f32 := Host.absf main_v4
  let main_cst_2 : FVec F S_ .f32 := constant S_ .f32 0x7F800000#32
  let main_v15 : FVec F S256 .f32 := broadcastInDim S256 ![] bcast_S_S256 main_cst_2
  let main_v16 : IVec S256 1 := cmpf .olt main_v14 main_v15
  let main_c_3 : IVec S_ 1 := constantI S_ 1 1#1
  let main_v17 : IVec S_ 1 := (fun x v => Host.reduce IntOp.andi x v reducesTo_S256_S_d0 h_S_) main_v16 main_c_3
  fn_part1 (F := F) main_v13 main_v17
-- ==== FfnPre.lean ====
abbrev S16x2048x1024 : Shape := ⟨3, ![16, 2048, 1024]⟩
abbrev S24x9x1024 : Shape := ⟨3, ![24, 9, 1024]⟩
abbrev S3x1024 : Shape := ⟨2, ![3, 1024]⟩
abbrev S2x2x1024x2816 : Shape := ⟨4, ![2, 2, 1024, 2816]⟩
abbrev S2x2x2816x1024 : Shape := ⟨4, ![2, 2, 2816, 1024]⟩
abbrev S1x1024x1024 : Shape := ⟨3, ![1, 1024, 1024]⟩
abbrev S1x9x1024 : Shape := ⟨3, ![1, 9, 1024]⟩
abbrev S1x1x1024x2816 : Shape := ⟨4, ![1, 1, 1024, 2816]⟩
abbrev S1x1x2816x1024 : Shape := ⟨4, ![1, 1, 2816, 1024]⟩
abbrev S1x256x1024 : Shape := ⟨3, ![1, 256, 1024]⟩
abbrev S256x1024 : Shape := ⟨2, ![256, 1024]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 11
  | .vmem => 11
  | .smem => 0
  | _ => 0

abbrev bufTy : (tb : Table) → Fin (tcTables nBuf tb) → BufTy
  | .hbm, ⟨0, _⟩ => ⟨S16x2048x1024, .f32⟩
  | .hbm, ⟨1, _⟩ => ⟨S24x9x1024, .f32⟩
  | .hbm, ⟨2, _⟩ => ⟨S3x1024, .f32⟩
  | .hbm, ⟨3, _⟩ => ⟨S3x1024, .f32⟩
  | .hbm, ⟨4, _⟩ => ⟨S2x2x1024x2816, .f32⟩
  | .hbm, ⟨5, _⟩ => ⟨S2x2x1024x2816, .f32⟩
  | .hbm, ⟨6, _⟩ => ⟨S2x2x2816x1024, .f32⟩
  | .hbm, ⟨7, _⟩ => ⟨S2x2x1024x2816, .bf16⟩
  | .hbm, ⟨8, _⟩ => ⟨S2x2x1024x2816, .bf16⟩
  | .hbm, ⟨9, _⟩ => ⟨S2x2x2816x1024, .bf16⟩
  | .hbm, ⟨10, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S3x1024, .f32⟩
  | .local _ .vmem, ⟨6, _⟩ => ⟨S1x1x1024x2816, .bf16⟩
  | .local _ .vmem, ⟨7, _⟩ => ⟨S1x1x1024x2816, .bf16⟩
  | .local _ .vmem, ⟨8, _⟩ => ⟨S1x1x2816x1024, .bf16⟩
  | .local _ .vmem, ⟨9, _⟩ => ⟨S1x1024x1024, .f32⟩
  | .local _ .vmem, ⟨10, _⟩ => ⟨S1x1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnPreRefIdeal.lean ====
abbrev S16x2048x1024 : Shape := ⟨3, ![16, 2048, 1024]⟩
abbrev S24x9x1024 : Shape := ⟨3, ![24, 9, 1024]⟩
abbrev S3x1024 : Shape := ⟨2, ![3, 1024]⟩
abbrev S2x2x1024x2816 : Shape := ⟨4, ![2, 2, 1024, 2816]⟩
abbrev S2x2x2816x1024 : Shape := ⟨4, ![2, 2, 2816, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S1x1024 : Shape := ⟨2, ![1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x2048x2816 : Shape := ⟨3, ![16, 2048, 2816]⟩

abbrev nBuf : Space → Nat
  | .hbm => 76
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S24x9x1024, .f32⟩
  | .hbm, ⟨2, _⟩ => ⟨S3x1024, .f32⟩
  | .hbm, ⟨3, _⟩ => ⟨S3x1024, .f32⟩
  | .hbm, ⟨4, _⟩ => ⟨S2x2x1024x2816, .f32⟩
  | .hbm, ⟨5, _⟩ => ⟨S2x2x1024x2816, .f32⟩
  | .hbm, ⟨6, _⟩ => ⟨S2x2x2816x1024, .f32⟩
  | .hbm, ⟨7, _⟩ => ⟨S1x1x1024x2816, .f32⟩
  | .hbm, ⟨8, _⟩ => ⟨S1024x2816, .f32⟩
  | .hbm, ⟨9, _⟩ => ⟨S1x1x1024x2816, .f32⟩
  | .hbm, ⟨10, _⟩ => ⟨S1024x2816, .f32⟩
  | .hbm, ⟨11, _⟩ => ⟨S1x1x2816x1024, .f32⟩
  | .hbm, ⟨12, _⟩ => ⟨S2816x1024, .f32⟩
  | .hbm, ⟨13, _⟩ => ⟨S1x1024, .f32⟩
  | .hbm, ⟨14, _⟩ => ⟨S16x2048x1024, .f32⟩
  | .hbm, ⟨15, _⟩ => ⟨S_, .f32⟩
  | .hbm, ⟨16, _⟩ => ⟨S16x2048, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S16x2048x1, .f32⟩
  | .hbm, ⟨25, _⟩ => ⟨S16x2048x1024, .f32⟩
  | .hbm, ⟨26, _⟩ => ⟨S16x2048x1024, .f32⟩
  | .hbm, ⟨27, _⟩ => ⟨S1x1x1024, .f32⟩
  | .hbm, ⟨28, _⟩ => ⟨S16x2048x1024, .f32⟩
  | .hbm, ⟨29, _⟩ => ⟨S16x2048x1024, .f32⟩
  | .hbm, ⟨30, _⟩ => ⟨S16x1x1024, .f32⟩
  | .hbm, ⟨31, _⟩ => ⟨S_, .f32⟩
  | .hbm, ⟨32, _⟩ => ⟨S16x1x1024, .f32⟩
  | .hbm, ⟨33, _⟩ => ⟨S16x1x1024, .f32⟩
  | .hbm, ⟨34, _⟩ => ⟨S16x2048x1024, .f32⟩
  | .hbm, ⟨35, _⟩ => ⟨S16x2048x1024, .f32⟩
  | .hbm, ⟨36, _⟩ => ⟨S16x1x1024, .f32⟩
  | .hbm, ⟨37, _⟩ => ⟨S16x2048x1024, .f32⟩
  | .hbm, ⟨38, _⟩ => ⟨S16x2048x1024, .f32⟩
  | .hbm, ⟨39, _⟩ => ⟨S16x2048x2816, .f32⟩
  | .hbm, ⟨40, _⟩ => ⟨S16x2048x2816, .f32⟩
  | .hbm, ⟨41, _⟩ => ⟨S16x2048x2816, .f32⟩
  | .hbm, ⟨42, _⟩ => ⟨S_, .f32⟩
  | .hbm, ⟨43, _⟩ => ⟨S16x2048x2816, .f32⟩
  | .hbm, ⟨44, _⟩ => ⟨S16x2048x2816, .f32⟩
  | .hbm, ⟨45, _⟩ => ⟨S_, .f32⟩
  | .hbm, ⟨46, _⟩ => ⟨S16x2048x2816, .f32⟩
  | .hbm, ⟨47, _⟩ => ⟨S16x2048x2816, .f32⟩
  | .hbm, ⟨48, _⟩ => ⟨S16x2048x2816, .f32⟩
  | .hbm, ⟨49, _⟩ => ⟨S16x2048x2816, .f32⟩
  | .hbm, ⟨50, _⟩ => ⟨S16x2048x2816, .f32⟩
  | .hbm, ⟨51, _⟩ => ⟨S16x2048x1024, .f32⟩
  | .hbm, ⟨52, _⟩ => ⟨S16x1x1024, .f32⟩
  | .hbm, ⟨53, _⟩ => ⟨S_, .f32⟩
  | .hbm, ⟨54, _⟩ => ⟨S16x1x1024, .f32⟩
  | .hbm, ⟨55, _⟩ => ⟨S16x1x1024, .f32⟩
  | .hbm, ⟨56, _⟩ => ⟨S1x1024, .f32⟩
  | .hbm, ⟨57, _⟩ => ⟨S16x2048x1024, .f32⟩
  | .hbm, ⟨58, _⟩ => ⟨S_, .f32⟩
  | .hbm, ⟨59, _⟩ => ⟨S16x2048, .f32⟩
  | .hbm, ⟨60, _⟩ => ⟨S16x2048x1, .f32⟩
  | .hbm, ⟨61, _⟩ => ⟨S_, .f32⟩
  | .hbm, ⟨62, _⟩ => ⟨S16x2048x1, .f32⟩
  | .hbm, ⟨63, _⟩ => ⟨S16x2048x1, .f32⟩
  | .hbm, ⟨64, _⟩ => ⟨S_, .f32⟩
  | .hbm, ⟨65, _⟩ => ⟨S16x2048x1, .f32⟩
  | .hbm, ⟨66, _⟩ => ⟨S16x2048x1, .f32⟩
  | .hbm, ⟨67, _⟩ => ⟨S16x2048x1, .f32⟩
  | .hbm, ⟨68, _⟩ => ⟨S16x2048x1024, .f32⟩
  | .hbm, ⟨69, _⟩ => ⟨S16x2048x1024, .f32⟩
  | .hbm, ⟨70, _⟩ => ⟨S1x1x1024, .f32⟩
  | .hbm, ⟨71, _⟩ => ⟨S16x2048x1024, .f32⟩
  | .hbm, ⟨72, _⟩ => ⟨S16x2048x1024, .f32⟩
  | .hbm, ⟨73, _⟩ => ⟨S16x2048x1024, .f32⟩
  | .hbm, ⟨74, _⟩ => ⟨S16x2048x1024, .f32⟩
  | .hbm, ⟨75, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_cst_5 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩

abbrev nD : Nat := 1
abbrev τ : Topo := Topo.v7x

variable {F : FTy → Type} [FloatOps F]
-- ==== FfnAb.lean ====
abbrev S16x2048x512 : Shape := ⟨3, ![16, 2048, 512]⟩
abbrev S16x2048x1024 : Shape := ⟨3, ![16, 2048, 1024]⟩
abbrev S24x9x1024 : Shape := ⟨3, ![24, 9, 1024]⟩
abbrev S3x1024 : Shape := ⟨2, ![3, 1024]⟩
abbrev S1024x1024 : Shape := ⟨2, ![1024, 1024]⟩
abbrev S2x2x1024x2816 : Shape := ⟨4, ![2, 2, 1024, 2816]⟩
abbrev S2x2x2816x1024 : Shape := ⟨4, ![2, 2, 2816, 1024]⟩
abbrev S1x1024x512 : Shape := ⟨3, ![1, 1024, 512]⟩
abbrev S1x1024x1024 : Shape := ⟨3, ![1, 1024, 1024]⟩
abbrev S1x9x1024 : Shape := ⟨3, ![1, 9, 1024]⟩
abbrev S1x1x1024x2816 : Shape := ⟨4, ![1, 1, 1024, 2816]⟩
abbrev S1x1x2816x1024 : Shape := ⟨4, ![1, 1, 2816, 1024]⟩
abbrev S1x256x1024 : Shape := ⟨3, ![1, 256, 1024]⟩
abbrev S256x1024 : Shape := ⟨2, ![256, 1024]⟩
abbrev S1x256x512 : Shape := ⟨3, ![1, 256, 512]⟩
abbrev S256x512 : Shape := ⟨2, ![256, 512]⟩
abbrev S512x1024 : Shape := ⟨2, ![512, 1024]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 15
  | .vmem => 16
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x1024, .f32⟩
  | .hbm, ⟨3, _⟩ => ⟨S24x9x1024, .f32⟩
  | .hbm, ⟨4, _⟩ => ⟨S3x1024, .f32⟩
  | .hbm, ⟨5, _⟩ => ⟨S3x1024, .f32⟩
  | .hbm, ⟨6, _⟩ => ⟨S1024x1024, .f32⟩
  | .hbm, ⟨7, _⟩ => ⟨S2x2x1024x2816, .f32⟩
  | .hbm, ⟨8, _⟩ => ⟨S2x2x1024x2816, .f32⟩
  | .hbm, ⟨9, _⟩ => ⟨S2x2x2816x1024, .f32⟩
  | .hbm, ⟨10, _⟩ => ⟨S2x2x1024x2816, .bf16⟩
  | .hbm, ⟨11, _⟩ => ⟨S2x2x1024x2816, .bf16⟩
  | .hbm, ⟨12, _⟩ => ⟨S2x2x2816x1024, .bf16⟩
  | .hbm, ⟨13, _⟩ => ⟨S1024x1024, .bf16⟩
  | .hbm, ⟨14, _⟩ => ⟨S16x2048x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x9x1024, .f32⟩
  | .local _ .vmem, ⟨7, _⟩ => ⟨S1x9x1024, .f32⟩
  | .local _ .vmem, ⟨8, _⟩ => ⟨S3x1024, .f32⟩
  | .local _ .vmem, ⟨9, _⟩ => ⟨S3x1024, .f32⟩
  | .local _ .vmem, ⟨10, _⟩ => ⟨S1024x1024, .bf16⟩
  | .local _ .vmem, ⟨11, _⟩ => ⟨S1x1x1024x2816, .bf16⟩
  | .local _ .vmem, ⟨12, _⟩ => ⟨S1x1x1024x2816, .bf16⟩
  | .local _ .vmem, ⟨13, _⟩ => ⟨S1x1x2816x1024, .bf16⟩
  | .local _ .vmem, ⟨14, _⟩ => ⟨S1x1024x1024, .f32⟩
  | .local _ .vmem, ⟨15, _⟩ => ⟨S1x1024x1024, .f32⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnAbRefIdeal.lean ====
abbrev S16x2048x512 : Shape := ⟨3, ![16, 2048, 512]⟩
abbrev S16x2048x1024 : Shape := ⟨3, ![16, 2048, 1024]⟩
abbrev S24x9x1024 : Shape := ⟨3, ![24, 9, 1024]⟩
abbrev S3x1024 : Shape := ⟨2, ![3, 1024]⟩
abbrev S1024x1024 : Shape := ⟨2, ![1024, 1024]⟩
abbrev S2x2x1024x2816 : Shape := ⟨4, ![2, 2, 1024, 2816]⟩
abbrev S2x2x2816x1024 : Shape := ⟨4, ![2, 2, 2816, 1024]⟩
abbrev S16x1x1024 : Shape := ⟨3, ![16, 1, 1024]⟩
abbrev S1x1024 : Shape := ⟨2, ![1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S16x2048x2816 : Shape := ⟨3, ![16, 2048, 2816]⟩

abbrev nBuf : Space → Nat
  | .hbm => 104
  | .vmem => 0
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x1024, .f32⟩
  | .hbm, ⟨3, _⟩ => ⟨S24x9x1024, .f32⟩
  | .hbm, ⟨4, _⟩ => ⟨S3x1024, .f32⟩
  | .hbm, ⟨5, _⟩ => ⟨S3x1024, .f32⟩
  | .hbm, ⟨6, _⟩ => ⟨S1024x1024, .f32⟩
  | .hbm, ⟨7, _⟩ => ⟨S2x2x1024x2816, .f32⟩
  | .hbm, ⟨8, _⟩ => ⟨S2x2x1024x2816, .f32⟩
  | .hbm, ⟨9, _⟩ => ⟨S2x2x2816x1024, .f32⟩
  | .hbm, ⟨10, _⟩ => ⟨S16x2048x512, .f32⟩
  | .hbm, ⟨11, _⟩ => ⟨S16x2048x512, .f32⟩
  | .hbm, ⟨12, _⟩ => ⟨S16x2048x1024, .f32⟩
  | .hbm, ⟨13, _⟩ => ⟨S16x2048x1024, .f32⟩
  | .hbm, ⟨14, _⟩ => ⟨S16x1x1024, .f32⟩
  | .hbm, ⟨15, _⟩ => ⟨S1x1024, .f32⟩
  | .hbm, ⟨16, _⟩ => ⟨S16x2048x1024, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S16x2048x1, .f32⟩
  | .hbm, ⟨27, _⟩ => ⟨S16x2048x1024, .f32⟩
  | .hbm, ⟨28, _⟩ => ⟨S16x2048x1024, .f32⟩
  | .hbm, ⟨29, _⟩ => ⟨S1x1x1024, .f32⟩
  | .hbm, ⟨30, _⟩ => ⟨S16x2048x1024, .f32⟩
  | .hbm, ⟨31, _⟩ => ⟨S16x2048x1024, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S1x1x1024x2816, .f32⟩
  | .hbm, ⟨36, _⟩ => ⟨S1024x2816, .f32⟩
  | .hbm, ⟨37, _⟩ => ⟨S1x1x1024x2816, .f32⟩
  | .hbm, ⟨38, _⟩ => ⟨S1024x2816, .f32⟩
  | .hbm, ⟨39, _⟩ => ⟨S1x1x2816x1024, .f32⟩
  | .hbm, ⟨40, _⟩ => ⟨S2816x1024, .f32⟩
  | .hbm, ⟨41, _⟩ => ⟨S1x1024, .f32⟩
  | .hbm, ⟨42, _⟩ => ⟨S16x2048x1024, .f32⟩
  | .hbm, ⟨43, _⟩ => ⟨S_, .f32⟩
  | .hbm, ⟨44, _⟩ => ⟨S16x2048, .f32⟩
  | .hbm, ⟨45, _⟩ => ⟨S16x2048x1, .f32⟩
  | .hbm, ⟨46, _⟩ => ⟨S_, .f32⟩
  | .hbm, ⟨47, _⟩ => ⟨S16x2048x1, .f32⟩
  | .hbm, ⟨48, _⟩ => ⟨S16x2048x1, .f32⟩
  | .hbm, ⟨49, _⟩ => ⟨S_, .f32⟩
  | .hbm, ⟨50, _⟩ => ⟨S16x2048x1, .f32⟩
  | .hbm, ⟨51, _⟩ => ⟨S16x2048x1, .f32⟩
  | .hbm, ⟨52, _⟩ => ⟨S16x2048x1, .f32⟩
  | .hbm, ⟨53, _⟩ => ⟨S16x2048x1024, .f32⟩
  | .hbm, ⟨54, _⟩ => ⟨S16x2048x1024, .f32⟩
  | .hbm, ⟨55, _⟩ => ⟨S1x1x1024, .f32⟩
  | .hbm, ⟨56, _⟩ => ⟨S16x2048x1024, .f32⟩
  | .hbm, ⟨57, _⟩ => ⟨S16x2048x1024, .f32⟩
  | .hbm, ⟨58, _⟩ => ⟨S16x1x1024, .f32⟩
  | .hbm, ⟨59, _⟩ => ⟨S_, .f32⟩
  | .hbm, ⟨60, _⟩ => ⟨S16x1x1024, .f32⟩
  | .hbm, ⟨61, _⟩ => ⟨S16x1x1024, .f32⟩
  | .hbm, ⟨62, _⟩ => ⟨S16x2048x1024, .f32⟩
  | .hbm, ⟨63, _⟩ => ⟨S16x2048x1024, .f32⟩
  | .hbm, ⟨64, _⟩ => ⟨S16x1x1024, .f32⟩
  | .hbm, ⟨65, _⟩ => ⟨S16x2048x1024, .f32⟩
  | .hbm, ⟨66, _⟩ => ⟨S16x2048x1024, .f32⟩
  | .hbm, ⟨67, _⟩ => ⟨S16x2048x2816, .f32⟩
  | .hbm, ⟨68, _⟩ => ⟨S16x2048x2816, .f32⟩
  | .hbm, ⟨69, _⟩ => ⟨S16x2048x2816, .f32⟩
  | .hbm, ⟨70, _⟩ => ⟨S_, .f32⟩
  | .hbm, ⟨71, _⟩ => ⟨S16x2048x2816, .f32⟩
  | .hbm, ⟨72, _⟩ => ⟨S16x2048x2816, .f32⟩
  | .hbm, ⟨73, _⟩ => ⟨S_, .f32⟩
  | .hbm, ⟨74, _⟩ => ⟨S16x2048x2816, .f32⟩
  | .hbm, ⟨75, _⟩ => ⟨S16x2048x2816, .f32⟩
  | .hbm, ⟨76, _⟩ => ⟨S16x2048x2816, .f32⟩
  | .hbm, ⟨77, _⟩ => ⟨S16x2048x2816, .f32⟩
  | .hbm, ⟨78, _⟩ => ⟨S16x2048x2816, .f32⟩
  | .hbm, ⟨79, _⟩ => ⟨S16x2048x1024, .f32⟩
  | .hbm, ⟨80, _⟩ => ⟨S16x1x1024, .f32⟩
  | .hbm, ⟨81, _⟩ => ⟨S_, .f32⟩
  | .hbm, ⟨82, _⟩ => ⟨S16x1x1024, .f32⟩
  | .hbm, ⟨83, _⟩ => ⟨S16x1x1024, .f32⟩
  | .hbm, ⟨84, _⟩ => ⟨S1x1024, .f32⟩
  | .hbm, ⟨85, _⟩ => ⟨S16x2048x1024, .f32⟩
  | .hbm, ⟨86, _⟩ => ⟨S_, .f32⟩
  | .hbm, ⟨87, _⟩ => ⟨S16x2048, .f32⟩
  | .hbm, ⟨88, _⟩ => ⟨S16x2048x1, .f32⟩
  | .hbm, ⟨89, _⟩ => ⟨S_, .f32⟩
  | .hbm, ⟨90, _⟩ => ⟨S16x2048x1, .f32⟩
  | .hbm, ⟨91, _⟩ => ⟨S16x2048x1, .f32⟩
  | .hbm, ⟨92, _⟩ => ⟨S_, .f32⟩
  | .hbm, ⟨93, _⟩ => ⟨S16x2048x1, .f32⟩
  | .hbm, ⟨94, _⟩ => ⟨S16x2048x1, .f32⟩
  | .hbm, ⟨95, _⟩ => ⟨S16x2048x1, .f32⟩
  | .hbm, ⟨96, _⟩ => ⟨S16x2048x1024, .f32⟩
  | .hbm, ⟨97, _⟩ => ⟨S16x2048x1024, .f32⟩
  | .hbm, ⟨98, _⟩ => ⟨S1x1x1024, .f32⟩
  | .hbm, ⟨99, _⟩ => ⟨S16x2048x1024, .f32⟩
  | .hbm, ⟨100, _⟩ => ⟨S16x2048x1024, .f32⟩
  | .hbm, ⟨101, _⟩ => ⟨S16x2048x1024, .f32⟩
  | .hbm, ⟨102, _⟩ => ⟨S16x2048x1024, .f32⟩
  | .hbm, ⟨103, _⟩ => ⟨S16x2048x1024, .f32⟩
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_6 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_7 : Ref sig .tc := ⟨.hbm, 86, rfl⟩
abbrev main_v60 : Ref sig .tc := ⟨.hbm, 87, rfl⟩
abbrev main_v61 : Ref sig .tc := ⟨.hbm, 88, rfl⟩
abbrev main_cst_8 : Ref sig .tc := ⟨.hbm, 89, rfl⟩
abbrev main_v62 : Ref sig .tc := ⟨.hbm, 90, rfl⟩
abbrev main_v63 : Ref sig .tc := ⟨.hbm, 91, rfl⟩
abbrev main_cst_9 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩

abbrev nD : Nat := 1
abbrev τ : Topo := Topo.v7x

variable {F : FTy → Type} [FloatOps F]
-- ==== FfnC.lean ====
abbrev S16x2048x1024 : Shape := ⟨3, ![16, 2048, 1024]⟩
abbrev S24x9x1024 : Shape := ⟨3, ![24, 9, 1024]⟩
abbrev S3x1024 : Shape := ⟨2, ![3, 1024]⟩
abbrev S1024x1024 : Shape := ⟨2, ![1024, 1024]⟩
abbrev S2x2x1024x2816 : Shape := ⟨4, ![2, 2, 1024, 2816]⟩
abbrev S2x2x2816x1024 : Shape := ⟨4, ![2, 2, 2816, 1024]⟩
abbrev S1x1024x1024 : Shape := ⟨3, ![1, 1024, 1024]⟩
abbrev S1x9x1024 : Shape := ⟨3, ![1, 9, 1024]⟩
abbrev S1x1x1024x2816 : Shape := ⟨4, ![1, 1, 1024, 2816]⟩
abbrev S1x1x2816x1024 : Shape := ⟨4, ![1, 1, 2816, 1024]⟩
abbrev S1x256x1024 : Shape := ⟨3, ![1, 256, 1024]⟩
abbrev S256x1024 : Shape := ⟨2, ![256, 1024]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 14
  | .vmem => 14
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .f32⟩
  | .hbm, ⟨2, _⟩ => ⟨S24x9x1024, .f32⟩
  | .hbm, ⟨3, _⟩ => ⟨S3x1024, .f32⟩
  | .hbm, ⟨4, _⟩ => ⟨S3x1024, .f32⟩
  | .hbm, ⟨5, _⟩ => ⟨S1024x1024, .f32⟩
  | .hbm, ⟨6, _⟩ => ⟨S2x2x1024x2816, .f32⟩
  | .hbm, ⟨7, _⟩ => ⟨S2x2x1024x2816, .f32⟩
  | .hbm, ⟨8, _⟩ => ⟨S2x2x2816x1024, .f32⟩
  | .hbm, ⟨9, _⟩ => ⟨S2x2x1024x2816, .bf16⟩
  | .hbm, ⟨10, _⟩ => ⟨S2x2x1024x2816, .bf16⟩
  | .hbm, ⟨11, _⟩ => ⟨S2x2x2816x1024, .bf16⟩
  | .hbm, ⟨12, _⟩ => ⟨S1024x1024, .bf16⟩
  | .hbm, ⟨13, _⟩ => ⟨S16x2048x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x9x1024, .f32⟩
  | .local _ .vmem, ⟨5, _⟩ => ⟨S1x9x1024, .f32⟩
  | .local _ .vmem, ⟨6, _⟩ => ⟨S3x1024, .f32⟩
  | .local _ .vmem, ⟨7, _⟩ => ⟨S3x1024, .f32⟩
  | .local _ .vmem, ⟨8, _⟩ => ⟨S1024x1024, .bf16⟩
  | .local _ .vmem, ⟨9, _⟩ => ⟨S1x1x1024x2816, .bf16⟩
  | .local _ .vmem, ⟨10, _⟩ => ⟨S1x1x1024x2816, .bf16⟩
  | .local _ .vmem, ⟨11, _⟩ => ⟨S1x1x2816x1024, .bf16⟩
  | .local _ .vmem, ⟨12, _⟩ => ⟨S1x1024x1024, .f32⟩
  | .local _ .vmem, ⟨13, _⟩ => ⟨S1x1024x1024, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_8 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnCRefIdeal.lean ====
abbrev S16x2048x1024 : Shape := ⟨3, ![16, 2048, 1024]⟩
abbrev S24x9x1024 : Shape := ⟨3, ![24, 9, 1024]⟩
abbrev S3x1024 : Shape := ⟨2, ![3, 1024]⟩
abbrev S1024x1024 : Shape := ⟨2, ![1024, 1024]⟩
abbrev S2x2x1024x2816 : Shape := ⟨4, ![2, 2, 1024, 2816]⟩
abbrev S2x2x2816x1024 : Shape := ⟨4, ![2, 2, 2816, 1024]⟩
abbrev S16x1x1024 : Shape := ⟨3, ![16, 1, 1024]⟩
abbrev S1x1024 : Shape := ⟨2, ![1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S16x2048x2816 : Shape := ⟨3, ![16, 2048, 2816]⟩

abbrev nBuf : Space → Nat
  | .hbm => 101
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .f32⟩
  | .hbm, ⟨2, _⟩ => ⟨S24x9x1024, .f32⟩
  | .hbm, ⟨3, _⟩ => ⟨S3x1024, .f32⟩
  | .hbm, ⟨4, _⟩ => ⟨S3x1024, .f32⟩
  | .hbm, ⟨5, _⟩ => ⟨S1024x1024, .f32⟩
  | .hbm, ⟨6, _⟩ => ⟨S2x2x1024x2816, .f32⟩
  | .hbm, ⟨7, _⟩ => ⟨S2x2x1024x2816, .f32⟩
  | .hbm, ⟨8, _⟩ => ⟨S2x2x2816x1024, .f32⟩
  | .hbm, ⟨9, _⟩ => ⟨S16x1x1024, .f32⟩
  | .hbm, ⟨10, _⟩ => ⟨S16x2048x1024, .f32⟩
  | .hbm, ⟨11, _⟩ => ⟨S16x2048x1024, .f32⟩
  | .hbm, ⟨12, _⟩ => ⟨S1x1024, .f32⟩
  | .hbm, ⟨13, _⟩ => ⟨S16x2048x1024, .f32⟩
  | .hbm, ⟨14, _⟩ => ⟨S_, .f32⟩
  | .hbm, ⟨15, _⟩ => ⟨S16x2048, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S16x2048x1, .f32⟩
  | .hbm, ⟨24, _⟩ => ⟨S16x2048x1024, .f32⟩
  | .hbm, ⟨25, _⟩ => ⟨S16x2048x1024, .f32⟩
  | .hbm, ⟨26, _⟩ => ⟨S1x1x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S16x2048x1024, .f32⟩
  | .hbm, ⟨32, _⟩ => ⟨S1x1x1024x2816, .f32⟩
  | .hbm, ⟨33, _⟩ => ⟨S1024x2816, .f32⟩
  | .hbm, ⟨34, _⟩ => ⟨S1x1x1024x2816, .f32⟩
  | .hbm, ⟨35, _⟩ => ⟨S1024x2816, .f32⟩
  | .hbm, ⟨36, _⟩ => ⟨S1x1x2816x1024, .f32⟩
  | .hbm, ⟨37, _⟩ => ⟨S2816x1024, .f32⟩
  | .hbm, ⟨38, _⟩ => ⟨S1x1024, .f32⟩
  | .hbm, ⟨39, _⟩ => ⟨S16x2048x1024, .f32⟩
  | .hbm, ⟨40, _⟩ => ⟨S_, .f32⟩
  | .hbm, ⟨41, _⟩ => ⟨S16x2048, .f32⟩
  | .hbm, ⟨42, _⟩ => ⟨S16x2048x1, .f32⟩
  | .hbm, ⟨43, _⟩ => ⟨S_, .f32⟩
  | .hbm, ⟨44, _⟩ => ⟨S16x2048x1, .f32⟩
  | .hbm, ⟨45, _⟩ => ⟨S16x2048x1, .f32⟩
  | .hbm, ⟨46, _⟩ => ⟨S_, .f32⟩
  | .hbm, ⟨47, _⟩ => ⟨S16x2048x1, .f32⟩
  | .hbm, ⟨48, _⟩ => ⟨S16x2048x1, .f32⟩
  | .hbm, ⟨49, _⟩ => ⟨S16x2048x1, .f32⟩
  | .hbm, ⟨50, _⟩ => ⟨S16x2048x1024, .f32⟩
  | .hbm, ⟨51, _⟩ => ⟨S16x2048x1024, .f32⟩
  | .hbm, ⟨52, _⟩ => ⟨S1x1x1024, .f32⟩
  | .hbm, ⟨53, _⟩ => ⟨S16x2048x1024, .f32⟩
  | .hbm, ⟨54, _⟩ => ⟨S16x2048x1024, .f32⟩
  | .hbm, ⟨55, _⟩ => ⟨S16x1x1024, .f32⟩
  | .hbm, ⟨56, _⟩ => ⟨S_, .f32⟩
  | .hbm, ⟨57, _⟩ => ⟨S16x1x1024, .f32⟩
  | .hbm, ⟨58, _⟩ => ⟨S16x1x1024, .f32⟩
  | .hbm, ⟨59, _⟩ => ⟨S16x2048x1024, .f32⟩
  | .hbm, ⟨60, _⟩ => ⟨S16x2048x1024, .f32⟩
  | .hbm, ⟨61, _⟩ => ⟨S16x1x1024, .f32⟩
  | .hbm, ⟨62, _⟩ => ⟨S16x2048x1024, .f32⟩
  | .hbm, ⟨63, _⟩ => ⟨S16x2048x1024, .f32⟩
  | .hbm, ⟨64, _⟩ => ⟨S16x2048x2816, .f32⟩
  | .hbm, ⟨65, _⟩ => ⟨S16x2048x2816, .f32⟩
  | .hbm, ⟨66, _⟩ => ⟨S16x2048x2816, .f32⟩
  | .hbm, ⟨67, _⟩ => ⟨S_, .f32⟩
  | .hbm, ⟨68, _⟩ => ⟨S16x2048x2816, .f32⟩
  | .hbm, ⟨69, _⟩ => ⟨S16x2048x2816, .f32⟩
  | .hbm, ⟨70, _⟩ => ⟨S_, .f32⟩
  | .hbm, ⟨71, _⟩ => ⟨S16x2048x2816, .f32⟩
  | .hbm, ⟨72, _⟩ => ⟨S16x2048x2816, .f32⟩
  | .hbm, ⟨73, _⟩ => ⟨S16x2048x2816, .f32⟩
  | .hbm, ⟨74, _⟩ => ⟨S16x2048x2816, .f32⟩
  | .hbm, ⟨75, _⟩ => ⟨S16x2048x2816, .f32⟩
  | .hbm, ⟨76, _⟩ => ⟨S16x2048x1024, .f32⟩
  | .hbm, ⟨77, _⟩ => ⟨S16x1x1024, .f32⟩
  | .hbm, ⟨78, _⟩ => ⟨S_, .f32⟩
  | .hbm, ⟨79, _⟩ => ⟨S16x1x1024, .f32⟩
  | .hbm, ⟨80, _⟩ => ⟨S16x1x1024, .f32⟩
  | .hbm, ⟨81, _⟩ => ⟨S1x1024, .f32⟩
  | .hbm, ⟨82, _⟩ => ⟨S16x2048x1024, .f32⟩
  | .hbm, ⟨83, _⟩ => ⟨S_, .f32⟩
  | .hbm, ⟨84, _⟩ => ⟨S16x2048, .f32⟩
  | .hbm, ⟨85, _⟩ => ⟨S16x2048x1, .f32⟩
  | .hbm, ⟨86, _⟩ => ⟨S_, .f32⟩
  | .hbm, ⟨87, _⟩ => ⟨S16x2048x1, .f32⟩
  | .hbm, ⟨88, _⟩ => ⟨S16x2048x1, .f32⟩
  | .hbm, ⟨89, _⟩ => ⟨S_, .f32⟩
  | .hbm, ⟨90, _⟩ => ⟨S16x2048x1, .f32⟩
  | .hbm, ⟨91, _⟩ => ⟨S16x2048x1, .f32⟩
  | .hbm, ⟨92, _⟩ => ⟨S16x2048x1, .f32⟩
  | .hbm, ⟨93, _⟩ => ⟨S16x2048x1024, .f32⟩
  | .hbm, ⟨94, _⟩ => ⟨S16x2048x1024, .f32⟩
  | .hbm, ⟨95, _⟩ => ⟨S1x1x1024, .f32⟩
  | .hbm, ⟨96, _⟩ => ⟨S16x2048x1024, .f32⟩
  | .hbm, ⟨97, _⟩ => ⟨S16x2048x1024, .f32⟩
  | .hbm, ⟨98, _⟩ => ⟨S16x2048x1024, .f32⟩
  | .hbm, ⟨99, _⟩ => ⟨S16x2048x1024, .f32⟩
  | .hbm, ⟨100, _⟩ => ⟨S16x2048x1024, .f32⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_6 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_7 : Ref sig .tc := ⟨.hbm, 83, rfl⟩
abbrev main_v58 : Ref sig .tc := ⟨.hbm, 84, rfl⟩
abbrev main_v59 : Ref sig .tc := ⟨.hbm, 85, rfl⟩
abbrev main_cst_8 : Ref sig .tc := ⟨.hbm, 86, rfl⟩
abbrev main_v60 : Ref sig .tc := ⟨.hbm, 87, rfl⟩
abbrev main_v61 : Ref sig .tc := ⟨.hbm, 88, rfl⟩
abbrev main_cst_9 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩

abbrev nD : Nat := 1
abbrev τ : Topo := Topo.v7x

variable {F : FTy → Type} [FloatOps F]
-- ==== Gqa.lean ====
abbrev S16x2048x2304 : Shape := ⟨3, ![16, 2048, 2304]⟩
abbrev S16x256x2304 : Shape := ⟨3, ![16, 256, 2304]⟩
abbrev S16x2048x512 : Shape := ⟨3, ![16, 2048, 512]⟩
abbrev S1x256x512 : Shape := ⟨3, ![1, 256, 512]⟩
abbrev S1x256x128 : Shape := ⟨3, ![1, 256, 128]⟩
abbrev S1x2048x128 : Shape := ⟨3, ![1, 2048, 128]⟩
abbrev S256x128 : Shape := ⟨2, ![256, 128]⟩
abbrev S512x128 : Shape := ⟨2, ![512, 128]⟩
abbrev S512x256 : Shape := ⟨2, ![512, 256]⟩
abbrev S2048x128 : Shape := ⟨2, ![2048, 128]⟩
abbrev S512x2048 : Shape := ⟨2, ![512, 2048]⟩
abbrev S512x2304 : Shape := ⟨2, ![512, 2304]⟩
abbrev S512 : Shape := ⟨1, ![512]⟩
abbrev S512x1 : Shape := ⟨2, ![512, 1]⟩
abbrev S256x256 : Shape := ⟨2, ![256, 256]⟩
abbrev S2048x256 : Shape := ⟨2, ![2048, 256]⟩

abbrev nBuf : Space → Nat
  | .hbm => 3
  | .vmem => 12
  | .smem => 0
  | _ => 0

abbrev bufTy : (tb : Table) → Fin (tcTables nBuf tb) → BufTy
  | .hbm, ⟨0, _⟩ => ⟨S16x2048x2304, .bf16⟩
  | .hbm, ⟨1, _⟩ => ⟨S16x256x2304, .bf16⟩
  | .hbm, ⟨2, _⟩ => ⟨S16x2048x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x128, .bf16⟩
  | .local _ .vmem, ⟨3, _⟩ => ⟨S1x256x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x256x512, .bf16⟩
  | .local _ .vmem, ⟨11, _⟩ => ⟨S1x256x512, .bf16⟩
  | _, _ => ⟨S16x2048x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 1, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c4_i32 : BitVec 32 := 4#32
  let c0_i32_0 : BitVec 32 := 0#32
  ![arg0.toNat, c0_i32.toNat, c4_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c4_i32 : BitVec 32 := 4#32
  let c0_i32_0 : BitVec 32 := 0#32
  ![arg0.toNat, c0_i32.toNat, c4_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c5_i32 : BitVec 32 := 5#32
  let c0_i32_0 : BitVec 32 := 0#32
  ![arg0.toNat, c0_i32.toNat, c5_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c5_i32 : BitVec 32 := 5#32
  let c0_i32_0 : BitVec 32 := 0#32
  ![arg0.toNat, c0_i32.toNat, c5_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== GqaRefIdeal.lean ====
abbrev S16x2048x2304 : Shape := ⟨3, ![16, 2048, 2304]⟩
abbrev S16x256x2304 : Shape := ⟨3, ![16, 256, 2304]⟩
abbrev S16x2048x512 : Shape := ⟨3, ![16, 2048, 512]⟩
abbrev S16x2048x4x2x2x32 : Shape := ⟨6, ![16, 2048, 4, 2, 2, 32]⟩
abbrev S16x2048x2x4x2x32 : Shape := ⟨6, ![16, 2048, 2, 4, 2, 32]⟩
abbrev S16x2048x2x4x64 : Shape := ⟨5, ![16, 2048, 2, 4, 64]⟩
abbrev S16x256x128 : Shape := ⟨3, ![16, 256, 128]⟩
abbrev S16x256x2x2x32 : Shape := ⟨5, ![16, 256, 2, 2, 32]⟩
abbrev S16x256x2x64 : Shape := ⟨4, ![16, 256, 2, 64]⟩
abbrev S16x2048x128 : Shape := ⟨3, ![16, 2048, 128]⟩
abbrev S16x2048x2x2x32 : Shape := ⟨5, ![16, 2048, 2, 2, 32]⟩
abbrev S16x2048x2x64 : Shape := ⟨4, ![16, 2048, 2, 64]⟩
abbrev S16x2304x2x64 : Shape := ⟨4, ![16, 2304, 2, 64]⟩
abbrev S16x2x2304x2048x4 : Shape := ⟨5, ![16, 2, 2304, 2048, 4]⟩
abbrev S16x2x4x2048x2304 : Shape := ⟨5, ![16, 2, 4, 2048, 2304]⟩
abbrev S_ : Shape := ⟨0, ![]⟩
abbrev S16x2x4x2048 : Shape := ⟨4, ![16, 2, 4, 2048]⟩
abbrev S16x2x4x2048x1 : Shape := ⟨5, ![16, 2, 4, 2048, 1]⟩
abbrev S16x2x64x4x2048 : Shape := ⟨5, ![16, 2, 64, 4, 2048]⟩
abbrev S16x2048x4x2x64 : Shape := ⟨5, ![16, 2048, 4, 2, 64]⟩

abbrev nBuf : Space → Nat
  | .hbm => 42
  | .vmem => 0
  | .smem => 0
  | _ => 0

abbrev bufTy : (tb : Table) → Fin (tcTables nBuf tb) → BufTy
  | .hbm, ⟨0, _⟩ => ⟨S16x2048x2304, .bf16⟩
  | .hbm, ⟨1, _⟩ => ⟨S16x256x2304, .bf16⟩
  | .hbm, ⟨2, _⟩ => ⟨S16x2048x2304, .f32⟩
  | .hbm, ⟨3, _⟩ => ⟨S16x256x2304, .f32⟩
  | .hbm, ⟨4, _⟩ => ⟨S16x2048x512, .f32⟩
  | .hbm, ⟨5, _⟩ => ⟨S16x2048x4x2x2x32, .f32⟩
  | .hbm, ⟨6, _⟩ => ⟨S16x2048x2x4x2x32, .f32⟩
  | .hbm, ⟨7, _⟩ => ⟨S16x2048x2x4x64, .f32⟩
  | .hbm, ⟨8, _⟩ => ⟨S16x256x128, .f32⟩
  | .hbm, ⟨9, _⟩ => ⟨S16x256x2x2x32, .f32⟩
  | .hbm, ⟨10, _⟩ => ⟨S16x256x2x2x32, .f32⟩
  | .hbm, ⟨11, _⟩ => ⟨S16x256x2x64, .f32⟩
  | .hbm, ⟨12, _⟩ => ⟨S16x256x128, .f32⟩
  | .hbm, ⟨13, _⟩ => ⟨S16x256x2x64, .f32⟩
  | .hbm, ⟨14, _⟩ => ⟨S16x2048x128, .f32⟩
  | .hbm, ⟨15, _⟩ => ⟨S16x2048x2x2x32, .f32⟩
  | .hbm, ⟨16, _⟩ => ⟨S16x2048x2x2x32, .f32⟩
  | .hbm, ⟨17, _⟩ => ⟨S16x2048x2x64, .f32⟩
  | .hbm, ⟨18, _⟩ => ⟨S16x2048x128, .f32⟩
  | .hbm, ⟨19, _⟩ => ⟨S16x2048x2x64, .f32⟩
  | .hbm, ⟨20, _⟩ => ⟨S16x2304x2x64, .f32⟩
  | .hbm, ⟨21, _⟩ => ⟨S16x2304x2x64, .f32⟩
  | .hbm, ⟨22, _⟩ => ⟨S16x2x2304x2048x4, .f32⟩
  | .hbm, ⟨23, _⟩ => ⟨S16x2x4x2048x2304, .f32⟩
  | .hbm, ⟨24, _⟩ => ⟨S_, .f32⟩
  | .hbm, ⟨25, _⟩ => ⟨S16x2x4x2048, .f32⟩
  | .hbm, ⟨26, _⟩ => ⟨S16x2x4x2048x1, .f32⟩
  | .hbm, ⟨27, _⟩ => ⟨S16x2x4x2048x2304, .f32⟩
  | .hbm, ⟨28, _⟩ => ⟨S16x2x4x2048x2304, .f32⟩
  | .hbm, ⟨29, _⟩ => ⟨S_, .f32⟩
  | .hbm, ⟨30, _⟩ => ⟨S16x2x4x2048x2304, .f32⟩
  | .hbm, ⟨31, _⟩ => ⟨S16x2x4x2048x2304, .f32⟩
  | .hbm, ⟨32, _⟩ => ⟨S_, .f32⟩
  | .hbm, ⟨33, _⟩ => ⟨S16x2x4x2048, .f32⟩
  | .hbm, ⟨34, _⟩ => ⟨S16x2x4x2048x1, .f32⟩
  | .hbm, ⟨35, _⟩ => ⟨S16x2x4x2048x2304, .f32⟩
  | .hbm, ⟨36, _⟩ => ⟨S16x2x4x2048x2304, .f32⟩
  | .hbm, ⟨37, _⟩ => ⟨S16x2x64x4x2048, .f32⟩
  | .hbm, ⟨38, _⟩ => ⟨S16x2048x2x4x64, .f32⟩
  | .hbm, ⟨39, _⟩ => ⟨S16x2048x4x2x64, .f32⟩
  | .hbm, ⟨40, _⟩ => ⟨S16x2048x512, .f32⟩
  | .hbm, ⟨41, _⟩ => ⟨S16x2048x512, .bf16⟩
  | _, _ => ⟨S16x2048x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_cst : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst_0 : Ref sig .tc := ⟨.hbm, 29, rfl⟩
abbrev main_v26 : Ref sig .tc := ⟨.hbm, 30, rfl⟩
abbrev main_v27 : Ref sig .tc := ⟨.hbm, 31, rfl⟩
abbrev main_cst_1 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩

abbrev nD : Nat := 1
abbrev τ : Topo := Topo.v7x

variable {F : FTy → Type} [FloatOps F]
-- ==== Diff.lean ====
abbrev S16x2048x2304 : Shape := ⟨3, ![16, 2048, 2304]⟩
abbrev S16x256x2304 : Shape := ⟨3, ![16, 256, 2304]⟩
abbrev S64 : Shape := ⟨1, ![64]⟩
abbrev S128 : Shape := ⟨1, ![128]⟩
abbrev S_ : Shape := ⟨0, ![]⟩
abbrev S1x128 : Shape := ⟨2, ![1, 128]⟩
abbrev S4x128 : Shape := ⟨2, ![4, 128]⟩
abbrev S8x128 : Shape := ⟨2, ![8, 128]⟩
abbrev S7x128 : Shape := ⟨2, ![7, 128]⟩
abbrev S16x2048x512 : Shape := ⟨3, ![16, 2048, 512]⟩
abbrev S1x512x256 : Shape := ⟨3, ![1, 512, 256]⟩
abbrev S1x256x256 : Shape := ⟨3, ![1, 256, 256]⟩
abbrev S1x2048x256 : Shape := ⟨3, ![1, 2048, 256]⟩
abbrev S1 : Shape := ⟨1, ![1]⟩
abbrev S1x1 : Shape := ⟨2, ![1, 1]⟩
abbrev S1x512x128 : Shape := ⟨3, ![1, 512, 128]⟩
abbrev S512x128 : Shape := ⟨2, ![512, 128]⟩
abbrev S1024x128 : Shape := ⟨2, ![1024, 128]⟩
abbrev S1x256x128 : Shape := ⟨3, ![1, 256, 128]⟩
abbrev S256x128 : Shape := ⟨2, ![256, 128]⟩
abbrev S1024x256 : Shape := ⟨2, ![1024, 256]⟩
abbrev S1x2048x128 : Shape := ⟨3, ![1, 2048, 128]⟩
abbrev S2048x128 : Shape := ⟨2, ![2048, 128]⟩
abbrev S1024x2048 : Shape := ⟨2, ![1024, 2048]⟩
abbrev S1024x2304 : Shape := ⟨2, ![1024, 2304]⟩
abbrev S1024 : Shape := ⟨1, ![1024]⟩
abbrev S1024x1 : Shape := ⟨2, ![1024, 1]⟩
abbrev S256x256 : Shape := ⟨2, ![256, 256]⟩
abbrev S2048x256 : Shape := ⟨2, ![2048, 256]⟩
abbrev S512 : Shape := ⟨1, ![512]⟩
abbrev S512x1 : Shape := ⟨2, ![512, 1]⟩

abbrev nBuf : Space → Nat
  | .hbm => 32
  | .vmem => 14
  | .smem => 0
  | _ => 0

abbrev bufTy : (tb : Table) → Fin (tcTables nBuf tb) → BufTy
  | .hbm, ⟨0, _⟩ => ⟨S16x2048x2304, .bf16⟩
  | .hbm, ⟨1, _⟩ => ⟨S16x256x2304, .bf16⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S4x128, .f32⟩
  | .hbm, ⟨24, _⟩ => ⟨S_, .f32⟩
  | .hbm, ⟨25, _⟩ => ⟨S4x128, .f32⟩
  | .hbm, ⟨26, _⟩ => ⟨S8x128, .f32⟩
  | .hbm, ⟨27, _⟩ => ⟨S1x128, .f32⟩
  | .hbm, ⟨28, _⟩ => ⟨S_, .f32⟩
  | .hbm, ⟨29, _⟩ => ⟨S7x128, .f32⟩
  | .hbm, ⟨30, _⟩ => ⟨S8x128, .f32⟩
  | .hbm, ⟨31, _⟩ => ⟨S16x2048x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S8x128, .f32⟩
  | .local _ .vmem, ⟨11, _⟩ => ⟨S8x128, .f32⟩
  | .local _ .vmem, ⟨12, _⟩ => ⟨S1x512x256, .bf16⟩
  | .local _ .vmem, ⟨13, _⟩ => ⟨S1x512x256, .bf16⟩
  | _, _ => ⟨S16x2048x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_c_1 : Ref sig .tc := ⟨.hbm, 13, rfl⟩
abbrev main_call2_v0 : Ref sig .tc := ⟨.hbm, 14, rfl⟩
abbrev main_v2 : Ref sig .tc := ⟨.hbm, 15, rfl⟩
abbrev main_c_2 : Ref sig .tc := ⟨.hbm, 16, rfl⟩
abbrev main_call3_v0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![16, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi c5_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi c5_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi c7_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi c7_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== DiffRefIdeal.lean ====
abbrev S16x2048x2304 : Shape := ⟨3, ![16, 2048, 2304]⟩
abbrev S16x256x2304 : Shape := ⟨3, ![16, 256, 2304]⟩
abbrev S64 : Shape := ⟨1, ![64]⟩
abbrev S128 : Shape := ⟨1, ![128]⟩
abbrev S16x2048x512 : Shape := ⟨3, ![16, 2048, 512]⟩
abbrev S16x2048x4x2x2x32 : Shape := ⟨6, ![16, 2048, 4, 2, 2, 32]⟩
abbrev S16x2048x4x2x64 : Shape := ⟨5, ![16, 2048, 4, 2, 64]⟩
abbrev S16x256x512 : Shape := ⟨3, ![16, 256, 512]⟩
abbrev S16x256x4x2x2x32 : Shape := ⟨6, ![16, 256, 4, 2, 2, 32]⟩
abbrev S16x256x4x2x64 : Shape := ⟨5, ![16, 256, 4, 2, 64]⟩
abbrev S16x2304x4x2x64 : Shape := ⟨5, ![16, 2304, 4, 2, 64]⟩
abbrev S16x256x4x128 : Shape := ⟨4, ![16, 256, 4, 128]⟩
abbrev S16x2048x4x128 : Shape := ⟨4, ![16, 2048, 4, 128]⟩
abbrev S16x2304x4x128 : Shape := ⟨4, ![16, 2304, 4, 128]⟩
abbrev S_ : Shape := ⟨0, ![]⟩
abbrev S16x4x2x2048x2304 : Shape := ⟨5, ![16, 4, 2, 2048, 2304]⟩
abbrev S16x4x2x2048 : Shape := ⟨4, ![16, 4, 2, 2048]⟩
abbrev S16x4x2x2048x1 : Shape := ⟨5, ![16, 4, 2, 2048, 1]⟩
abbrev S16x4x1x2048x2304 : Shape := ⟨5, ![16, 4, 1, 2048, 2304]⟩
abbrev S16x4x2048x2304 : Shape := ⟨4, ![16, 4, 2048, 2304]⟩
abbrev S16x4x128x2048 : Shape := ⟨4, ![16, 4, 128, 2048]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩

abbrev nBuf : Space → Nat
  | .hbm => 82
  | .vmem => 0
  | .smem => 0
  | _ => 0

abbrev bufTy : (tb : Table) → Fin (tcTables nBuf tb) → BufTy
  | .hbm, ⟨0, _⟩ => ⟨S16x2048x2304, .bf16⟩
  | .hbm, ⟨1, _⟩ => ⟨S16x256x2304, .bf16⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S16x2048x2304, .f32⟩
  | .hbm, ⟨8, _⟩ => ⟨S16x256x2304, .f32⟩
  | .hbm, ⟨9, _⟩ => ⟨S16x2048x512, .f32⟩
  | .hbm, ⟨10, _⟩ => ⟨S16x2048x4x2x2x32, .f32⟩
  | .hbm, ⟨11, _⟩ => ⟨S16x2048x4x2x2x32, .f32⟩
  | .hbm, ⟨12, _⟩ => ⟨S16x2048x4x2x64, .f32⟩
  | .hbm, ⟨13, _⟩ => ⟨S16x256x512, .f32⟩
  | .hbm, ⟨14, _⟩ => ⟨S16x256x4x2x2x32, .f32⟩
  | .hbm, ⟨15, _⟩ => ⟨S16x256x4x2x2x32, .f32⟩
  | .hbm, ⟨16, _⟩ => ⟨S16x256x4x2x64, .f32⟩
  | .hbm, ⟨17, _⟩ => ⟨S16x2048x512, .f32⟩
  | .hbm, ⟨18, _⟩ => ⟨S16x2048x4x2x2x32, .f32⟩
  | .hbm, ⟨19, _⟩ => ⟨S16x2048x4x2x2x32, .f32⟩
  | .hbm, ⟨20, _⟩ => ⟨S16x2048x4x2x64, .f32⟩
  | .hbm, ⟨21, _⟩ => ⟨S16x2304x4x2x64, .f32⟩
  | .hbm, ⟨22, _⟩ => ⟨S16x256x512, .f32⟩
  | .hbm, ⟨23, _⟩ => ⟨S16x256x4x128, .f32⟩
  | .hbm, ⟨24, _⟩ => ⟨S16x2048x512, .f32⟩
  | .hbm, ⟨25, _⟩ => ⟨S16x2048x4x128, .f32⟩
  | .hbm, ⟨26, _⟩ => ⟨S16x2304x4x128, .f32⟩
  | .hbm, ⟨27, _⟩ => ⟨S64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S64, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S16x4x2x2048x2304, .f32⟩
  | .hbm, ⟨39, _⟩ => ⟨S_, .f32⟩
  | .hbm, ⟨40, _⟩ => ⟨S16x4x2x2048, .f32⟩
  | .hbm, ⟨41, _⟩ => ⟨S16x4x2x2048x1, .f32⟩
  | .hbm, ⟨42, _⟩ => ⟨S16x4x2x2048x2304, .f32⟩
  | .hbm, ⟨43, _⟩ => ⟨S16x4x2x2048x2304, .f32⟩
  | .hbm, ⟨44, _⟩ => ⟨S_, .f32⟩
  | .hbm, ⟨45, _⟩ => ⟨S16x4x2x2048x2304, .f32⟩
  | .hbm, ⟨46, _⟩ => ⟨S16x4x2x2048x2304, .f32⟩
  | .hbm, ⟨47, _⟩ => ⟨S_, .f32⟩
  | .hbm, ⟨48, _⟩ => ⟨S16x4x2x2048, .f32⟩
  | .hbm, ⟨49, _⟩ => ⟨S16x4x2x2048x1, .f32⟩
  | .hbm, ⟨50, _⟩ => ⟨S16x4x2x2048x2304, .f32⟩
  | .hbm, ⟨51, _⟩ => ⟨S16x4x2x2048x2304, .f32⟩
  | .hbm, ⟨52, _⟩ => ⟨S16x4x1x2048x2304, .f32⟩
  | .hbm, ⟨53, _⟩ => ⟨S16x4x2048x2304, .f32⟩
  | .hbm, ⟨54, _⟩ => ⟨S16x4x1x2048x2304, .f32⟩
  | .hbm, ⟨55, _⟩ => ⟨S16x4x2048x2304, .f32⟩
  | .hbm, ⟨56, _⟩ => ⟨S16x4x2048x2304, .f32⟩
  | .hbm, ⟨57, _⟩ => ⟨S16x4x2048x2304, .f32⟩
  | .hbm, ⟨58, _⟩ => ⟨S16x4x2048x2304, .f32⟩
  | .hbm, ⟨59, _⟩ => ⟨S16x4x128x2048, .f32⟩
  | .hbm, ⟨60, _⟩ => ⟨S16x2048x4x128, .f32⟩
  | .hbm, ⟨61, _⟩ => ⟨S16x2048x4x128, .f32⟩
  | .hbm, ⟨62, _⟩ => ⟨S_, .f32⟩
  | .hbm, ⟨63, _⟩ => ⟨S16x2048x4, .f32⟩
  | .hbm, ⟨64, _⟩ => ⟨S16x2048x4x1, .f32⟩
  | .hbm, ⟨65, _⟩ => ⟨S_, .f32⟩
  | .hbm, ⟨66, _⟩ => ⟨S16x2048x4x1, .f32⟩
  | .hbm, ⟨67, _⟩ => ⟨S16x2048x4x1, .f32⟩
  | .hbm, ⟨68, _⟩ => ⟨S_, .f32⟩
  | .hbm, ⟨69, _⟩ => ⟨S16x2048x4x1, .f32⟩
  | .hbm, ⟨70, _⟩ => ⟨S16x2048x4x1, .f32⟩
  | .hbm, ⟨71, _⟩ => ⟨S16x2048x4x1, .f32⟩
  | .hbm, ⟨72, _⟩ => ⟨S16x2048x4x128, .f32⟩
  | .hbm, ⟨73, _⟩ => ⟨S16x2048x4x128, .f32⟩
  | .hbm, ⟨74, _⟩ => ⟨S1x1x1x128, .f32⟩
  | .hbm, ⟨75, _⟩ => ⟨S16x2048x4x128, .f32⟩
  | .hbm, ⟨76, _⟩ => ⟨S16x2048x4x128, .f32⟩
  | .hbm, ⟨77, _⟩ => ⟨S_, .f32⟩
  | .hbm, ⟨78, _⟩ => ⟨S16x2048x4x128, .f32⟩
  | .hbm, ⟨79, _⟩ => ⟨S16x2048x4x128, .f32⟩
  | .hbm, ⟨80, _⟩ => ⟨S16x2048x512, .f32⟩
  | .hbm, ⟨81, _⟩ => ⟨S16x2048x512, .bf16⟩
  | _, _ => ⟨S16x2048x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_5 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]
-- ==== CtxPre.lean ====
abbrev S1x4096x1024 : Shape := ⟨3, ![1, 4096, 1024]⟩
abbrev S24x9x1024 : Shape := ⟨3, ![24, 9, 1024]⟩
abbrev S3x1024 : Shape := ⟨2, ![3, 1024]⟩
abbrev S2x2x1024x2816 : Shape := ⟨4, ![2, 2, 1024, 2816]⟩
abbrev S2x2x2816x1024 : Shape := ⟨4, ![2, 2, 2816, 1024]⟩
abbrev S1x1024x1024 : Shape := ⟨3, ![1, 1024, 1024]⟩
abbrev S1x9x1024 : Shape := ⟨3, ![1, 9, 1024]⟩
abbrev S1x1x1024x2816 : Shape := ⟨4, ![1, 1, 1024, 2816]⟩
abbrev S1x1x2816x1024 : Shape := ⟨4, ![1, 1, 2816, 1024]⟩
abbrev S1x256x1024 : Shape := ⟨3, ![1, 256, 1024]⟩
abbrev S256x1024 : Shape := ⟨2, ![256, 1024]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 11
  | .vmem => 10
  | .smem => 0
  | _ => 0

abbrev bufTy : (tb : Table) → Fin (tcTables nBuf tb) → BufTy
  | .hbm, ⟨0, _⟩ => ⟨S1x4096x1024, .f32⟩
  | .hbm, ⟨1, _⟩ => ⟨S24x9x1024, .f32⟩
  | .hbm, ⟨2, _⟩ => ⟨S3x1024, .f32⟩
  | .hbm, ⟨3, _⟩ => ⟨S3x1024, .f32⟩
  | .hbm, ⟨4, _⟩ => ⟨S2x2x1024x2816, .f32⟩
  | .hbm, ⟨5, _⟩ => ⟨S2x2x1024x2816, .f32⟩
  | .hbm, ⟨6, _⟩ => ⟨S2x2x2816x1024, .f32⟩
  | .hbm, ⟨7, _⟩ => ⟨S2x2x1024x2816, .bf16⟩
  | .hbm, ⟨8, _⟩ => ⟨S2x2x1024x2816, .bf16⟩
  | .hbm, ⟨9, _⟩ => ⟨S2x2x2816x1024, .bf16⟩
  | .hbm, ⟨10, _⟩ => ⟨S1x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x9x1024, .f32⟩
  | .local _ .vmem, ⟨3, _⟩ => ⟨S3x1024, .f32⟩
  | .local _ .vmem, ⟨4, _⟩ => ⟨S3x1024, .f32⟩
  | .local _ .vmem, ⟨5, _⟩ => ⟨S1x1x1024x2816, .bf16⟩
  | .local _ .vmem, ⟨6, _⟩ => ⟨S1x1x1024x2816, .bf16⟩
  | .local _ .vmem, ⟨7, _⟩ => ⟨S1x1x2816x1024, .bf16⟩
  | .local _ .vmem, ⟨8, _⟩ => ⟨S1x1024x1024, .f32⟩
  | .local _ .vmem, ⟨9, _⟩ => ⟨S1x1024x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  let c0_i32_1 : BitVec 32 := 0#32
  ![c16_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== CtxPreRefIdeal.lean ====
abbrev S1x4096x1024 : Shape := ⟨3, ![1, 4096, 1024]⟩
abbrev S24x9x1024 : Shape := ⟨3, ![24, 9, 1024]⟩
abbrev S3x1024 : Shape := ⟨2, ![3, 1024]⟩
abbrev S2x2x1024x2816 : Shape := ⟨4, ![2, 2, 1024, 2816]⟩
abbrev S2x2x2816x1024 : Shape := ⟨4, ![2, 2, 2816, 1024]⟩
abbrev S1x9x1024 : Shape := ⟨3, ![1, 9, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S1x1024 : Shape := ⟨2, ![1, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x2816 : Shape := ⟨3, ![1, 4096, 2816]⟩

abbrev nBuf : Space → Nat
  | .hbm => 77
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S24x9x1024, .f32⟩
  | .hbm, ⟨2, _⟩ => ⟨S3x1024, .f32⟩
  | .hbm, ⟨3, _⟩ => ⟨S3x1024, .f32⟩
  | .hbm, ⟨4, _⟩ => ⟨S2x2x1024x2816, .f32⟩
  | .hbm, ⟨5, _⟩ => ⟨S2x2x1024x2816, .f32⟩
  | .hbm, ⟨6, _⟩ => ⟨S2x2x2816x1024, .f32⟩
  | .hbm, ⟨7, _⟩ => ⟨S1x9x1024, .f32⟩
  | .hbm, ⟨8, _⟩ => ⟨S1x1x1024x2816, .f32⟩
  | .hbm, ⟨9, _⟩ => ⟨S1024x2816, .f32⟩
  | .hbm, ⟨10, _⟩ => ⟨S1x1x1024x2816, .f32⟩
  | .hbm, ⟨11, _⟩ => ⟨S1024x2816, .f32⟩
  | .hbm, ⟨12, _⟩ => ⟨S1x1x2816x1024, .f32⟩
  | .hbm, ⟨13, _⟩ => ⟨S2816x1024, .f32⟩
  | .hbm, ⟨14, _⟩ => ⟨S1x1024, .f32⟩
  | .hbm, ⟨15, _⟩ => ⟨S1x4096x1024, .f32⟩
  | .hbm, ⟨16, _⟩ => ⟨S_, .f32⟩
  | .hbm, ⟨17, _⟩ => ⟨S1x4096, .f32⟩
  | .hbm, ⟨18, _⟩ => ⟨S1x4096x1, .f32⟩
  | .hbm, ⟨19, _⟩ => ⟨S_, .f32⟩
  | .hbm, ⟨20, _⟩ => ⟨S1x4096x1, .f32⟩
  | .hbm, ⟨21, _⟩ => ⟨S1x4096x1, .f32⟩
  | .hbm, ⟨22, _⟩ => ⟨S_, .f32⟩
  | .hbm, ⟨23, _⟩ => ⟨S1x4096x1, .f32⟩
  | .hbm, ⟨24, _⟩ => ⟨S1x4096x1, .f32⟩
  | .hbm, ⟨25, _⟩ => ⟨S1x4096x1, .f32⟩
  | .hbm, ⟨26, _⟩ => ⟨S1x4096x1024, .f32⟩
  | .hbm, ⟨27, _⟩ => ⟨S1x4096x1024, .f32⟩
  | .hbm, ⟨28, _⟩ => ⟨S1x1x1024, .f32⟩
  | .hbm, ⟨29, _⟩ => ⟨S1x4096x1024, .f32⟩
  | .hbm, ⟨30, _⟩ => ⟨S1x4096x1024, .f32⟩
  | .hbm, ⟨31, _⟩ => ⟨S1x1x1024, .f32⟩
  | .hbm, ⟨32, _⟩ => ⟨S_, .f32⟩
  | .hbm, ⟨33, _⟩ => ⟨S1x1x1024, .f32⟩
  | .hbm, ⟨34, _⟩ => ⟨S1x1x1024, .f32⟩
  | .hbm, ⟨35, _⟩ => ⟨S1x4096x1024, .f32⟩
  | .hbm, ⟨36, _⟩ => ⟨S1x4096x1024, .f32⟩
  | .hbm, ⟨37, _⟩ => ⟨S1x1x1024, .f32⟩
  | .hbm, ⟨38, _⟩ => ⟨S1x4096x1024, .f32⟩
  | .hbm, ⟨39, _⟩ => ⟨S1x4096x1024, .f32⟩
  | .hbm, ⟨40, _⟩ => ⟨S1x4096x2816, .f32⟩
  | .hbm, ⟨41, _⟩ => ⟨S1x4096x2816, .f32⟩
  | .hbm, ⟨42, _⟩ => ⟨S1x4096x2816, .f32⟩
  | .hbm, ⟨43, _⟩ => ⟨S_, .f32⟩
  | .hbm, ⟨44, _⟩ => ⟨S1x4096x2816, .f32⟩
  | .hbm, ⟨45, _⟩ => ⟨S1x4096x2816, .f32⟩
  | .hbm, ⟨46, _⟩ => ⟨S_, .f32⟩
  | .hbm, ⟨47, _⟩ => ⟨S1x4096x2816, .f32⟩
  | .hbm, ⟨48, _⟩ => ⟨S1x4096x2816, .f32⟩
  | .hbm, ⟨49, _⟩ => ⟨S1x4096x2816, .f32⟩
  | .hbm, ⟨50, _⟩ => ⟨S1x4096x2816, .f32⟩
  | .hbm, ⟨51, _⟩ => ⟨S1x4096x2816, .f32⟩
  | .hbm, ⟨52, _⟩ => ⟨S1x4096x1024, .f32⟩
  | .hbm, ⟨53, _⟩ => ⟨S1x1x1024, .f32⟩
  | .hbm, ⟨54, _⟩ => ⟨S_, .f32⟩
  | .hbm, ⟨55, _⟩ => ⟨S1x1x1024, .f32⟩
  | .hbm, ⟨56, _⟩ => ⟨S1x1x1024, .f32⟩
  | .hbm, ⟨57, _⟩ => ⟨S1x1024, .f32⟩
  | .hbm, ⟨58, _⟩ => ⟨S1x4096x1024, .f32⟩
  | .hbm, ⟨59, _⟩ => ⟨S_, .f32⟩
  | .hbm, ⟨60, _⟩ => ⟨S1x4096, .f32⟩
  | .hbm, ⟨61, _⟩ => ⟨S1x4096x1, .f32⟩
  | .hbm, ⟨62, _⟩ => ⟨S_, .f32⟩
  | .hbm, ⟨63, _⟩ => ⟨S1x4096x1, .f32⟩
  | .hbm, ⟨64, _⟩ => ⟨S1x4096x1, .f32⟩
  | .hbm, ⟨65, _⟩ => ⟨S_, .f32⟩
  | .hbm, ⟨66, _⟩ => ⟨S1x4096x1, .f32⟩
  | .hbm, ⟨67, _⟩ => ⟨S1x4096x1, .f32⟩
  | .hbm, ⟨68, _⟩ => ⟨S1x4096x1, .f32⟩
  | .hbm, ⟨69, _⟩ => ⟨S1x4096x1024, .f32⟩
  | .hbm, ⟨70, _⟩ => ⟨S1x4096x1024, .f32⟩
  | .hbm, ⟨71, _⟩ => ⟨S1x1x1024, .f32⟩
  | .hbm, ⟨72, _⟩ => ⟨S1x4096x1024, .f32⟩
  | .hbm, ⟨73, _⟩ => ⟨S1x4096x1024, .f32⟩
  | .hbm, ⟨74, _⟩ => ⟨S1x4096x1024, .f32⟩
  | .hbm, ⟨75, _⟩ => ⟨S1x4096x1024, .f32⟩
  | .hbm, ⟨76, _⟩ => ⟨S1x4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_3 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]
-- ==== CtxAb.lean ====
abbrev S1x4096x512 : Shape := ⟨3, ![1, 4096, 512]⟩
abbrev S1x4096x1024 : Shape := ⟨3, ![1, 4096, 1024]⟩
abbrev S24x9x1024 : Shape := ⟨3, ![24, 9, 1024]⟩
abbrev S3x1024 : Shape := ⟨2, ![3, 1024]⟩
abbrev S1024x1024 : Shape := ⟨2, ![1024, 1024]⟩
abbrev S2x2x1024x2816 : Shape := ⟨4, ![2, 2, 1024, 2816]⟩
abbrev S2x2x2816x1024 : Shape := ⟨4, ![2, 2, 2816, 1024]⟩
abbrev S1x1024x512 : Shape := ⟨3, ![1, 1024, 512]⟩
abbrev S1x1024x1024 : Shape := ⟨3, ![1, 1024, 1024]⟩
abbrev S1x9x1024 : Shape := ⟨3, ![1, 9, 1024]⟩
abbrev S1x1x1024x2816 : Shape := ⟨4, ![1, 1, 1024, 2816]⟩
abbrev S1x1x2816x1024 : Shape := ⟨4, ![1, 1, 2816, 1024]⟩
abbrev S1x256x1024 : Shape := ⟨3, ![1, 256, 1024]⟩
abbrev S256x1024 : Shape := ⟨2, ![256, 1024]⟩
abbrev S1x256x512 : Shape := ⟨3, ![1, 256, 512]⟩
abbrev S256x512 : Shape := ⟨2, ![256, 512]⟩
abbrev S512x1024 : Shape := ⟨2, ![512, 1024]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 15
  | .vmem => 15
  | .smem => 0
  | _ => 0

abbrev bufTy : (tb : Table) → Fin (tcTables nBuf tb) → BufTy
  | .hbm, ⟨0, _⟩ => ⟨S1x4096x512, .bf16⟩
  | .hbm, ⟨1, _⟩ => ⟨S1x4096x512, .bf16⟩
  | .hbm, ⟨2, _⟩ => ⟨S1x4096x1024, .f32⟩
  | .hbm, ⟨3, _⟩ => ⟨S24x9x1024, .f32⟩
  | .hbm, ⟨4, _⟩ => ⟨S3x1024, .f32⟩
  | .hbm, ⟨5, _⟩ => ⟨S3x1024, .f32⟩
  | .hbm, ⟨6, _⟩ => ⟨S1024x1024, .f32⟩
  | .hbm, ⟨7, _⟩ => ⟨S2x2x1024x2816, .f32⟩
  | .hbm, ⟨8, _⟩ => ⟨S2x2x1024x2816, .f32⟩
  | .hbm, ⟨9, _⟩ => ⟨S2x2x2816x1024, .f32⟩
  | .hbm, ⟨10, _⟩ => ⟨S2x2x1024x2816, .bf16⟩
  | .hbm, ⟨11, _⟩ => ⟨S2x2x1024x2816, .bf16⟩
  | .hbm, ⟨12, _⟩ => ⟨S2x2x2816x1024, .bf16⟩
  | .hbm, ⟨13, _⟩ => ⟨S1024x1024, .bf16⟩
  | .hbm, ⟨14, _⟩ => ⟨S1x4096x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x9x1024, .f32⟩
  | .local _ .vmem, ⟨7, _⟩ => ⟨S3x1024, .f32⟩
  | .local _ .vmem, ⟨8, _⟩ => ⟨S3x1024, .f32⟩
  | .local _ .vmem, ⟨9, _⟩ => ⟨S1024x1024, .bf16⟩
  | .local _ .vmem, ⟨10, _⟩ => ⟨S1x1x1024x2816, .bf16⟩
  | .local _ .vmem, ⟨11, _⟩ => ⟨S1x1x1024x2816, .bf16⟩
  | .local _ .vmem, ⟨12, _⟩ => ⟨S1x1x2816x1024, .bf16⟩
  | .local _ .vmem, ⟨13, _⟩ => ⟨S1x1024x1024, .f32⟩
  | .local _ .vmem, ⟨14, _⟩ => ⟨S1x1024x1024, .f32⟩
  | _, _ => ⟨S1x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  let c0_i32_1 : BitVec 32 := 0#32
  ![c16_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x9x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== CtxAbRefIdeal.lean ====
abbrev S1x4096x512 : Shape := ⟨3, ![1, 4096, 512]⟩
abbrev S1x4096x1024 : Shape := ⟨3, ![1, 4096, 1024]⟩
abbrev S24x9x1024 : Shape := ⟨3, ![24, 9, 1024]⟩
abbrev S3x1024 : Shape := ⟨2, ![3, 1024]⟩
abbrev S1024x1024 : Shape := ⟨2, ![1024, 1024]⟩
abbrev S2x2x1024x2816 : Shape := ⟨4, ![2, 2, 1024, 2816]⟩
abbrev S2x2x2816x1024 : Shape := ⟨4, ![2, 2, 2816, 1024]⟩
abbrev S1x9x1024 : Shape := ⟨3, ![1, 9, 1024]⟩
abbrev S1x1x1024 : Shape := ⟨3, ![1, 1, 1024]⟩
abbrev S1x1024 : Shape := ⟨2, ![1, 1024]⟩
abbrev S_ : Shape := ⟨0, ![]⟩
abbrev S1x4096 : Shape := ⟨2, ![1, 4096]⟩
abbrev S1x4096x1 : Shape := ⟨3, ![1, 4096, 1]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S1x4096x2816 : Shape := ⟨3, ![1, 4096, 2816]⟩

abbrev nBuf : Space → Nat
  | .hbm => 105
  | .vmem => 0
  | .smem => 0
  | _ => 0

abbrev bufTy : (tb : Table) → Fin (tcTables nBuf tb) → BufTy
  | .hbm, ⟨0, _⟩ => ⟨S1x4096x512, .bf16⟩
  | .hbm, ⟨1, _⟩ => ⟨S1x4096x512, .bf16⟩
  | .hbm, ⟨2, _⟩ => ⟨S1x4096x1024, .f32⟩
  | .hbm, ⟨3, _⟩ => ⟨S24x9x1024, .f32⟩
  | .hbm, ⟨4, _⟩ => ⟨S3x1024, .f32⟩
  | .hbm, ⟨5, _⟩ => ⟨S3x1024, .f32⟩
  | .hbm, ⟨6, _⟩ => ⟨S1024x1024, .f32⟩
  | .hbm, ⟨7, _⟩ => ⟨S2x2x1024x2816, .f32⟩
  | .hbm, ⟨8, _⟩ => ⟨S2x2x1024x2816, .f32⟩
  | .hbm, ⟨9, _⟩ => ⟨S2x2x2816x1024, .f32⟩
  | .hbm, ⟨10, _⟩ => ⟨S1x9x1024, .f32⟩
  | .hbm, ⟨11, _⟩ => ⟨S1x4096x512, .f32⟩
  | .hbm, ⟨12, _⟩ => ⟨S1x4096x512, .f32⟩
  | .hbm, ⟨13, _⟩ => ⟨S1x4096x1024, .f32⟩
  | .hbm, ⟨14, _⟩ => ⟨S1x4096x1024, .f32⟩
  | .hbm, ⟨15, _⟩ => ⟨S1x1x1024, .f32⟩
  | .hbm, ⟨16, _⟩ => ⟨S1x1024, .f32⟩
  | .hbm, ⟨17, _⟩ => ⟨S1x4096x1024, .f32⟩
  | .hbm, ⟨18, _⟩ => ⟨S_, .f32⟩
  | .hbm, ⟨19, _⟩ => ⟨S1x4096, .f32⟩
  | .hbm, ⟨20, _⟩ => ⟨S1x4096x1, .f32⟩
  | .hbm, ⟨21, _⟩ => ⟨S_, .f32⟩
  | .hbm, ⟨22, _⟩ => ⟨S1x4096x1, .f32⟩
  | .hbm, ⟨23, _⟩ => ⟨S1x4096x1, .f32⟩
  | .hbm, ⟨24, _⟩ => ⟨S_, .f32⟩
  | .hbm, ⟨25, _⟩ => ⟨S1x4096x1, .f32⟩
  | .hbm, ⟨26, _⟩ => ⟨S1x4096x1, .f32⟩
  | .hbm, ⟨27, _⟩ => ⟨S1x4096x1, .f32⟩
  | .hbm, ⟨28, _⟩ => ⟨S1x4096x1024, .f32⟩
  | .hbm, ⟨29, _⟩ => ⟨S1x4096x1024, .f32⟩
  | .hbm, ⟨30, _⟩ => ⟨S1x1x1024, .f32⟩
  | .hbm, ⟨31, _⟩ => ⟨S1x4096x1024, .f32⟩
  | .hbm, ⟨32, _⟩ => ⟨S1x4096x1024, .f32⟩
  | .hbm, ⟨33, _⟩ => ⟨S1x4096x1024, .f32⟩
  | .hbm, ⟨34, _⟩ => ⟨S1x4096x1024, .f32⟩
  | .hbm, ⟨35, _⟩ => ⟨S1x4096x1024, .f32⟩
  | .hbm, ⟨36, _⟩ => ⟨S1x1x1024x2816, .f32⟩
  | .hbm, ⟨37, _⟩ => ⟨S1024x2816, .f32⟩
  | .hbm, ⟨38, _⟩ => ⟨S1x1x1024x2816, .f32⟩
  | .hbm, ⟨39, _⟩ => ⟨S1024x2816, .f32⟩
  | .hbm, ⟨40, _⟩ => ⟨S1x1x2816x1024, .f32⟩
  | .hbm, ⟨41, _⟩ => ⟨S2816x1024, .f32⟩
  | .hbm, ⟨42, _⟩ => ⟨S1x1024, .f32⟩
  | .hbm, ⟨43, _⟩ => ⟨S1x4096x1024, .f32⟩
  | .hbm, ⟨44, _⟩ => ⟨S_, .f32⟩
  | .hbm, ⟨45, _⟩ => ⟨S1x4096, .f32⟩
  | .hbm, ⟨46, _⟩ => ⟨S1x4096x1, .f32⟩
  | .hbm, ⟨47, _⟩ => ⟨S_, .f32⟩
  | .hbm, ⟨48, _⟩ => ⟨S1x4096x1, .f32⟩
  | .hbm, ⟨49, _⟩ => ⟨S1x4096x1, .f32⟩
  | .hbm, ⟨50, _⟩ => ⟨S_, .f32⟩
  | .hbm, ⟨51, _⟩ => ⟨S1x4096x1, .f32⟩
  | .hbm, ⟨52, _⟩ => ⟨S1x4096x1, .f32⟩
  | .hbm, ⟨53, _⟩ => ⟨S1x4096x1, .f32⟩
  | .hbm, ⟨54, _⟩ => ⟨S1x4096x1024, .f32⟩
  | .hbm, ⟨55, _⟩ => ⟨S1x4096x1024, .f32⟩
  | .hbm, ⟨56, _⟩ => ⟨S1x1x1024, .f32⟩
  | .hbm, ⟨57, _⟩ => ⟨S1x4096x1024, .f32⟩
  | .hbm, ⟨58, _⟩ => ⟨S1x4096x1024, .f32⟩
  | .hbm, ⟨59, _⟩ => ⟨S1x1x1024, .f32⟩
  | .hbm, ⟨60, _⟩ => ⟨S_, .f32⟩
  | .hbm, ⟨61, _⟩ => ⟨S1x1x1024, .f32⟩
  | .hbm, ⟨62, _⟩ => ⟨S1x1x1024, .f32⟩
  | .hbm, ⟨63, _⟩ => ⟨S1x4096x1024, .f32⟩
  | .hbm, ⟨64, _⟩ => ⟨S1x4096x1024, .f32⟩
  | .hbm, ⟨65, _⟩ => ⟨S1x1x1024, .f32⟩
  | .hbm, ⟨66, _⟩ => ⟨S1x4096x1024, .f32⟩
  | .hbm, ⟨67, _⟩ => ⟨S1x4096x1024, .f32⟩
  | .hbm, ⟨68, _⟩ => ⟨S1x4096x2816, .f32⟩
  | .hbm, ⟨69, _⟩ => ⟨S1x4096x2816, .f32⟩
  | .hbm, ⟨70, _⟩ => ⟨S1x4096x2816, .f32⟩
  | .hbm, ⟨71, _⟩ => ⟨S_, .f32⟩
  | .hbm, ⟨72, _⟩ => ⟨S1x4096x2816, .f32⟩
  | .hbm, ⟨73, _⟩ => ⟨S1x4096x2816, .f32⟩
  | .hbm, ⟨74, _⟩ => ⟨S_, .f32⟩
  | .hbm, ⟨75, _⟩ => ⟨S1x4096x2816, .f32⟩
  | .hbm, ⟨76, _⟩ => ⟨S1x4096x2816, .f32⟩
  | .hbm, ⟨77, _⟩ => ⟨S1x4096x2816, .f32⟩
  | .hbm, ⟨78, _⟩ => ⟨S1x4096x2816, .f32⟩
  | .hbm, ⟨79, _⟩ => ⟨S1x4096x2816, .f32⟩
  | .hbm, ⟨80, _⟩ => ⟨S1x4096x1024, .f32⟩
  | .hbm, ⟨81, _⟩ => ⟨S1x1x1024, .f32⟩
  | .hbm, ⟨82, _⟩ => ⟨S_, .f32⟩
  | .hbm, ⟨83, _⟩ => ⟨S1x1x1024, .f32⟩
  | .hbm, ⟨84, _⟩ => ⟨S1x1x1024, .f32⟩
  | .hbm, ⟨85, _⟩ => ⟨S1x1024, .f32⟩
  | .hbm, ⟨86, _⟩ => ⟨S1x4096x1024, .f32⟩
  | .hbm, ⟨87, _⟩ => ⟨S_, .f32⟩
  | .hbm, ⟨88, _⟩ => ⟨S1x4096, .f32⟩
  | .hbm, ⟨89, _⟩ => ⟨S1x4096x1, .f32⟩
  | .hbm, ⟨90, _⟩ => ⟨S_, .f32⟩
  | .hbm, ⟨91, _⟩ => ⟨S1x4096x1, .f32⟩
  | .hbm, ⟨92, _⟩ => ⟨S1x4096x1, .f32⟩
  | .hbm, ⟨93, _⟩ => ⟨S_, .f32⟩
  | .hbm, ⟨94, _⟩ => ⟨S1x4096x1, .f32⟩
  | .hbm, ⟨95, _⟩ => ⟨S1x4096x1, .f32⟩
  | .hbm, ⟨96, _⟩ => ⟨S1x4096x1, .f32⟩
  | .hbm, ⟨97, _⟩ => ⟨S1x4096x1024, .f32⟩
  | .hbm, ⟨98, _⟩ => ⟨S1x4096x1024, .f32⟩
  | .hbm, ⟨99, _⟩ => ⟨S1x1x1024, .f32⟩
  | .hbm, ⟨100, _⟩ => ⟨S1x4096x1024, .f32⟩
  | .hbm, ⟨101, _⟩ => ⟨S1x4096x1024, .f32⟩
  | .hbm, ⟨102, _⟩ => ⟨S1x4096x1024, .f32⟩
  | .hbm, ⟨103, _⟩ => ⟨S1x4096x1024, .f32⟩
  | .hbm, ⟨104, _⟩ => ⟨S1x4096x1024, .f32⟩
  | _, _ => ⟨S1x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_6 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_7 : Ref sig .tc := ⟨.hbm, 87, rfl⟩
abbrev main_v61 : Ref sig .tc := ⟨.hbm, 88, rfl⟩
abbrev main_v62 : Ref sig .tc := ⟨.hbm, 89, rfl⟩
abbrev main_cst_8 : Ref sig .tc := ⟨.hbm, 90, rfl⟩
abbrev main_v63 : Ref sig .tc := ⟨.hbm, 91, rfl⟩
abbrev main_v64 : Ref sig .tc := ⟨.hbm, 92, rfl⟩
abbrev main_cst_9 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩

abbrev nD : Nat := 1
abbrev τ : Topo := Topo.v7x

variable {F : FTy → Type} [FloatOps F]
-- ==== ProjC.lean ====
abbrev S16x2048x1024 : Shape := ⟨3, ![16, 2048, 1024]⟩
abbrev S24x9x1024 : Shape := ⟨3, ![24, 9, 1024]⟩
abbrev S3x1024 : Shape := ⟨2, ![3, 1024]⟩
abbrev S1024x1536 : Shape := ⟨2, ![1024, 1536]⟩
abbrev S2048x32 : Shape := ⟨2, ![2048, 32]⟩
abbrev S16 : Shape := ⟨1, ![16]⟩
abbrev S1536 : Shape := ⟨1, ![1536]⟩
abbrev S1024x1024 : Shape := ⟨2, ![1024, 1024]⟩
abbrev S1024x16x64 : Shape := ⟨3, ![1024, 16, 64]⟩
abbrev S_ : Shape := ⟨0, ![]⟩
abbrev S16x1 : Shape := ⟨2, ![16, 1]⟩
abbrev S1024x512 : Shape := ⟨2, ![1024, 512]⟩
abbrev S1536x1 : Shape := ⟨2, ![1536, 1]⟩
abbrev S8x128 : Shape := ⟨2, ![8, 128]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S16x2048x1536 : Shape := ⟨3, ![16, 2048, 1536]⟩
abbrev S1x512x1024 : Shape := ⟨3, ![1, 512, 1024]⟩
abbrev S1x9x1024 : Shape := ⟨3, ![1, 9, 1024]⟩
abbrev S512x128 : Shape := ⟨2, ![512, 128]⟩
abbrev S1x512x1536 : Shape := ⟨3, ![1, 512, 1536]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S512x1536 : Shape := ⟨2, ![512, 1536]⟩
abbrev S1x512x128 : Shape := ⟨3, ![1, 512, 128]⟩

abbrev nBuf : Space → Nat
  | .hbm => 37
  | .vmem => 13
  | .smem => 0
  | _ => 0

abbrev bufTy : (tb : Table) → Fin (tcTables nBuf tb) → BufTy
  | .hbm, ⟨0, _⟩ => ⟨S16x2048x1024, .f32⟩
  | .hbm, ⟨1, _⟩ => ⟨S24x9x1024, .f32⟩
  | .hbm, ⟨2, _⟩ => ⟨S3x1024, .f32⟩
  | .hbm, ⟨3, _⟩ => ⟨S1024x1536, .f32⟩
  | .hbm, ⟨4, _⟩ => ⟨S2048x32, .f32⟩
  | .hbm, ⟨5, _⟩ => ⟨S2048x32, .f32⟩
  | .hbm, ⟨6, _⟩ => ⟨S16, .i32⟩
  | .hbm, ⟨7, _⟩ => ⟨S16, .i1⟩
  | .hbm, ⟨8, _⟩ => ⟨S1536, .i32⟩
  | .hbm, ⟨9, _⟩ => ⟨S1536, .i1⟩
  | .hbm, ⟨10, _⟩ => ⟨S1024x1024, .f32⟩
  | .hbm, ⟨11, _⟩ => ⟨S1024x16x64, .f32⟩
  | .hbm, ⟨12, _⟩ => ⟨S_, .i32⟩
  | .hbm, ⟨13, _⟩ => ⟨S16, .i32⟩
  | .hbm, ⟨14, _⟩ => ⟨S16, .i32⟩
  | .hbm, ⟨15, _⟩ => ⟨S16, .i32⟩
  | .hbm, ⟨16, _⟩ => ⟨S16x1, .i32⟩
  | .hbm, ⟨17, _⟩ => ⟨S1024x16x64, .f32⟩
  | .hbm, ⟨18, _⟩ => ⟨S1024x1024, .f32⟩
  | .hbm, ⟨19, _⟩ => ⟨S1024x512, .f32⟩
  | .hbm, ⟨20, _⟩ => ⟨S1024x1536, .f32⟩
  | .hbm, ⟨21, _⟩ => ⟨S_, .i32⟩
  | .hbm, ⟨22, _⟩ => ⟨S1536, .i32⟩
  | .hbm, ⟨23, _⟩ => ⟨S1536, .i32⟩
  | .hbm, ⟨24, _⟩ => ⟨S1536, .i32⟩
  | .hbm, ⟨25, _⟩ => ⟨S1536x1, .i32⟩
  | .hbm, ⟨26, _⟩ => ⟨S1024x1536, .f32⟩
  | .hbm, ⟨27, _⟩ => ⟨S1024x1536, .bf16⟩
  | .hbm, ⟨28, _⟩ => ⟨S_, .f32⟩
  | .hbm, ⟨29, _⟩ => ⟨S8x128, .f32⟩
  | .hbm, ⟨30, _⟩ => ⟨S1x2048x1x32, .f32⟩
  | .hbm, ⟨31, _⟩ => ⟨S1x2048x4x32, .f32⟩
  | .hbm, ⟨32, _⟩ => ⟨S2048x128, .f32⟩
  | .hbm, ⟨33, _⟩ => ⟨S2048x32, .f32⟩
  | .hbm, ⟨34, _⟩ => ⟨S2048x32, .f32⟩
  | .hbm, ⟨35, _⟩ => ⟨S2048x128, .f32⟩
  | .hbm, ⟨36, _⟩ => ⟨S16x2048x1536, .bf16⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S1024x1536, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S8x128, .f32⟩
  | .local _ .vmem, ⟨11, _⟩ => ⟨S1x512x1536, .bf16⟩
  | .local _ .vmem, ⟨12, _⟩ => ⟨S1x512x1536, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_c_2 : Ref sig .tc := ⟨.hbm, 9, rfl⟩
abbrev main_v0 : Ref sig .tc := ⟨.hbm, 10, rfl⟩
abbrev main_v1 : Ref sig .tc := ⟨.hbm, 11, rfl⟩
abbrev main_c_3 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ProjCRefIdeal.lean ====
abbrev S16x2048x1024 : Shape := ⟨3, ![16, 2048, 1024]⟩
abbrev S24x9x1024 : Shape := ⟨3, ![24, 9, 1024]⟩
abbrev S3x1024 : Shape := ⟨2, ![3, 1024]⟩
abbrev S1024x1536 : Shape := ⟨2, ![1024, 1536]⟩
abbrev S2048x32 : Shape := ⟨2, ![2048, 32]⟩
abbrev S1x1024 : Shape := ⟨2, ![1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x2048x1536 : Shape := ⟨3, ![16, 2048, 1536]⟩
abbrev S16x2048x16x64 : Shape := ⟨4, ![16, 2048, 16, 64]⟩
abbrev S1x2048x1x32 : Shape := ⟨4, ![1, 2048, 1, 32]⟩
abbrev S16x2048x16x32 : Shape := ⟨4, ![16, 2048, 16, 32]⟩
abbrev S16x2048x256 : Shape := ⟨3, ![16, 2048, 256]⟩
abbrev S16x2048x4x64 : Shape := ⟨4, ![16, 2048, 4, 64]⟩
abbrev S16x2048x4x32 : Shape := ⟨4, ![16, 2048, 4, 32]⟩
abbrev S16x2048x2x2x4x2x32 : Shape := ⟨7, ![16, 2048, 2, 2, 4, 2, 32]⟩
abbrev S16x2048x2x4x2x2x32 : Shape := ⟨7, ![16, 2048, 2, 4, 2, 2, 32]⟩
abbrev S16x2048x2x2x2x32 : Shape := ⟨6, ![16, 2048, 2, 2, 2, 32]⟩

abbrev nBuf : Space → Nat
  | .hbm => 79
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S24x9x1024, .f32⟩
  | .hbm, ⟨2, _⟩ => ⟨S3x1024, .f32⟩
  | .hbm, ⟨3, _⟩ => ⟨S1024x1536, .f32⟩
  | .hbm, ⟨4, _⟩ => ⟨S2048x32, .f32⟩
  | .hbm, ⟨5, _⟩ => ⟨S2048x32, .f32⟩
  | .hbm, ⟨6, _⟩ => ⟨S1x1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S16x1x1024, .f32⟩
  | .hbm, ⟨24, _⟩ => ⟨S_, .f32⟩
  | .hbm, ⟨25, _⟩ => ⟨S16x1x1024, .f32⟩
  | .hbm, ⟨26, _⟩ => ⟨S16x1x1024, .f32⟩
  | .hbm, ⟨27, _⟩ => ⟨S16x2048x1024, .f32⟩
  | .hbm, ⟨28, _⟩ => ⟨S16x2048x1024, .f32⟩
  | .hbm, ⟨29, _⟩ => ⟨S16x1x1024, .f32⟩
  | .hbm, ⟨30, _⟩ => ⟨S16x2048x1024, .f32⟩
  | .hbm, ⟨31, _⟩ => ⟨S16x2048x1024, .f32⟩
  | .hbm, ⟨32, _⟩ => ⟨S16x2048x1536, .f32⟩
  | .hbm, ⟨33, _⟩ => ⟨S16x2048x1024, .f32⟩
  | .hbm, ⟨34, _⟩ => ⟨S16x2048x16x64, .f32⟩
  | .hbm, ⟨35, _⟩ => ⟨S1x2048x1x32, .f32⟩
  | .hbm, ⟨36, _⟩ => ⟨S1x2048x1x32, .f32⟩
  | .hbm, ⟨37, _⟩ => ⟨S16x2048x16x32, .f32⟩
  | .hbm, ⟨38, _⟩ => ⟨S16x2048x16x32, .f32⟩
  | .hbm, ⟨39, _⟩ => ⟨S16x2048x16x32, .f32⟩
  | .hbm, ⟨40, _⟩ => ⟨S16x2048x16x32, .f32⟩
  | .hbm, ⟨41, _⟩ => ⟨S16x2048x16x32, .f32⟩
  | .hbm, ⟨42, _⟩ => ⟨S16x2048x16x32, .f32⟩
  | .hbm, ⟨43, _⟩ => ⟨S16x2048x16x32, .f32⟩
  | .hbm, ⟨44, _⟩ => ⟨S16x2048x16x32, .f32⟩
  | .hbm, ⟨45, _⟩ => ⟨S16x2048x16x32, .f32⟩
  | .hbm, ⟨46, _⟩ => ⟨S16x2048x16x32, .f32⟩
  | .hbm, ⟨47, _⟩ => ⟨S16x2048x16x32, .f32⟩
  | .hbm, ⟨48, _⟩ => ⟨S16x2048x16x32, .f32⟩
  | .hbm, ⟨49, _⟩ => ⟨S16x2048x16x64, .f32⟩
  | .hbm, ⟨50, _⟩ => ⟨S_, .f32⟩
  | .hbm, ⟨51, _⟩ => ⟨S16x2048x16x64, .f32⟩
  | .hbm, ⟨52, _⟩ => ⟨S16x2048x16x64, .f32⟩
  | .hbm, ⟨53, _⟩ => ⟨S16x2048x256, .f32⟩
  | .hbm, ⟨54, _⟩ => ⟨S16x2048x4x64, .f32⟩
  | .hbm, ⟨55, _⟩ => ⟨S1x2048x1x32, .f32⟩
  | .hbm, ⟨56, _⟩ => ⟨S1x2048x1x32, .f32⟩
  | .hbm, ⟨57, _⟩ => ⟨S16x2048x4x32, .f32⟩
  | .hbm, ⟨58, _⟩ => ⟨S16x2048x4x32, .f32⟩
  | .hbm, ⟨59, _⟩ => ⟨S16x2048x4x32, .f32⟩
  | .hbm, ⟨60, _⟩ => ⟨S16x2048x4x32, .f32⟩
  | .hbm, ⟨61, _⟩ => ⟨S16x2048x4x32, .f32⟩
  | .hbm, ⟨62, _⟩ => ⟨S16x2048x4x32, .f32⟩
  | .hbm, ⟨63, _⟩ => ⟨S16x2048x4x32, .f32⟩
  | .hbm, ⟨64, _⟩ => ⟨S16x2048x4x32, .f32⟩
  | .hbm, ⟨65, _⟩ => ⟨S16x2048x4x32, .f32⟩
  | .hbm, ⟨66, _⟩ => ⟨S16x2048x4x32, .f32⟩
  | .hbm, ⟨67, _⟩ => ⟨S16x2048x4x32, .f32⟩
  | .hbm, ⟨68, _⟩ => ⟨S16x2048x4x32, .f32⟩
  | .hbm, ⟨69, _⟩ => ⟨S16x2048x4x64, .f32⟩
  | .hbm, ⟨70, _⟩ => ⟨S16x2048x2x2x4x2x32, .f32⟩
  | .hbm, ⟨71, _⟩ => ⟨S16x2048x2x4x2x2x32, .f32⟩
  | .hbm, ⟨72, _⟩ => ⟨S16x2048x1024, .f32⟩
  | .hbm, ⟨73, _⟩ => ⟨S16x2048x2x2x2x32, .f32⟩
  | .hbm, ⟨74, _⟩ => ⟨S16x2048x2x2x2x32, .f32⟩
  | .hbm, ⟨75, _⟩ => ⟨S16x2048x256, .f32⟩
  | .hbm, ⟨76, _⟩ => ⟨S16x2048x256, .f32⟩
  | .hbm, ⟨77, _⟩ => ⟨S16x2048x1536, .f32⟩
  | .hbm, ⟨78, _⟩ => ⟨S16x2048x1536, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩

abbrev nD : Nat := 1
abbrev τ : Topo := Topo.v7x

variable {F : FTy → Type} [FloatOps F]
-- ==== Proof.Row.lean ====
module

public import Idealize.ShloMosaic.Lib.Pipeline.ValueKit
public import Idealize.ShloMosaic.Lib.Pointwise

@[expose] public section

noncomputable section

open Idealize.ShloMosaic

/-! One row of the feed-forward sublayer, as a function of that row, of its modulation rows and of the weights.
    Everything here is over the extended reals, so no finiteness is needed: kernel and reference compute the
    row by the same operations in the same order. -/
namespace Cert.Row

/-- The reciprocal root mean square of a row of 1024 entries (mean of squares, plus the small constant, rsqrt). -/
def rinv (y : Fin 1024 → EReal) : EReal :=
  Ideal.rsqrt (Ideal.div (∑ j, y j * y j) (Ideal.ofBits FTy.f32 0x44800000#32) + Ideal.ofBits FTy.f32 0x358637BD#32)

/-- The modulated norm of a row: normalised, times the gain, times one plus the scale, plus the shift. -/
def hidden (x gain scale shift : Fin 1024 → EReal) (j : Fin 1024) : EReal :=
  x j * rinv x * gain j * (1 + scale j) + shift j

/-- One entry of the gated activation: `silu(h·wg) * (h·wu)`. -/
def act (h : Fin 1024 → EReal) (wg wu : Fin 1024 → Fin 2816 → EReal) (f : Fin 2816) : EReal :=
  (∑ k, h k * wg k f) * Ideal.logistic (∑ k, h k * wg k f) * (∑ k, h k * wu k f)

/-- One entry of the feed-forward row. -/
def ffn (h : Fin 1024 → EReal) (wg wu : Fin 1024 → Fin 2816 → EReal) (wd : Fin 2816 → Fin 1024 → EReal)
    (c : Fin 1024) : EReal := ∑ f, act h wg wu f * wd f c

/-- The gated residual: the row plus half the gate times the normalised `y` with its gain. -/
def residual (x gate gain y : Fin 1024 → EReal) (c : Fin 1024) : EReal :=
  x c + Ideal.ofBits FTy.f32 0x3F000000#32 * gate c * (y c * rinv y * gain c)

/-- The whole sublayer on one row. -/
def sublayer (x shift scale gate gpre gpost : Fin 1024 → EReal) (wg wu : Fin 1024 → Fin 2816 → EReal)
    (wd : Fin 2816 → Fin 1024 → EReal) : Fin 1024 → EReal :=
  residual x gate gpost (ffn (hidden x gpre scale shift) wg wu wd)

/-- The mixer's residual: the row plus the gate times the normalised `y` with its gain. -/
def mixed (x gate gain y : Fin 1024 → EReal) (c : Fin 1024) : EReal :=
  x c + gate c * (y c * rinv y * gain c)

/-- The output projection of one mixer's row. -/
def proj (a : Fin 1024 → EReal) (w : Fin 1024 → Fin 1024 → EReal) (c : Fin 1024) : EReal := ∑ k, a k * w k c

/-- The output projection of two mixers' rows, side by side. -/
def proj2 (a b : Fin 512 → EReal) (w : Fin 1024 → Fin 1024 → EReal) (c : Fin 1024) : EReal :=
  (∑ k, a k * w ⟨k.val, by omega⟩ c) + ∑ k, b k * w ⟨512 + k.val, by omega⟩ c

end Cert.Row

end
-- ==== Proof.FfnPreTile.lean ====
module

public import proofs.«01_k».proof.Proof.Row
public import proofs.«01_k».proof.Proof.Gen.FfnPreIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnPreIdeal.Value

open Cert.FfnPreIdeal Cert.FfnPreIdeal.Gen

/-- One slab of 256 rows of the kernel's result, as a function of the rows and of what else the body loads. -/
def slab (x : FVec Ideal S256x1024 .f32) (sh sc gt : FVec Ideal S1x1x1024 .f32) (gpre gpost : FVec Ideal S1x1024 .f32)
    (wg wu : FVec Ideal S1x1x1024x2816 .bf16) (wd : FVec Ideal S1x1x2816x1024 .bf16) : FVec Ideal S1x256x1024 .f32 :=
  k0_pay1 (k0_pay20 x (k0_pay19 x sh sc gpre) wg wu wd gt gpost)

/-- Each row of a slab is the sublayer of that row. -/
theorem slab_apply (x : FVec Ideal S256x1024 .f32) (sh sc gt : FVec Ideal S1x1x1024 .f32) (gpre gpost : FVec Ideal S1x1024 .f32)
    (wg wu : FVec Ideal S1x1x1024x2816 .bf16) (wd : FVec Ideal S1x1x2816x1024 .bf16) (i0 : Fin 1) (i1 : Fin 256) (i2 : Fin 1024) :
    slab x sh sc gt gpre gpost wg wu wd (ix3 i0 i1 i2)
      = Row.sublayer (fun j => x (ix2 i1 j)) (fun j => sh (ix3 0 0 j)) (fun j => sc (ix3 0 0 j)) (fun j => gt (ix3 0 0 j))
          (fun j => gpre (ix2 0 j)) (fun j => gpost (ix2 0 j)) (fun k f => wg (ix4 0 0 k f)) (fun k f => wu (ix4 0 0 k f))
          (fun f j => wd (ix4 0 0 f j)) i2 := by
  unfold slab
  open_payloads
  pointwise
  rfl

end Cert.FfnPreIdeal.Value

end
-- ==== Proof.RefStage.lean ====
module

public import proofs.«01_k».proof.Proof.Row
public import proofs.«01_k».proof.Proof.Gen.FfnCRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RefStage

open Cert.FfnCRefIdeal Cert.FfnCRefIdeal.Gen

/-- Root-mean-square normalisation over the last axis, times a gain. -/
def norm (y : FVec Ideal S16x2048x1024 .f32) (g : FVec Ideal S1x1024 .f32) : FVec Ideal S16x2048x1024 .f32 :=
  mulf
    (mulf y (broadcastInDim S16x2048x1024 ![0, 1, 2] bcast_S16x2048x1_S16x2048x1024_0_1_2 (Host.rsqrt (addf
      (Host.divf
        (broadcastInDim S16x2048x1 ![0, 1] bcast_S16x2048_S16x2048x1_0_1
          (Host.reduceAdd (mulf y y) (constant S_ .f32 0x00000000#32) reducesTo_S16x2048x1024_S16x2048_d2 h_S_))
        (broadcastInDim S16x2048x1 ![] bcast_S_S16x2048x1 (constant S_ .f32 0x44800000#32)))
      (broadcastInDim S16x2048x1 ![] bcast_S_S16x2048x1 (constant S_ .f32 0x358637BD#32))))))
    (broadcastInDim S16x2048x1024 ![0, 1, 2] bcast_S1x1x1024_S16x2048x1024_0_1_2
      (broadcastInDim S1x1x1024 ![1, 2] bcast_S1x1024_S1x1x1024_1_2 g))

/-- One modulation row of each batch, at every position of that batch. -/
def spread (r : FVec Ideal S16x1x1024 .f32) : FVec Ideal S16x2048x1024 .f32 :=
  broadcastInDim S16x2048x1024 ![0, 1, 2] bcast_S16x1x1024_S16x2048x1024_0_1_2 r

/-- A constant in every modulation row. -/
def rows (w : BitVec 32) : FVec Ideal S16x1x1024 .f32 :=
  broadcastInDim S16x1x1024 ![] bcast_S_S16x1x1024 (constant S_ .f32 w)

/-- The modulated norm. -/
def hidden (x : FVec Ideal S16x2048x1024 .f32) (g : FVec Ideal S1x1024 .f32) (sc sh : FVec Ideal S16x1x1024 .f32) :
    FVec Ideal S16x2048x1024 .f32 :=
  addf (mulf (norm x g) (spread (addf (rows 0x3F800000#32) sc))) (spread sh)

/-- The logistic function. -/
def sigmoid (g : FVec Ideal S16x2048x2816 .f32) : FVec Ideal S16x2048x2816 .f32 :=
  Host.divf (broadcastInDim S16x2048x2816 ![] bcast_S_S16x2048x2816 (constant S_ .f32 0x3F800000#32))
    (addf (broadcastInDim S16x2048x2816 ![] bcast_S_S16x2048x2816 (constant S_ .f32 0x3F800000#32)) (Host.exp (Host.negf g)))

/-- One of the two up projections. -/
def up (h : FVec Ideal S16x2048x1024 .f32) (w : FVec Ideal S1x1x1024x2816 .f32) : FVec Ideal S16x2048x2816 .f32 :=
  Host.dotGeneral dot_S16x2048x1024_S1024x2816_S16x2048x2816_2_0_01_1_n_n none h (shapeCast _ w shapeCasts_S1x1x1024x2816_S1024x2816)

/-- The gated feed-forward map. -/
def ffn (h : FVec Ideal S16x2048x1024 .f32) (wg wu : FVec Ideal S1x1x1024x2816 .f32) (wd : FVec Ideal S1x1x2816x1024 .f32) :
    FVec Ideal S16x2048x1024 .f32 :=
  Host.dotGeneral dot_S16x2048x2816_S2816x1024_S16x2048x1024_2_0_01_1_n_n none
    (mulf (mulf (up h wg) (sigmoid (up h wg))) (up h wu)) (shapeCast _ wd shapeCasts_S1x1x2816x1024_S2816x1024)

/-- The feed-forward sublayer: the input plus half the gate times the normalised feed-forward map of the modulated norm. -/
def sublayer (x : FVec Ideal S16x2048x1024 .f32) (sh sc gt : FVec Ideal S16x1x1024 .f32) (gpre gpost : FVec Ideal S1x1024 .f32)
    (wg wu : FVec Ideal S1x1x1024x2816 .f32) (wd : FVec Ideal S1x1x2816x1024 .f32) : FVec Ideal S16x2048x1024 .f32 :=
  addf x (mulf (spread (mulf (rows 0x3F000000#32) gt)) (norm (ffn (hidden x gpre sc sh) wg wu wd) gpost))

/-- The mixer's residual: the input plus the gate times the normalised `y`. -/
def mixed (x y : FVec Ideal S16x2048x1024 .f32) (gt : FVec Ideal S16x1x1024 .f32) (gpost : FVec Ideal S1x1024 .f32) :
    FVec Ideal S16x2048x1024 .f32 :=
  addf x (mulf (spread gt) (norm y gpost))

/-- The normalisation at one position. -/
theorem norm_apply (y : FVec Ideal S16x2048x1024 .f32) (g : FVec Ideal S1x1024 .f32) (i0 : Fin 16) (i1 : Fin 2048) (i2 : Fin 1024) :
    norm y g (ix3 i0 i1 i2) = y (ix3 i0 i1 i2) * Row.rinv (fun j => y (ix3 i0 i1 j)) * g (ix2 0 i2) := by
  unfold norm
  pointwise
  rfl

/-- The modulated norm, row by row. -/
theorem hidden_apply (x : FVec Ideal S16x2048x1024 .f32) (g : FVec Ideal S1x1024 .f32) (sc sh : FVec Ideal S16x1x1024 .f32)
    (i0 : Fin 16) (i1 : Fin 2048) (i2 : Fin 1024) :
    hidden x g sc sh (ix3 i0 i1 i2)
      = Row.hidden (fun j => x (ix3 i0 i1 j)) (fun j => g (ix2 0 j)) (fun j => sc (ix3 i0 0 j)) (fun j => sh (ix3 i0 0 j)) i2 := by
  pointwise [hidden, spread, rows, norm_apply]
  rfl

/-- The gated feed-forward map, row by row. -/
theorem ffn_apply (h : FVec Ideal S16x2048x1024 .f32) (wg wu : FVec Ideal S1x1x1024x2816 .f32) (wd : FVec Ideal S1x1x2816x1024 .f32)
    (i0 : Fin 16) (i1 : Fin 2048) (i2 : Fin 1024) :
    ffn h wg wu wd (ix3 i0 i1 i2)
      = Row.ffn (fun j => h (ix3 i0 i1 j)) (fun k f => wg (ix4 0 0 k f)) (fun k f => wu (ix4 0 0 k f)) (fun f j => wd (ix4 0 0 f j)) i2 := by
  pointwise [ffn, up, sigmoid]
  rfl

/-- The sublayer, row by row. -/
theorem sublayer_apply (x : FVec Ideal S16x2048x1024 .f32) (sh sc gt : FVec Ideal S16x1x1024 .f32) (gpre gpost : FVec Ideal S1x1024 .f32)
    (wg wu : FVec Ideal S1x1x1024x2816 .f32) (wd : FVec Ideal S1x1x2816x1024 .f32) (i0 : Fin 16) (i1 : Fin 2048) (i2 : Fin 1024) :
    sublayer x sh sc gt gpre gpost wg wu wd (ix3 i0 i1 i2)
      = Row.sublayer (fun j => x (ix3 i0 i1 j)) (fun j => sh (ix3 i0 0 j)) (fun j => sc (ix3 i0 0 j)) (fun j => gt (ix3 i0 0 j))
          (fun j => gpre (ix2 0 j)) (fun j => gpost (ix2 0 j)) (fun k f => wg (ix4 0 0 k f)) (fun k f => wu (ix4 0 0 k f))
          (fun f j => wd (ix4 0 0 f j)) i2 := by
  pointwise [sublayer, spread, rows, norm_apply]
  simp only [ffn_apply, hidden_apply]
  rfl

/-- The mixer's residual, row by row. -/
theorem mixed_apply (x y : FVec Ideal S16x2048x1024 .f32) (gt : FVec Ideal S16x1x1024 .f32) (gpost : FVec Ideal S1x1024 .f32)
    (i0 : Fin 16) (i1 : Fin 2048) (i2 : Fin 1024) :
    mixed x y gt gpost (ix3 i0 i1 i2)
      = Row.mixed (fun j => x (ix3 i0 i1 j)) (fun j => gt (ix3 i0 0 j)) (fun j => gpost (ix2 0 j)) (fun j => y (ix3 i0 i1 j)) i2 := by
  pointwise [mixed, spread, norm_apply]
  rfl

end Cert.RefStage

end
-- ==== Proof.FfnPreRef.lean ====
module

public import proofs.«01_k».proof.Proof.RefStage
public import proofs.«01_k».proof.Proof.Gen.FfnPreRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnPreRefIdeal.Read

open Cert.FfnPreRefIdeal Cert.FfnPreRefIdeal.Gen

variable (x0 : FVec Ideal S16x2048x1024 .f32) (x1 : FVec Ideal S24x9x1024 .f32) (x2 x3 : FVec Ideal S3x1024 .f32)
  (x4 x5 : FVec Ideal S2x2x1024x2816 .f32) (x6 : FVec Ideal S2x2x2816x1024 .f32)

/-- The reference's result, as a function of its arguments. -/
def result : FVec Ideal S16x2048x1024 .f32 :=
  RefStage.sublayer x0
    (extractStridedSlice S16x1x1024 ![0, 0, 0] x1 slices_S24x9x1024_S16x1x1024_0_0_0)
    (extractStridedSlice S16x1x1024 ![0, 1, 0] x1 slices_S24x9x1024_S16x1x1024_0_1_0)
    (extractStridedSlice S16x1x1024 ![0, 2, 0] x1 slices_S24x9x1024_S16x1x1024_0_2_0)
    (extractStridedSlice S1x1024 ![0, 0] x2 slices_S3x1024_S1x1024_0_0)
    (extractStridedSlice S1x1024 ![0, 0] x3 slices_S3x1024_S1x1024_0_0)
    (extractStridedSlice S1x1x1024x2816 ![0, 0, 0, 0] x4 slices_S2x2x1024x2816_S1x1x1024x2816_0_0_0_0)
    (extractStridedSlice S1x1x1024x2816 ![0, 0, 0, 0] x5 slices_S2x2x1024x2816_S1x1x1024x2816_0_0_0_0)
    (extractStridedSlice S1x1x2816x1024 ![0, 0, 0, 0] x6 slices_S2x2x2816x1024_S1x1x2816x1024_0_0_0_0)

/-- The reference's result, row by row. -/
theorem ref_apply (i0 : Fin 16) (i1 : Fin 2048) (i2 : Fin 1024) :
    result x0 x1 x2 x3 x4 x5 x6 (ix3 i0 i1 i2)
      = Row.sublayer (fun j => x0 (ix3 i0 i1 j))
          (fun j => x1 (ix3 ⟨i0.val, by omega⟩ 0 j)) (fun j => x1 (ix3 ⟨i0.val, by omega⟩ 1 j))
          (fun j => x1 (ix3 ⟨i0.val, by omega⟩ 2 j)) (fun j => x2 (ix2 0 j)) (fun j => x3 (ix2 0 j))
          (fun k f => x4 (ix4 0 0 k f)) (fun k f => x5 (ix4 0 0 k f)) (fun f j => x6 (ix4 0 0 f j)) i2 := by
  rw [result, RefStage.sublayer_apply]
  pointwise

end Cert.FfnPreRefIdeal.Read

end
-- ==== Proof.FfnPreValue.lean ====
module

public import proofs.«01_k».proof.Proof.FfnPreTile
public import proofs.«01_k».proof.Proof.FfnPreRef
public import proofs.«01_k».proof.Proof.Gen.FfnPreIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnPreIdeal.Value

open Cert.FfnPreIdeal Cert.FfnPreIdeal.Gen
open Cert.FfnPreRefIdeal.Read (result)

variable (m : (ℓ : Loc nD τ sig) → Buf (Elt Ideal) ℓ)

/-- Every window's block index at every grid point. -/
theorem idx : ∀ t : Fin cfg0.N, win0_0.index t = ![t.val / 2, t.val % 2, 0]
    ∧ win0_1.index t = ![t.val / 2, 0, 0]
    ∧ win0_2.index t = ![0, 0]
    ∧ win0_3.index t = ![0, 0]
    ∧ win0_4.index t = ![0, 0, 0, 0]
    ∧ win0_5.index t = ![0, 0, 0, 0]
    ∧ win0_6.index t = ![0, 0, 0, 0]
    ∧ win0_7.index t = ![t.val / 2, t.val % 2, 0] :=
  (by decide +kernel : ∀ t : Fin grid0.N, _)

/-- The reference's term on the kernel's launch arguments. -/
abbrev REF (c : Dev nD) : FVec Ideal Cert.FfnPreRefIdeal.S16x2048x1024 .f32 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The result of the slab starting at row `o` of the block at grid point `t`, entry by entry, is the reference's entry. -/
theorem slab_ref (c : Dev nD) (t : Fin cfg0.N) (o : Nat) (ho : o ≤ 768) (x : S1x256x1024.Idx) (y : S1x1024x1024.Idx)
    (X : FVec Ideal S256x1024 .f32)
    (hX : ∀ j : Fin 1024, X (ix2 (x 1) j) = iblk m c 0 t (ix3 0 ⟨o + (x 1).val, by have : (x 1).val < 256 := (x 1).isLt; omega⟩ j))
    (h1 : (y 1).val = o + (x 1).val) (h2 : (y 2).val = (x 2).val) :
    slab X (View.ld (iblk m c 1 t) r0_4) (View.ld (iblk m c 1 t) r0_5) (View.ld (iblk m c 1 t) r0_9) (View.ld (iblk m c 2 t) r0_6)
        (View.ld (iblk m c 3 t) r0_6) (View.ld (iblk m c 4 t) r0_7) (View.ld (iblk m c 5 t) r0_7) (View.ld (iblk m c 6 t) r0_8) x
      = REF m c (((cfg0.win 7).blk t).view.emb y) := by
  idx_vars x
  rw [slab_apply]
  obtain ⟨z, hz⟩ : ∃ z : Cert.FfnPreRefIdeal.S16x2048x1024.Idx, z = ((cfg0.win 7).blk t).view.emb y := ⟨_, rfl⟩
  have z0 : (z 0).val = t.val / 2 := by subst hz; have := (y 0).isLt; blk_simp [idx t]
  have z1 : (z 1).val = t.val % 2 * 1024 + o + x1.val := by subst hz; blk_simp [idx t]; omega
  have z2 : (z 2).val = x2.val := by subst hz; blk_simp [idx t]; omega
  refine Eq.trans ?_ (congrArg (REF m c) hz)
  clear hz
  idx_vars z
  rw [REF, Cert.FfnPreRefIdeal.Read.ref_apply]
  simp only [hX]
  blk_point [iblk, V, idx t]
  exact Fin.ext z2.symm

/-- What the body leaves in the output window's buffer at grid point `t` is the reference at the window's block. -/
theorem point (c : Dev nD) (t : Fin cfg0.N) (y) :
    out0_7 (iblk m c 0 t) (iblk m c 1 t) (iblk m c 2 t) (iblk m c 3 t) (iblk m c 4 t) (iblk m c 5 t) (iblk m c 6 t) y
      = REF m c (((cfg0.win 7).blk t).view.emb y) := by
  canon_tiles x h
  · exact slab_ref m c t 768 (by omega) x y (k0_pay5 (View.ld (iblk m c 0 t) r0_3)) (fun j => by open_payloads; pointwise) h1 h2
  · exact slab_ref m c t 512 (by omega) x y (k0_pay5 (View.ld (iblk m c 0 t) r0_2)) (fun j => by open_payloads; pointwise) h1 h2
  · exact slab_ref m c t 256 (by omega) x y (k0_pay5 (View.ld (iblk m c 0 t) r0_1)) (fun j => by open_payloads; pointwise) h1 h2
  · exact slab_ref m c t 0 (by omega) x y (k0_pay5 (View.ld (iblk m c 0 t) r0_0)) (fun j => by open_payloads; pointwise) (by omega) h2

/-- The kernel's result array is the reference's. -/
theorem final (c : Dev nD) : (dats m 0 c).arrAt 7 (cfgs 0).N = REF m c := by
  refine (dats m 0 c).arrAt_eq_of_covers 7 _ (by decide +kernel) fun t hf y => ?_
  blk_simp; rw [after0_7]
  exact point m c t y

end Cert.FfnPreIdeal.Value

end
-- ==== Proof.FfnPreClaim.lean ====
module

public import proofs.«01_k».proof.Proof.FfnPreValue
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnPreClaim

/-- The reference runs to its end, its arguments unchanged and no counter raised. -/
theorem ref_frame : Cert.quiescent_FfnPreRefIdeal (hFfnPreRefIdeal := Cert.FfnPreRefIdeal.Gen.facts) := by
  intro m g hpre
  hlo_run
  · exact fun c => by simp only [and_self]
  · exact sem_eq_zero_of_no_sems (show Cert.FfnPreRefIdeal.sig.nSem + Cert.FfnPreRefIdeal.sig.nDmaSem = 0 by decide) _

set_option maxHeartbeats 4000000 in
/-- The kernel call and the reference, run on the same arguments, end with the same result. -/
theorem algebraic : Cert.algebraic_FfnPreIdeal_FfnPreRefIdeal (hFfnPreIdeal := Cert.FfnPreIdeal.Gen.facts) (hFfnPreRefIdeal := Cert.FfnPreRefIdeal.Gen.facts) := by
  pair_intro
  · run_from Cert.FfnPreIdeal.Gen.run_main m g
  · hlo_run
    exact (Cert.FfnPreIdeal.Value.final m c).symm

end Cert.FfnPreClaim

end
-- ==== Proof.FfnAbTile.lean ====
module

public import proofs.«01_k».proof.Proof.Row
public import proofs.«01_k».proof.Proof.Gen.FfnAbIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnAbIdeal.Value

open Cert.FfnAbIdeal Cert.FfnAbIdeal.Gen

/-- One slab of 256 rows after the mixer's residual, as a function of what the body loads for it. -/
def mixedSlab (x : FVec Ideal S1x256x1024 .f32) (a b : FVec Ideal S1x256x512 .bf16) (wa wb : FVec Ideal S512x1024 .bf16)
    (gt : FVec Ideal S1x1x1024 .f32) (gpost : FVec Ideal S1x1024 .f32) : FVec Ideal S256x1024 .f32 :=
  k0_pay13 (k0_pay4 x) a wa b wb gt gpost

/-- Each row of a slab is the mixer's residual of that row. -/
theorem mixedSlab_apply (x : FVec Ideal S1x256x1024 .f32) (a b : FVec Ideal S1x256x512 .bf16) (wa wb : FVec Ideal S512x1024 .bf16)
    (gt : FVec Ideal S1x1x1024 .f32) (gpost : FVec Ideal S1x1024 .f32) (i1 : Fin 256) (i2 : Fin 1024) :
    mixedSlab x a b wa wb gt gpost (ix2 i1 i2)
      = Row.mixed (fun j => x (ix3 0 i1 j)) (fun j => gt (ix3 0 0 j)) (fun j => gpost (ix2 0 j))
          (fun c => (∑ k, a (ix3 0 i1 k) * wa (ix2 k c)) + ∑ k, b (ix3 0 i1 k) * wb (ix2 k c)) i2 := by
  unfold mixedSlab
  open_payloads
  pointwise
  rfl

end Cert.FfnAbIdeal.Value

end
-- ==== Proof.FfnAbRef.lean ====
module

public import proofs.«01_k».proof.Proof.RefStage
public import proofs.«01_k».proof.Proof.Gen.FfnAbRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnAbRefIdeal.Read

open Cert.FfnAbRefIdeal Cert.FfnAbRefIdeal.Gen

variable (x0 x1 : FVec Ideal S16x2048x512 .bf16) (x2 : FVec Ideal S16x2048x1024 .f32) (x3 : FVec Ideal S24x9x1024 .f32) (x4 x5 : FVec Ideal S3x1024 .f32)
  (x6 : FVec Ideal S1024x1024 .f32) (x7 x8 : FVec Ideal S2x2x1024x2816 .f32) (x9 : FVec Ideal S2x2x2816x1024 .f32)

/-- The reference's output projection of the two mixers' outputs side by side. -/
def y : FVec Ideal S16x2048x1024 .f32 :=
  Host.dotGeneral dot_S16x2048x1024_S1024x1024_S16x2048x1024_2_0_01_1_n_n none
    (concatenate S16x2048x1024 2 [⟨S16x2048x512, extf .f32 x0 bitsLt_bf16_f32⟩, ⟨S16x2048x512, extf .f32 x1 bitsLt_bf16_f32⟩]
      concatenates_S16x2048x512_S16x2048x512_S16x2048x1024_d2) x6

/-- The reference's array after the mixer's residual. -/
def afterMixer : FVec Ideal S16x2048x1024 .f32 :=
  RefStage.mixed x2 (y x0 x1 x6) (extractStridedSlice S16x1x1024 ![0, 5, 0] x3 slices_S24x9x1024_S16x1x1024_0_5_0)
    (extractStridedSlice S1x1024 ![1, 0] x5 slices_S3x1024_S1x1024_1_0)

/-- The reference's result, as a function of its arguments. -/
def result : FVec Ideal S16x2048x1024 .f32 :=
  RefStage.sublayer (afterMixer x0 x1 x2 x3 x5 x6)
    (extractStridedSlice S16x1x1024 ![0, 6, 0] x3 slices_S24x9x1024_S16x1x1024_0_6_0)
    (extractStridedSlice S16x1x1024 ![0, 7, 0] x3 slices_S24x9x1024_S16x1x1024_0_7_0)
    (extractStridedSlice S16x1x1024 ![0, 8, 0] x3 slices_S24x9x1024_S16x1x1024_0_8_0)
    (extractStridedSlice S1x1024 ![2, 0] x4 slices_S3x1024_S1x1024_2_0)
    (extractStridedSlice S1x1024 ![2, 0] x5 slices_S3x1024_S1x1024_2_0)
    (extractStridedSlice S1x1x1024x2816 ![0, 1, 0, 0] x7 slices_S2x2x1024x2816_S1x1x1024x2816_0_1_0_0)
    (extractStridedSlice S1x1x1024x2816 ![0, 1, 0, 0] x8 slices_S2x2x1024x2816_S1x1x1024x2816_0_1_0_0)
    (extractStridedSlice S1x1x2816x1024 ![0, 1, 0, 0] x9 slices_S2x2x2816x1024_S1x1x2816x1024_0_1_0_0)

/-- The output projection, row by row. -/
theorem y_apply (i0 : Fin 16) (i1 : Fin 2048) (i2 : Fin 1024) :
    y x0 x1 x6 (ix3 i0 i1 i2)
      = Row.proj2 (fun k => x0 (ix3 i0 i1 k)) (fun k => x1 (ix3 i0 i1 k)) (fun k c => x6 (ix2 k c)) i2 := by
  pointwise [y]
  rfl

/-- The reference's row after the mixer's residual. -/
theorem mixed_apply (i0 : Fin 16) (i1 : Fin 2048) (i2 : Fin 1024) :
    afterMixer x0 x1 x2 x3 x5 x6 (ix3 i0 i1 i2)
      = Row.mixed (fun j => x2 (ix3 i0 i1 j)) (fun j => x3 (ix3 ⟨i0.val, by omega⟩ 5 j)) (fun j => x5 (ix2 1 j))
          (Row.proj2 (fun k => x0 (ix3 i0 i1 k)) (fun k => x1 (ix3 i0 i1 k)) (fun k c => x6 (ix2 k c))) i2 := by
  rw [afterMixer, RefStage.mixed_apply]
  simp only [y_apply]
  pointwise

/-- The reference's result, row by row. -/
theorem ref_apply (i0 : Fin 16) (i1 : Fin 2048) (i2 : Fin 1024) :
    result x0 x1 x2 x3 x4 x5 x6 x7 x8 x9 (ix3 i0 i1 i2)
      = Row.sublayer (Row.mixed (fun j => x2 (ix3 i0 i1 j)) (fun j => x3 (ix3 ⟨i0.val, by omega⟩ 5 j)) (fun j => x5 (ix2 1 j))
          (Row.proj2 (fun k => x0 (ix3 i0 i1 k)) (fun k => x1 (ix3 i0 i1 k)) (fun k c => x6 (ix2 k c))))
          (fun j => x3 (ix3 ⟨i0.val, by omega⟩ 6 j)) (fun j => x3 (ix3 ⟨i0.val, by omega⟩ 7 j))
          (fun j => x3 (ix3 ⟨i0.val, by omega⟩ 8 j)) (fun j => x4 (ix2 2 j)) (fun j => x5 (ix2 2 j))
          (fun k f => x7 (ix4 0 1 k f)) (fun k f => x8 (ix4 0 1 k f)) (fun f j => x9 (ix4 0 1 f j)) i2 := by
  rw [result, RefStage.sublayer_apply]
  simp only [mixed_apply]
  pointwise

end Cert.FfnAbRefIdeal.Read

end
-- ==== Proof.FfnAbValue.lean ====
module

public import proofs.«01_k».proof.Proof.FfnPreTile
public import proofs.«01_k».proof.Proof.FfnAbTile
public import proofs.«01_k».proof.Proof.FfnAbRef
public import proofs.«01_k».proof.Proof.Gen.FfnAbIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnAbIdeal.Value

open Cert.FfnAbIdeal Cert.FfnAbIdeal.Gen
open Cert.FfnAbRefIdeal.Read (result)

variable (m : (ℓ : Loc nD τ sig) → Buf (Elt Ideal) ℓ)

/-- Every window's block index at every grid point. -/
theorem idx : ∀ t : Fin cfg0.N, win0_0.index t = ![t.val / 2, t.val % 2, 0]
    ∧ win0_1.index t = ![t.val / 2, t.val % 2, 0]
    ∧ win0_2.index t = ![t.val / 2, t.val % 2, 0]
    ∧ win0_3.index t = ![t.val / 2, 0, 0]
    ∧ win0_4.index t = ![0, 0]
    ∧ win0_5.index t = ![0, 0]
    ∧ win0_6.index t = ![0, 0]
    ∧ win0_7.index t = ![0, 1, 0, 0]
    ∧ win0_8.index t = ![0, 1, 0, 0]
    ∧ win0_9.index t = ![0, 1, 0, 0]
    ∧ win0_10.index t = ![t.val / 2, t.val % 2, 0] :=
  (by decide +kernel : ∀ t : Fin grid0.N, _)

/-- The reference's term on the kernel's launch arguments. -/
abbrev REF (c : Dev nD) : FVec Ideal Cert.FfnAbRefIdeal.S16x2048x1024 .f32 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- A row of the block at grid point `t` after the mixer's residual. -/
abbrev mrow (c : Dev nD) (t : Fin cfg0.N) (q : Fin 1024) : Fin 1024 → EReal :=
  Row.mixed (fun j => iblk m c 2 t (ix3 0 q j)) (fun j => iblk m c 3 t (ix3 0 5 j)) (fun j => iblk m c 5 t (ix2 1 j))
    (Row.proj2 (fun k => iblk m c 0 t (ix3 0 q k)) (fun k => iblk m c 1 t (ix3 0 q k)) (fun k c' => iblk m c 6 t (ix2 k c')))

/-- The result of the slab starting at row `o` of the block at grid point `t`, entry by entry, is the reference's entry. -/
theorem slab_ref (c : Dev nD) (t : Fin cfg0.N) (o : Nat) (ho : o ≤ 768) (x : S1x256x1024.Idx) (y : S1x1024x1024.Idx)
    (X : FVec Ideal S256x1024 .f32)
    (hX : ∀ j : Fin 1024, X (ix2 (x 1) j) = mrow m c t ⟨o + (x 1).val, by have : (x 1).val < 256 := (x 1).isLt; omega⟩ j)
    (h1 : (y 1).val = o + (x 1).val) (h2 : (y 2).val = (x 2).val) :
    Cert.FfnPreIdeal.Value.slab X (View.ld (iblk m c 3 t) r0_12) (View.ld (iblk m c 3 t) r0_13) (View.ld (iblk m c 3 t) r0_17) (View.ld (iblk m c 4 t) r0_14)
        (View.ld (iblk m c 5 t) r0_14) (View.ld (iblk m c 7 t) r0_15) (View.ld (iblk m c 8 t) r0_15) (View.ld (iblk m c 9 t) r0_16) x
      = REF m c (((cfg0.win 10).blk t).view.emb y) := by
  idx_vars x
  rw [Cert.FfnPreIdeal.Value.slab_apply]
  obtain ⟨z, hz⟩ : ∃ z : Cert.FfnAbRefIdeal.S16x2048x1024.Idx, z = ((cfg0.win 10).blk t).view.emb y := ⟨_, rfl⟩
  have z0 : (z 0).val = t.val / 2 := by subst hz; have := (y 0).isLt; blk_simp [idx t]
  have z1 : (z 1).val = t.val % 2 * 1024 + o + x1.val := by subst hz; blk_simp [idx t]; omega
  have z2 : (z 2).val = x2.val := by subst hz; blk_simp [idx t]; omega
  refine Eq.trans ?_ (congrArg (REF m c) hz)
  clear hz
  idx_vars z
  rw [REF, Cert.FfnAbRefIdeal.Read.ref_apply]
  simp only [hX, mrow]
  blk_point [iblk, V, idx t]
  exact Fin.ext z2.symm

/-- A slab after the mixer's residual, row by row, is the block's row after it. -/
theorem mixed_ref (c : Dev nD) (t : Fin cfg0.N) (o : Nat) (ho : o ≤ 768) (r : Fin 256) (X : FVec Ideal S1x256x1024 .f32) (A B : FVec Ideal S1x256x512 .bf16)
    (hX : ∀ j : Fin 1024, X (ix3 0 r j) = iblk m c 2 t (ix3 0 ⟨o + r.val, by omega⟩ j))
    (hA : ∀ j : Fin 512, A (ix3 0 r j) = iblk m c 0 t (ix3 0 ⟨o + r.val, by omega⟩ j))
    (hB : ∀ j : Fin 512, B (ix3 0 r j) = iblk m c 1 t (ix3 0 ⟨o + r.val, by omega⟩ j)) (j : Fin 1024) :
    mixedSlab X A B (View.ld (iblk m c 6 t) r0_5) (View.ld (iblk m c 6 t) r0_6) (View.ld (iblk m c 3 t) r0_7) (View.ld (iblk m c 5 t) r0_8) (ix2 r j) = mrow m c t ⟨o + r.val, by omega⟩ j := by
  rw [mixedSlab_apply]
  simp only [hX, hA, hB]
  pointwise
  rfl

/-- What the body leaves in the output window's buffer at grid point `t` is the reference at the window's block. -/
theorem point (c : Dev nD) (t : Fin cfg0.N) (y) :
    out0_10 (iblk m c 0 t) (iblk m c 1 t) (iblk m c 2 t) (iblk m c 3 t) (iblk m c 4 t) (iblk m c 5 t) (iblk m c 6 t) (iblk m c 7 t) (iblk m c 8 t) (iblk m c 9 t) y
      = REF m c (((cfg0.win 10).blk t).view.emb y) := by
  canon_tiles x h
  · exact slab_ref m c t 768 (by omega) x y
      (mixedSlab (View.ld (iblk m c 2 t) r0_3) (View.ld (iblk m c 0 t) r0_11) (View.ld (iblk m c 1 t) r0_11) (View.ld (iblk m c 6 t) r0_5)
        (View.ld (iblk m c 6 t) r0_6) (View.ld (iblk m c 3 t) r0_7) (View.ld (iblk m c 5 t) r0_8))
      (mixed_ref m c t 768 (by omega) (x 1) _ _ _ (fun j => View.ld_unit_apply_of _ _ _ _ _ _ fun a => by fin_cases a <;> simp)
        (fun j => View.ld_unit_apply_of _ _ _ _ _ _ fun a => by fin_cases a <;> simp)
        (fun j => View.ld_unit_apply_of _ _ _ _ _ _ fun a => by fin_cases a <;> simp)) h1 h2
  · exact slab_ref m c t 512 (by omega) x y
      (mixedSlab (View.ld (iblk m c 2 t) r0_2) (View.ld (iblk m c 0 t) r0_10) (View.ld (iblk m c 1 t) r0_10) (View.ld (iblk m c 6 t) r0_5)
        (View.ld (iblk m c 6 t) r0_6) (View.ld (iblk m c 3 t) r0_7) (View.ld (iblk m c 5 t) r0_8))
      (mixed_ref m c t 512 (by omega) (x 1) _ _ _ (fun j => View.ld_unit_apply_of _ _ _ _ _ _ fun a => by fin_cases a <;> simp)
        (fun j => View.ld_unit_apply_of _ _ _ _ _ _ fun a => by fin_cases a <;> simp)
        (fun j => View.ld_unit_apply_of _ _ _ _ _ _ fun a => by fin_cases a <;> simp)) h1 h2
  · exact slab_ref m c t 256 (by omega) x y
      (mixedSlab (View.ld (iblk m c 2 t) r0_1) (View.ld (iblk m c 0 t) r0_9) (View.ld (iblk m c 1 t) r0_9) (View.ld (iblk m c 6 t) r0_5)
        (View.ld (iblk m c 6 t) r0_6) (View.ld (iblk m c 3 t) r0_7) (View.ld (iblk m c 5 t) r0_8))
      (mixed_ref m c t 256 (by omega) (x 1) _ _ _ (fun j => View.ld_unit_apply_of _ _ _ _ _ _ fun a => by fin_cases a <;> simp)
        (fun j => View.ld_unit_apply_of _ _ _ _ _ _ fun a => by fin_cases a <;> simp)
        (fun j => View.ld_unit_apply_of _ _ _ _ _ _ fun a => by fin_cases a <;> simp)) h1 h2
  · exact slab_ref m c t 0 (by omega) x y
      (mixedSlab (View.ld (iblk m c 2 t) r0_0) (View.ld (iblk m c 0 t) r0_4) (View.ld (iblk m c 1 t) r0_4) (View.ld (iblk m c 6 t) r0_5)
        (View.ld (iblk m c 6 t) r0_6) (View.ld (iblk m c 3 t) r0_7) (View.ld (iblk m c 5 t) r0_8))
      (mixed_ref m c t 0 (by omega) (x 1) _ _ _ (fun j => View.ld_unit_apply_of _ _ _ _ _ _ fun a => by fin_cases a <;> simp)
        (fun j => View.ld_unit_apply_of _ _ _ _ _ _ fun a => by fin_cases a <;> simp)
        (fun j => View.ld_unit_apply_of _ _ _ _ _ _ fun a => by fin_cases a <;> simp)) (by omega) h2

/-- The kernel's result array is the reference's. -/
theorem final (c : Dev nD) : (dats m 0 c).arrAt 10 (cfgs 0).N = REF m c := by
  refine (dats m 0 c).arrAt_eq_of_covers 10 _ (by decide +kernel) fun t hf y => ?_
  blk_simp; rw [after0_10]
  exact point m c t y

end Cert.FfnAbIdeal.Value

end
-- ==== Proof.FfnAbClaim.lean ====
module

public import proofs.«01_k».proof.Proof.FfnAbValue
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnAbClaim

/-- The reference runs to its end, its arguments unchanged and no counter raised. -/
theorem ref_frame : Cert.quiescent_FfnAbRefIdeal (hFfnAbRefIdeal := Cert.FfnAbRefIdeal.Gen.facts) := by
  intro m g hpre
  hlo_run
  · exact fun c => by simp only [and_self]
  · exact sem_eq_zero_of_no_sems (show Cert.FfnAbRefIdeal.sig.nSem + Cert.FfnAbRefIdeal.sig.nDmaSem = 0 by decide) _

set_option maxHeartbeats 4000000 in
/-- The kernel call and the reference, run on the same arguments, end with the same result. -/
theorem algebraic : Cert.algebraic_FfnAbIdeal_FfnAbRefIdeal (hFfnAbIdeal := Cert.FfnAbIdeal.Gen.facts) (hFfnAbRefIdeal := Cert.FfnAbRefIdeal.Gen.facts) := by
  pair_intro
  · run_from Cert.FfnAbIdeal.Gen.run_main m g
  · hlo_run
    exact (Cert.FfnAbIdeal.Value.final m c).symm

end Cert.FfnAbClaim

end
-- ==== Proof.FfnCTile.lean ====
module

public import proofs.«01_k».proof.Proof.Row
public import proofs.«01_k».proof.Proof.Gen.FfnCIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnCIdeal.Value

open Cert.FfnCIdeal Cert.FfnCIdeal.Gen

/-- One slab of 256 rows after the mixer's residual, as a function of what the body loads for it. -/
def mixedSlab (x : FVec Ideal S1x256x1024 .f32) (a : FVec Ideal S1x256x1024 .bf16) (w : FVec Ideal S1024x1024 .bf16)
    (gt : FVec Ideal S1x1x1024 .f32) (gpost : FVec Ideal S1x1024 .f32) : FVec Ideal S256x1024 .f32 :=
  k0_pay9 (k0_pay3 x) a w gt gpost

/-- Each row of a slab is the mixer's residual of that row. -/
theorem mixedSlab_apply (x : FVec Ideal S1x256x1024 .f32) (a : FVec Ideal S1x256x1024 .bf16) (w : FVec Ideal S1024x1024 .bf16)
    (gt : FVec Ideal S1x1x1024 .f32) (gpost : FVec Ideal S1x1024 .f32) (i1 : Fin 256) (i2 : Fin 1024) :
    mixedSlab x a w gt gpost (ix2 i1 i2)
      = Row.mixed (fun j => x (ix3 0 i1 j)) (fun j => gt (ix3 0 0 j)) (fun j => gpost (ix2 0 j))
          (Row.proj (fun k => a (ix3 0 i1 k)) (fun k c => w (ix2 k c))) i2 := by
  unfold mixedSlab
  open_payloads
  pointwise
  rfl

end Cert.FfnCIdeal.Value

end
-- ==== Proof.FfnCRef.lean ====
module

public import proofs.«01_k».proof.Proof.RefStage
public import proofs.«01_k».proof.Proof.Gen.FfnCRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnCRefIdeal.Read

open Cert.FfnCRefIdeal Cert.FfnCRefIdeal.Gen

variable (x0 : FVec Ideal S16x2048x1024 .bf16) (x1 : FVec Ideal S16x2048x1024 .f32) (x2 : FVec Ideal S24x9x1024 .f32) (x3 x4 : FVec Ideal S3x1024 .f32)
  (x5 : FVec Ideal S1024x1024 .f32) (x6 x7 : FVec Ideal S2x2x1024x2816 .f32) (x8 : FVec Ideal S2x2x2816x1024 .f32)

/-- The reference's output projection. -/
def y : FVec Ideal S16x2048x1024 .f32 :=
  Host.dotGeneral dot_S16x2048x1024_S1024x1024_S16x2048x1024_2_0_01_1_n_n none (extf .f32 x0 bitsLt_bf16_f32) x5

/-- The reference's array after the mixer's residual. -/
def afterMixer : FVec Ideal S16x2048x1024 .f32 :=
  RefStage.mixed x1 (y x0 x5) (extractStridedSlice S16x1x1024 ![0, 5, 0] x2 slices_S24x9x1024_S16x1x1024_0_5_0)
    (extractStridedSlice S1x1024 ![1, 0] x4 slices_S3x1024_S1x1024_1_0)

/-- The reference's result, as a function of its arguments. -/
def result : FVec Ideal S16x2048x1024 .f32 :=
  RefStage.sublayer (afterMixer x0 x1 x2 x4 x5)
    (extractStridedSlice S16x1x1024 ![0, 6, 0] x2 slices_S24x9x1024_S16x1x1024_0_6_0)
    (extractStridedSlice S16x1x1024 ![0, 7, 0] x2 slices_S24x9x1024_S16x1x1024_0_7_0)
    (extractStridedSlice S16x1x1024 ![0, 8, 0] x2 slices_S24x9x1024_S16x1x1024_0_8_0)
    (extractStridedSlice S1x1024 ![2, 0] x3 slices_S3x1024_S1x1024_2_0)
    (extractStridedSlice S1x1024 ![2, 0] x4 slices_S3x1024_S1x1024_2_0)
    (extractStridedSlice S1x1x1024x2816 ![1, 1, 0, 0] x6 slices_S2x2x1024x2816_S1x1x1024x2816_1_1_0_0)
    (extractStridedSlice S1x1x1024x2816 ![1, 1, 0, 0] x7 slices_S2x2x1024x2816_S1x1x1024x2816_1_1_0_0)
    (extractStridedSlice S1x1x2816x1024 ![1, 1, 0, 0] x8 slices_S2x2x2816x1024_S1x1x2816x1024_1_1_0_0)

/-- The output projection, row by row. -/
theorem y_apply (i0 : Fin 16) (i1 : Fin 2048) (i2 : Fin 1024) :
    y x0 x5 (ix3 i0 i1 i2) = Row.proj (fun k => x0 (ix3 i0 i1 k)) (fun k c => x5 (ix2 k c)) i2 := by
  pointwise [y]
  rfl

/-- The reference's row after the mixer's residual. -/
theorem mixed_apply (i0 : Fin 16) (i1 : Fin 2048) (i2 : Fin 1024) :
    afterMixer x0 x1 x2 x4 x5 (ix3 i0 i1 i2)
      = Row.mixed (fun j => x1 (ix3 i0 i1 j)) (fun j => x2 (ix3 ⟨i0.val, by omega⟩ 5 j)) (fun j => x4 (ix2 1 j))
          (Row.proj (fun k => x0 (ix3 i0 i1 k)) (fun k c => x5 (ix2 k c))) i2 := by
  rw [afterMixer, RefStage.mixed_apply]
  simp only [y_apply]
  pointwise

/-- The reference's result, row by row. -/
theorem ref_apply (i0 : Fin 16) (i1 : Fin 2048) (i2 : Fin 1024) :
    result x0 x1 x2 x3 x4 x5 x6 x7 x8 (ix3 i0 i1 i2)
      = Row.sublayer (Row.mixed (fun j => x1 (ix3 i0 i1 j)) (fun j => x2 (ix3 ⟨i0.val, by omega⟩ 5 j)) (fun j => x4 (ix2 1 j))
          (Row.proj (fun k => x0 (ix3 i0 i1 k)) (fun k c => x5 (ix2 k c))))
          (fun j => x2 (ix3 ⟨i0.val, by omega⟩ 6 j)) (fun j => x2 (ix3 ⟨i0.val, by omega⟩ 7 j))
          (fun j => x2 (ix3 ⟨i0.val, by omega⟩ 8 j)) (fun j => x3 (ix2 2 j)) (fun j => x4 (ix2 2 j))
          (fun k f => x6 (ix4 1 1 k f)) (fun k f => x7 (ix4 1 1 k f)) (fun f j => x8 (ix4 1 1 f j)) i2 := by
  rw [result, RefStage.sublayer_apply]
  simp only [mixed_apply]
  pointwise

end Cert.FfnCRefIdeal.Read

end
-- ==== Proof.FfnCValue.lean ====
module

public import proofs.«01_k».proof.Proof.FfnPreTile
public import proofs.«01_k».proof.Proof.FfnCTile
public import proofs.«01_k».proof.Proof.FfnCRef
public import proofs.«01_k».proof.Proof.Gen.FfnCIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnCIdeal.Value

open Cert.FfnCIdeal Cert.FfnCIdeal.Gen
open Cert.FfnCRefIdeal.Read (result)

variable (m : (ℓ : Loc nD τ sig) → Buf (Elt Ideal) ℓ)

/-- Every window's block index at every grid point. -/
theorem idx : ∀ t : Fin cfg0.N, win0_0.index t = ![t.val / 2, t.val % 2, 0]
    ∧ win0_1.index t = ![t.val / 2, t.val % 2, 0]
    ∧ win0_2.index t = ![t.val / 2, 0, 0]
    ∧ win0_3.index t = ![0, 0]
    ∧ win0_4.index t = ![0, 0]
    ∧ win0_5.index t = ![0, 0]
    ∧ win0_6.index t = ![1, 1, 0, 0]
    ∧ win0_7.index t = ![1, 1, 0, 0]
    ∧ win0_8.index t = ![1, 1, 0, 0]
    ∧ win0_9.index t = ![t.val / 2, t.val % 2, 0] :=
  (by decide +kernel : ∀ t : Fin grid0.N, _)

/-- The reference's term on the kernel's launch arguments. -/
abbrev REF (c : Dev nD) : FVec Ideal Cert.FfnCRefIdeal.S16x2048x1024 .f32 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- A row of the block at grid point `t` after the mixer's residual. -/
abbrev mrow (c : Dev nD) (t : Fin cfg0.N) (q : Fin 1024) : Fin 1024 → EReal :=
  Row.mixed (fun j => iblk m c 1 t (ix3 0 q j)) (fun j => iblk m c 2 t (ix3 0 5 j)) (fun j => iblk m c 4 t (ix2 1 j))
    (Row.proj (fun k => iblk m c 0 t (ix3 0 q k)) (fun k c' => iblk m c 5 t (ix2 k c')))

/-- The result of the slab starting at row `o` of the block at grid point `t`, entry by entry, is the reference's entry. -/
theorem slab_ref (c : Dev nD) (t : Fin cfg0.N) (o : Nat) (ho : o ≤ 768) (x : S1x256x1024.Idx) (y : S1x1024x1024.Idx)
    (X : FVec Ideal S256x1024 .f32)
    (hX : ∀ j : Fin 1024, X (ix2 (x 1) j) = mrow m c t ⟨o + (x 1).val, by have : (x 1).val < 256 := (x 1).isLt; omega⟩ j)
    (h1 : (y 1).val = o + (x 1).val) (h2 : (y 2).val = (x 2).val) :
    Cert.FfnPreIdeal.Value.slab X (View.ld (iblk m c 2 t) r0_7) (View.ld (iblk m c 2 t) r0_8) (View.ld (iblk m c 2 t) r0_12) (View.ld (iblk m c 3 t) r0_9)
        (View.ld (iblk m c 4 t) r0_9) (View.ld (iblk m c 6 t) r0_10) (View.ld (iblk m c 7 t) r0_10) (View.ld (iblk m c 8 t) r0_11) x
      = REF m c (((cfg0.win 9).blk t).view.emb y) := by
  idx_vars x
  rw [Cert.FfnPreIdeal.Value.slab_apply]
  obtain ⟨z, hz⟩ : ∃ z : Cert.FfnCRefIdeal.S16x2048x1024.Idx, z = ((cfg0.win 9).blk t).view.emb y := ⟨_, rfl⟩
  have z0 : (z 0).val = t.val / 2 := by subst hz; have := (y 0).isLt; blk_simp [idx t]
  have z1 : (z 1).val = t.val % 2 * 1024 + o + x1.val := by subst hz; blk_simp [idx t]; omega
  have z2 : (z 2).val = x2.val := by subst hz; blk_simp [idx t]; omega
  refine Eq.trans ?_ (congrArg (REF m c) hz)
  clear hz
  idx_vars z
  rw [REF, Cert.FfnCRefIdeal.Read.ref_apply]
  simp only [hX, mrow]
  blk_point [iblk, V, idx t]
  exact Fin.ext z2.symm

/-- A slab after the mixer's residual, row by row, is the block's row after it. -/
theorem mixed_ref (c : Dev nD) (t : Fin cfg0.N) (o : Nat) (ho : o ≤ 768) (r : Fin 256) (X : FVec Ideal S1x256x1024 .f32) (A : FVec Ideal S1x256x1024 .bf16)
    (hX : ∀ j : Fin 1024, X (ix3 0 r j) = iblk m c 1 t (ix3 0 ⟨o + r.val, by omega⟩ j))
    (hA : ∀ j : Fin 1024, A (ix3 0 r j) = iblk m c 0 t (ix3 0 ⟨o + r.val, by omega⟩ j)) (j : Fin 1024) :
    mixedSlab X A (View.ld (iblk m c 5 t) r0_4) (View.ld (iblk m c 2 t) r0_5) (View.ld (iblk m c 4 t) r0_6) (ix2 r j) = mrow m c t ⟨o + r.val, by omega⟩ j := by
  rw [mixedSlab_apply]
  simp only [hX, hA]
  pointwise

/-- What the body leaves in the output window's buffer at grid point `t` is the reference at the window's block. -/
theorem point (c : Dev nD) (t : Fin cfg0.N) (y) :
    out0_9 (iblk m c 0 t) (iblk m c 1 t) (iblk m c 2 t) (iblk m c 3 t) (iblk m c 4 t) (iblk m c 5 t) (iblk m c 6 t) (iblk m c 7 t) (iblk m c 8 t) y
      = REF m c (((cfg0.win 9).blk t).view.emb y) := by
  canon_tiles x h
  · exact slab_ref m c t 768 (by omega) x y
      (mixedSlab (View.ld (iblk m c 1 t) r0_3) (View.ld (iblk m c 0 t) r0_3) (View.ld (iblk m c 5 t) r0_4) (View.ld (iblk m c 2 t) r0_5) (View.ld (iblk m c 4 t) r0_6))
      (mixed_ref m c t 768 (by omega) (x 1) _ _ (fun j => View.ld_unit_apply_of _ _ _ _ _ _ fun a => by fin_cases a <;> simp)
        (fun j => View.ld_unit_apply_of _ _ _ _ _ _ fun a => by fin_cases a <;> simp)) h1 h2
  · exact slab_ref m c t 512 (by omega) x y
      (mixedSlab (View.ld (iblk m c 1 t) r0_2) (View.ld (iblk m c 0 t) r0_2) (View.ld (iblk m c 5 t) r0_4) (View.ld (iblk m c 2 t) r0_5) (View.ld (iblk m c 4 t) r0_6))
      (mixed_ref m c t 512 (by omega) (x 1) _ _ (fun j => View.ld_unit_apply_of _ _ _ _ _ _ fun a => by fin_cases a <;> simp)
        (fun j => View.ld_unit_apply_of _ _ _ _ _ _ fun a => by fin_cases a <;> simp)) h1 h2
  · exact slab_ref m c t 256 (by omega) x y
      (mixedSlab (View.ld (iblk m c 1 t) r0_1) (View.ld (iblk m c 0 t) r0_1) (View.ld (iblk m c 5 t) r0_4) (View.ld (iblk m c 2 t) r0_5) (View.ld (iblk m c 4 t) r0_6))
      (mixed_ref m c t 256 (by omega) (x 1) _ _ (fun j => View.ld_unit_apply_of _ _ _ _ _ _ fun a => by fin_cases a <;> simp)
        (fun j => View.ld_unit_apply_of _ _ _ _ _ _ fun a => by fin_cases a <;> simp)) h1 h2
  · exact slab_ref m c t 0 (by omega) x y
      (mixedSlab (View.ld (iblk m c 1 t) r0_0) (View.ld (iblk m c 0 t) r0_0) (View.ld (iblk m c 5 t) r0_4) (View.ld (iblk m c 2 t) r0_5) (View.ld (iblk m c 4 t) r0_6))
      (mixed_ref m c t 0 (by omega) (x 1) _ _ (fun j => View.ld_unit_apply_of _ _ _ _ _ _ fun a => by fin_cases a <;> simp)
        (fun j => View.ld_unit_apply_of _ _ _ _ _ _ fun a => by fin_cases a <;> simp)) (by omega) h2

/-- The kernel's result array is the reference's. -/
theorem final (c : Dev nD) : (dats m 0 c).arrAt 9 (cfgs 0).N = REF m c := by
  refine (dats m 0 c).arrAt_eq_of_covers 9 _ (by decide +kernel) fun t hf y => ?_
  blk_simp; rw [after0_9]
  exact point m c t y

end Cert.FfnCIdeal.Value

end
-- ==== Proof.FfnCClaim.lean ====
module

public import proofs.«01_k».proof.Proof.FfnCValue
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnCClaim

/-- The reference runs to its end, its arguments unchanged and no counter raised. -/
theorem ref_frame : Cert.quiescent_FfnCRefIdeal (hFfnCRefIdeal := Cert.FfnCRefIdeal.Gen.facts) := by
  intro m g hpre
  hlo_run
  · exact fun c => by simp only [and_self]
  · exact sem_eq_zero_of_no_sems (show Cert.FfnCRefIdeal.sig.nSem + Cert.FfnCRefIdeal.sig.nDmaSem = 0 by decide) _

set_option maxHeartbeats 4000000 in
/-- The kernel call and the reference, run on the same arguments, end with the same result. -/
theorem algebraic : Cert.algebraic_FfnCIdeal_FfnCRefIdeal (hFfnCIdeal := Cert.FfnCIdeal.Gen.facts) (hFfnCRefIdeal := Cert.FfnCRefIdeal.Gen.facts) := by
  pair_intro
  · run_from Cert.FfnCIdeal.Gen.run_main m g
  · hlo_run
    exact (Cert.FfnCIdeal.Value.final m c).symm

end Cert.FfnCClaim

end
-- ==== Proof.Attend.lean ====
module

public import Idealize.ShloMosaic.PureOps
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Attend

/-- One list after another. -/
def joined {α : Type} {n1 n2 n : ℕ} (hn : n = n1 + n2) (a : Fin n1 → α) (b : Fin n2 → α) : Fin n → α :=
  fun x => if h : x.val < n1 then a ⟨x.val, h⟩ else b ⟨x.val - n1, by omega⟩

/-- A sum over two lists, one after the other, is the sum of their two sums. -/
theorem sum_joined {α β : Type} {n1 n2 n : ℕ} (hn : n = n1 + n2) (a : Fin n1 → α) (b : Fin n2 → α) (va : Fin n1 → β) (vb : Fin n2 → β)
    (G : α → β → EReal) :
    ∑ x, G (joined hn a b x) (joined hn va vb x) = ∑ x, G (a x) (va x) + ∑ x, G (b x) (vb x) := by
  subst hn
  rw [Fin.sum_univ_add]
  congr 1 <;> refine Finset.sum_congr rfl fun x _ => ?_
  · simp [joined]
  · simp [joined]

/-- The greatest of a list of scores, from minus infinity. -/
def top {n : ℕ} (s : Fin n → EReal) : EReal := Finset.univ.fold max (Ideal.ofBits FTy.f32 4286578688#32) s

/-- Attention as the kernel computes it: the weighted sum of the values over the sum of the weights. -/
def soft {n : ℕ} (s v : Fin n → EReal) : EReal :=
  Ideal.div (∑ x, Ideal.exp2 (s x - top s) * v x) (∑ x, Ideal.exp2 (s x - top s))

/-- A softmax weight: the power of two of its score over the sum of all. -/
def weight {n : ℕ} (s : Fin n → EReal) (x : Fin n) : EReal :=
  Ideal.div (Ideal.exp2 (s x - top s)) (∑ j, Ideal.exp2 (s j - top s))

/-- The value that the greatest of a list starts from. -/
theorem start_bot : Ideal.ofBits FTy.f32 4286578688#32 = ⊥ := by
  simp [Ideal.ofBits, Ideal.ieee]

/-- The host's base of powers. -/
theorem base_two : Ideal.ofBits FTy.f32 1073741824#32 = ((2 : ℝ) : EReal) := by
  simp [Ideal.ofBits, Ideal.ieee]
  rw [← EReal.coe_mul]
  congr 1; norm_num

/-- The host's power with base two is the kernel's. -/
theorem pow_two (x : EReal) : Ideal.pow ((2 : ℝ) : EReal) x = Ideal.exp2 x := by
  induction x using EReal.rec with
  | bot => rw [Ideal.pow_coe_bot, Ideal.exp2_bot]; norm_num
  | coe r => rfl
  | top => rw [Ideal.pow_coe_top, Ideal.exp2_top]; norm_num

/-- The greatest of finitely many scores, none plus infinity and one finite, is finite. -/
theorem top_real {n : ℕ} (s : Fin n → EReal) (ht : ∀ x, s x ≠ ⊤) (hb : ∃ x, s x ≠ ⊥) : ∃ r : ℝ, top s = r := by
  obtain ⟨x0, hx0⟩ := hb
  have h1 : top s ≠ ⊥ := by
    intro h
    apply hx0
    have : s x0 ≤ top s := Finset.le_fold_max _ |>.mpr (Or.inr ⟨x0, Finset.mem_univ _, le_rfl⟩)
    rw [h] at this
    exact le_bot_iff.mp this
  have h2 : top s < ⊤ := by
    refine (Finset.fold_max_lt _).mpr ⟨by rw [start_bot]; exact bot_lt_top, fun x _ => lt_top_iff_ne_top.mpr (ht x)⟩
  exact ⟨(top s).toReal, (EReal.coe_toReal h2.ne h1).symm⟩

/-- The power of two of a score, as a real number. -/
def power (s : EReal) : ℝ := if s = ⊥ then 0 else 2 ^ s.toReal

theorem power_nonneg (s : EReal) : 0 ≤ power s := by
  unfold power; split
  · exact le_rfl
  · positivity

theorem power_pos {s : EReal} (h : s ≠ ⊥) : 0 < power s := by
  unfold power; rw [if_neg h]; positivity

/-- The power of two of a shifted score is the score's power, scaled. -/
theorem exp2_sub {s : EReal} (hs : s ≠ ⊤) (r : ℝ) : Ideal.exp2 (s - r) = ((power s * 2 ^ (-r) : ℝ) : EReal) := by
  induction s using EReal.rec with
  | bot => rw [EReal.bot_sub, Ideal.exp2_bot]; simp [power]
  | coe x =>
    rw [← EReal.coe_sub, Ideal.exp2_coe, power, if_neg (EReal.coe_ne_bot x), EReal.toReal_coe]
    congr 1
    show (2 : ℝ) ^ (x - r) = _
    rw [← Real.rpow_add (by norm_num), sub_eq_add_neg]
  | top => exact absurd rfl hs

/-- A finite sum of real numbers. -/
theorem coe_sum {n : ℕ} (f : Fin n → ℝ) : ∑ x, ((f x : ℝ) : EReal) = ((∑ x, f x : ℝ) : EReal) := by
  exact (map_sum (⟨⟨fun r : ℝ => (r : EReal), EReal.coe_zero⟩, EReal.coe_add⟩ : ℝ →+ EReal) f Finset.univ).symm

/-- A nonnegative real factor goes into a sum. -/
theorem sum_mul_real {n : ℕ} (f : Fin n → EReal) {c : ℝ} (hc : 0 ≤ c) : (∑ x, f x) * (c : EReal) = ∑ x, f x * (c : EReal) := by
  have h (S : Finset (Fin n)) : (∑ x ∈ S, f x) * (c : EReal) = ∑ x ∈ S, f x * (c : EReal) := by
    induction S using Finset.induction_on with
    | empty => simp
    | insert a S ha ih =>
      rw [Finset.sum_insert ha, Finset.sum_insert ha,
        EReal.right_distrib_of_nonneg_of_ne_top (EReal.coe_nonneg.mpr hc) (EReal.coe_ne_top c), ih]
  exact h _

/-- The sum of the powers of a list of scores. -/
def mass {n : ℕ} (s : Fin n → EReal) : ℝ := ∑ x, power (s x)

theorem mass_pos {n : ℕ} (s : Fin n → EReal) (hb : ∃ x, s x ≠ ⊥) : 0 < mass s := by
  obtain ⟨x, hx⟩ := hb
  exact Finset.sum_pos' (fun y _ => power_nonneg _) ⟨x, Finset.mem_univ _, power_pos hx⟩

/-- The sum of the shifted powers is the scores' mass, scaled. -/
theorem sum_exp2 {n : ℕ} (s : Fin n → EReal) (ht : ∀ x, s x ≠ ⊤) (r : ℝ) :
    ∑ x, Ideal.exp2 (s x - r) = ((mass s * 2 ^ (-r) : ℝ) : EReal) := by
  simp only [exp2_sub (ht _)]
  rw [coe_sum, mass, Finset.sum_mul]

/-- A softmax weight is the score's power over the mass. -/
theorem weight_eq {n : ℕ} (s : Fin n → EReal) (ht : ∀ x, s x ≠ ⊤) (hb : ∃ x, s x ≠ ⊥) (x : Fin n) :
    weight s x = ((power (s x) / mass s : ℝ) : EReal) := by
  obtain ⟨r, hr⟩ := top_real s ht hb
  have h2 : (0 : ℝ) < 2 ^ (-r) := by positivity
  have hm := mass_pos s hb
  rw [weight, hr, sum_exp2 s ht, exp2_sub (ht x), Ideal.div_coe (by positivity), ← EReal.coe_mul]
  congr 1
  field_simp

/-- The kernel's attention is the sum of the values under the softmax weights. -/
theorem soft_eq {n : ℕ} (s v : Fin n → EReal) (ht : ∀ x, s x ≠ ⊤) (hb : ∃ x, s x ≠ ⊥) :
    soft s v = ∑ x, v x * weight s x := by
  obtain ⟨r, hr⟩ := top_real s ht hb
  have h2 : (0 : ℝ) < 2 ^ (-r) := by positivity
  have hm := mass_pos s hb
  rw [soft, hr, sum_exp2 s ht, Ideal.div_coe (by positivity), sum_mul_real _ (by positivity)]
  refine Finset.sum_congr rfl fun x _ => ?_
  rw [weight_eq s ht hb, exp2_sub (ht x), mul_comm (_ : EReal) (v x), mul_assoc, ← EReal.coe_mul]
  congr 2
  field_simp

/-- A sum of finite products is not plus or minus infinity. -/
theorem sum_ne {n : ℕ} (f : Fin n → EReal) (h : ∀ x, f x ≠ ⊤ ∧ f x ≠ ⊥) : (∑ x, f x) ≠ ⊤ ∧ (∑ x, f x) ≠ ⊥ := by
  have : ∑ x, f x = ((∑ x, (f x).toReal : ℝ) : EReal) := by
    rw [← coe_sum]; exact Finset.sum_congr rfl fun x _ => (EReal.coe_toReal (h x).1 (h x).2).symm
  rw [this]
  exact ⟨EReal.coe_ne_top _, EReal.coe_ne_bot _⟩

/-- A product of finite numbers is finite. -/
theorem mul_ne {x y : EReal} (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact ⟨EReal.coe_ne_top _, EReal.coe_ne_bot _⟩

/-- The lane of a tile that holds dimension `e` of head `h`: the two heads' halves alternate. -/
def lane (h : Fin 2) (e : Fin 64) : Fin 128 := ⟨e.val / 32 * 64 + h.val * 32 + e.val % 32, by omega⟩

/-- Whether a lane belongs to the tile's first head, as the kernel tests it. -/
theorem first_iff : ∀ x : Fin 128, (IntOp.cmpi CmpIPredicate.eq (IntOp.andi (BitVec.ofNat 32 x.val) 32#32) 0#32 = 1) ↔ x.val / 32 % 2 = 0 := by
  decide +kernel

/-- A sum over a tile's lanes of the first head. -/
theorem sum_first (f : Fin 128 → EReal) :
    ∑ x : Fin 128, Scalar.select (IntOp.cmpi CmpIPredicate.eq (IntOp.andi (BitVec.ofNat 32 x.val) 32#32) 0#32) (f x) 0 = ∑ e, f (lane 0 e) := by
  symm
  refine Fintype.sum_of_injective (lane 0) (fun a b h => ?_) _ _ (fun x hx => ?_) (fun e => ?_)
  · have := congrArg Fin.val h; simp only [lane] at this; omega
  · rw [Scalar.select, if_neg]
    rw [first_iff]
    intro h
    exact hx ⟨⟨x.val / 64 * 32 + x.val % 32, by omega⟩, Fin.ext (by simp [lane]; omega)⟩
  · rw [Scalar.select, if_pos]
    rw [first_iff]; simp [lane]; omega

/-- A sum over a tile's lanes of the second head. -/
theorem sum_second (f : Fin 128 → EReal) :
    ∑ x : Fin 128, Scalar.select (IntOp.cmpi CmpIPredicate.eq (IntOp.andi (BitVec.ofNat 32 x.val) 32#32) 0#32) 0 (f x) = ∑ e, f (lane 1 e) := by
  symm
  refine Fintype.sum_of_injective (lane 1) (fun a b h => ?_) _ _ (fun x hx => ?_) (fun e => ?_)
  · have := congrArg Fin.val h; simp only [lane] at this; omega
  · rw [Scalar.select, if_pos]
    rw [first_iff]
    by_contra h
    exact hx ⟨⟨x.val / 64 * 32 + x.val % 32, by omega⟩, Fin.ext (by simp [lane]; omega)⟩
  · rw [Scalar.select, if_neg]
    rw [first_iff]; simp [lane]; omega

/-- The scores of a query row's head `h` against the keys: the context's, then the latents'. -/
def score (q : Fin 128 → EReal) (kc : Fin 256 → Fin 128 → EReal) (kl : Fin 2048 → Fin 128 → EReal) (h : Fin 2) : Fin 2304 → EReal :=
  joined (by norm_num : 2304 = 256 + 2048) (fun j => ∑ e, q (lane h e) * kc j (lane h e)) (fun j => ∑ e, q (lane h e) * kl j (lane h e))

/-- Finite queries and keys have finite scores. -/
theorem score_ne (q : Fin 128 → EReal) (kc : Fin 256 → Fin 128 → EReal) (kl : Fin 2048 → Fin 128 → EReal) (h : Fin 2)
    (hq : ∀ d, q d ≠ ⊤ ∧ q d ≠ ⊥) (hc : ∀ j d, kc j d ≠ ⊤ ∧ kc j d ≠ ⊥) (hl : ∀ j d, kl j d ≠ ⊤ ∧ kl j d ≠ ⊥) (x : Fin 2304) :
    score q kc kl h x ≠ ⊤ ∧ score q kc kl h x ≠ ⊥ := by
  unfold score joined
  split
  · exact sum_ne _ fun e => mul_ne (hq _) (hc _ _)
  · exact sum_ne _ fun e => mul_ne (hq _) (hl _ _)

end Cert.Attend

end
-- ==== Proof.GqaTile.lean ====
module

public import proofs.«01_k».proof.Proof.Attend
public import proofs.«01_k».proof.Proof.Gen.GqaIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GqaIdeal.Value

open Cert.GqaIdeal Cert.GqaIdeal.Gen
open Cert.Attend

/-- The scores of a tile's 256 query rows, the first head's above the second's. -/
def scores (q kc : FVec Ideal S1x256x128 .bf16) (kl : FVec Ideal S1x2048x128 .bf16) : FVec Ideal S512x2304 .f32 :=
  k0_pay8 (k0_pay4 q) kc kl

/-- The attention of every row of scores, over all lanes. -/
def attended (s : FVec Ideal S512x2304 .f32) (vc : FVec Ideal S1x256x128 .bf16) (vl : FVec Ideal S1x2048x128 .bf16) : FVec Ideal S512x128 .f32 :=
  divf (k0_pay19 (k0_pay12 s) vc vl) (k0_pay20 (k0_pay12 s) vc vl)

/-- One tile of the block's result, from the tile's two query heads and the block's keys and values. -/
def tile (q kc vc : FVec Ideal S1x256x128 .bf16) (kl vl : FVec Ideal S1x2048x128 .bf16) : FVec Ideal S1x256x128 .bf16 :=
  k0_pay31 (k0_pay19 (k0_pay12 (scores q kc kl)) vc vl) (k0_pay20 (k0_pay12 (scores q kc kl)) vc vl)

/-- The upper rows hold the first head's scores. -/
theorem scores_first (q kc : FVec Ideal S1x256x128 .bf16) (kl : FVec Ideal S1x2048x128 .bf16) (i1 : Fin 256) (j : Fin 2304) :
    scores q kc kl (ix2 ⟨i1.val, by omega⟩ j)
      = score (fun d => q (ix3 0 i1 d)) (fun j d => kc (ix3 0 j d)) (fun j d => kl (ix3 0 j d)) 0 j := by
  unfold scores
  open_payloads
  pointwise
  simp only [sum_first]
  rfl

/-- The lower rows hold the second head's scores. -/
theorem scores_second (q kc : FVec Ideal S1x256x128 .bf16) (kl : FVec Ideal S1x2048x128 .bf16) (i1 : Fin 256) (j : Fin 2304) :
    scores q kc kl (ix2 ⟨256 + i1.val, by omega⟩ j)
      = score (fun d => q (ix3 0 i1 d)) (fun j d => kc (ix3 0 j d)) (fun j d => kl (ix3 0 j d)) 1 j := by
  unfold scores
  open_payloads
  pointwise
  simp only [sum_second]
  rfl

/-- The attention of one row of scores over one lane. -/
theorem attended_apply (s : FVec Ideal S512x2304 .f32) (vc : FVec Ideal S1x256x128 .bf16) (vl : FVec Ideal S1x2048x128 .bf16) (r : Fin 512) (l : Fin 128) :
    attended s vc vl (ix2 r l)
      = soft (fun j => s (ix2 r j)) (joined (by norm_num : 2304 = 256 + 2048) (fun j => vc (ix3 0 j l)) (fun j => vl (ix3 0 j l))) := by
  have hn : 2304 = 256 + 2048 := by norm_num
  have hs : (fun j => s (ix2 r j)) = joined hn (fun j => s (ix2 r ⟨j.val, by omega⟩)) (fun j => s (ix2 r ⟨256 + j.val, by omega⟩)) := by
    funext j
    unfold joined
    split
    · rfl
    · congr 2; exact Fin.ext (by simp; omega)
  have h1 := sum_joined hn (fun j => s (ix2 r ⟨j.val, by omega⟩)) (fun j => s (ix2 r ⟨256 + j.val, by omega⟩)) (fun j => vc (ix3 0 j l)) (fun j => vl (ix3 0 j l))
    (fun x y => Ideal.exp2 (x - top (fun j => s (ix2 r j))) * y)
  have h2 := sum_joined hn (fun j => s (ix2 r ⟨j.val, by omega⟩)) (fun j => s (ix2 r ⟨256 + j.val, by omega⟩)) (fun j => vc (ix3 0 j l)) (fun j => vl (ix3 0 j l))
    (fun x _ => Ideal.exp2 (x - top (fun j => s (ix2 r j))))
  unfold attended
  open_payloads
  pointwise
  rw [← hs] at h1 h2
  unfold soft
  rw [h1, h2]
  rfl

/-- The lanes below 64 are told by comparison of words. -/
theorem low_lane (l : Fin 128) : IntOp.cmpi CmpIPredicate.slt (BitVec.ofNat 32 l.val) 64#32 = 1 ↔ l.val < 64 := by
  revert l
  decide +kernel

/-- A tile's entry is the attention of its lane's head over the values in that lane. -/
theorem tile_apply (q kc vc : FVec Ideal S1x256x128 .bf16) (kl vl : FVec Ideal S1x2048x128 .bf16) (i1 : Fin 256) (i2 : Fin 128) :
    tile q kc vc kl vl (ix3 0 i1 i2)
      = soft (score (fun d => q (ix3 0 i1 d)) (fun j d => kc (ix3 0 j d)) (fun j d => kl (ix3 0 j d)) ⟨i2.val / 64, by omega⟩)
          (joined (by norm_num : 2304 = 256 + 2048) (fun j => vc (ix3 0 j i2)) (fun j => vl (ix3 0 j i2))) := by
  have hm : tile q kc vc kl vl (ix3 0 i1 i2)
      = if i2.val < 64 then attended (scores q kc kl) vc vl (ix2 ⟨i1.val, by omega⟩ i2)
        else attended (scores q kc kl) vc vl (ix2 ⟨256 + i1.val, by omega⟩ i2) := by
    unfold tile attended
    generalize k0_pay19 (k0_pay12 (scores q kc kl)) vc vl = A
    generalize k0_pay20 (k0_pay12 (scores q kc kl)) vc vl = B
    open_payloads
    pointwise
    rw [Scalar.select]
    exact if_congr (low_lane i2) rfl rfl
  rw [hm]
  split
  · rw [attended_apply, show (⟨i2.val / 64, by omega⟩ : Fin 2) = 0 from Fin.ext (by simp; omega)]
    congr 1; funext j; exact scores_first q kc kl i1 j
  · rw [attended_apply, show (⟨i2.val / 64, by omega⟩ : Fin 2) = 1 from Fin.ext (by simp; omega)]
    congr 1; funext j; exact scores_second q kc kl i1 j

end Cert.GqaIdeal.Value

end
-- ==== Proof.GqaRef.lean ====
module

public import proofs.«01_k».proof.Proof.Gen.GqaRefIdeal
public import proofs.«01_k».proof.Proof.Attend
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GqaRefIdeal.Read

open Cert.GqaRefIdeal Cert.GqaRefIdeal.Gen

/-- The queries of mixer A by key head, group and head dimension. -/
def queries (p : FVec Ideal S16x2048x2304 .bf16) : FVec Ideal S16x2048x2x4x64 .f32 :=
  shapeCast _ (transpose S16x2048x2x4x2x32 [0, 1, 4, 2, 3, 5]
    (shapeCast _ (extractStridedSlice S16x2048x512 ![0, 0, 0] (extf .f32 p bitsLt_bf16_f32) slices_S16x2048x2304_S16x2048x512_0_0_0)
      shapeCasts_S16x2048x512_S16x2048x4x2x2x32) transposes_S16x2048x4x2x2x32_S16x2048x2x4x2x32_0_1_4_2_3_5)
    shapeCasts_S16x2048x2x4x2x32_S16x2048x2x4x64

/-- The keys of mixer A by key head and head dimension: the context's, then the latents'. -/
def keys (p : FVec Ideal S16x2048x2304 .bf16) (pc : FVec Ideal S16x256x2304 .bf16) : FVec Ideal S16x2304x2x64 .f32 :=
  concatenate S16x2304x2x64 1
    [⟨S16x256x2x64, shapeCast _ (transpose S16x256x2x2x32 [0, 1, 3, 2, 4]
        (shapeCast _ (extractStridedSlice S16x256x128 ![0, 0, 512] (extf .f32 pc bitsLt_bf16_f32) slices_S16x256x2304_S16x256x128_0_0_512)
          shapeCasts_S16x256x128_S16x256x2x2x32) transposes_S16x256x2x2x32_S16x256x2x2x32_0_1_3_2_4)
        shapeCasts_S16x256x2x2x32_S16x256x2x64⟩,
     ⟨S16x2048x2x64, shapeCast _ (transpose S16x2048x2x2x32 [0, 1, 3, 2, 4]
        (shapeCast _ (extractStridedSlice S16x2048x128 ![0, 0, 512] (extf .f32 p bitsLt_bf16_f32) slices_S16x2048x2304_S16x2048x128_0_0_512)
          shapeCasts_S16x2048x128_S16x2048x2x2x32) transposes_S16x2048x2x2x32_S16x2048x2x2x32_0_1_3_2_4)
        shapeCasts_S16x2048x2x2x32_S16x2048x2x64⟩]
    concatenates_S16x256x2x64_S16x2048x2x64_S16x2304x2x64_d1

/-- The values of mixer A by value head and head dimension: the context's, then the latents'. -/
def values (p : FVec Ideal S16x2048x2304 .bf16) (pc : FVec Ideal S16x256x2304 .bf16) : FVec Ideal S16x2304x2x64 .f32 :=
  concatenate S16x2304x2x64 1
    [⟨S16x256x2x64, shapeCast _ (extractStridedSlice S16x256x128 ![0, 0, 640] (extf .f32 pc bitsLt_bf16_f32) slices_S16x256x2304_S16x256x128_0_0_640)
        shapeCasts_S16x256x128_S16x256x2x64⟩,
     ⟨S16x2048x2x64, shapeCast _ (extractStridedSlice S16x2048x128 ![0, 0, 640] (extf .f32 p bitsLt_bf16_f32) slices_S16x2048x2304_S16x2048x128_0_0_640)
        shapeCasts_S16x2048x128_S16x2048x2x64⟩]
    concatenates_S16x256x2x64_S16x2048x2x64_S16x2304x2x64_d1

/-- The scores of every query against every key of its head. -/
def scores (q : FVec Ideal S16x2048x2x4x64 .f32) (k : FVec Ideal S16x2304x2x64 .f32) : FVec Ideal S16x2x4x2048x2304 .f32 :=
  transpose S16x2x4x2048x2304 [0, 1, 4, 3, 2]
    (Host.dotGeneral dot_S16x2304x2x64_S16x2048x2x4x64_S16x2x2304x2048x4_3_4_1_13_02_02 none k q)
    transposes_S16x2x2304x2048x4_S16x2x4x2048x2304_0_1_4_3_2

/-- A number per query, at each of its scores. -/
def spread (x : FVec Ideal S16x2x4x2048 .f32) : FVec Ideal S16x2x4x2048x2304 .f32 :=
  broadcastInDim S16x2x4x2048x2304 ![0, 1, 2, 3, 4] bcast_S16x2x4x2048x1_S16x2x4x2048x2304_0_1_2_3_4
    (broadcastInDim S16x2x4x2048x1 ![0, 1, 2, 3] bcast_S16x2x4x2048_S16x2x4x2048x1_0_1_2_3 x)

/-- Two to the power of the scores less their maximum. -/
def powers (s : FVec Ideal S16x2x4x2048x2304 .f32) : FVec Ideal S16x2x4x2048x2304 .f32 :=
  Host.powf (broadcastInDim S16x2x4x2048x2304 ![] bcast_S_S16x2x4x2048x2304 (constant S_ .f32 0x40000000#32))
    (subf s (spread (Host.reduce FloatOps.maximumf s (constant S_ .f32 0xFF800000#32) reducesTo_S16x2x4x2048x2304_S16x2x4x2048_d4 h_S_)))

/-- The softmax of the scores. -/
def probs (e : FVec Ideal S16x2x4x2048x2304 .f32) : FVec Ideal S16x2x4x2048x2304 .f32 :=
  Host.divf e (spread (Host.reduceAdd e (constant S_ .f32 0x00000000#32) reducesTo_S16x2x4x2048x2304_S16x2x4x2048_d4 h_S_))

/-- The weighted values, laid out as the call does: group, key head, head dimension. -/
def output (v : FVec Ideal S16x2304x2x64 .f32) (p : FVec Ideal S16x2x4x2048x2304 .f32) : FVec Ideal S16x2048x512 .bf16 :=
  truncf .bf16 (shapeCast _ (transpose S16x2048x4x2x64 [0, 1, 3, 2, 4] (transpose S16x2048x2x4x64 [0, 4, 1, 3, 2]
    (Host.dotGeneral dot_S16x2304x2x64_S16x2x4x2048x2304_S16x2x64x4x2048_1_4_3_23_02_01 none v p)
    transposes_S16x2x64x4x2048_S16x2048x2x4x64_0_4_1_3_2) transposes_S16x2048x2x4x64_S16x2048x4x2x64_0_1_3_2_4)
    shapeCasts_S16x2048x4x2x64_S16x2048x512) bitsLt_bf16_f32

/-- The attention of mixer A over the latent queries. -/
def result (p : FVec Ideal S16x2048x2304 .bf16) (pc : FVec Ideal S16x256x2304 .bf16) : FVec Ideal S16x2048x512 .bf16 :=
  output (values p pc) (probs (powers (scores (queries p) (keys p pc))))

open Cert.Attend

theorem queries_apply (p : FVec Ideal S16x2048x2304 .bf16) (i0 : Fin 16) (i1 : Fin 2048) (h : Fin 2) (g : Fin 4) (e : Fin 64) :
    queries p (ix5 i0 i1 h g e) = p (ix3 i0 i1 ⟨g.val * 128 + (lane h e).val, by omega⟩) := by
  pointwise [queries]
  congr 2; exact Fin.ext (by simp only [lane]; omega)

theorem keys_apply (p : FVec Ideal S16x2048x2304 .bf16) (pc : FVec Ideal S16x256x2304 .bf16) (i0 : Fin 16) (j : Fin 2304) (h : Fin 2) (e : Fin 64) :
    keys p pc (ix4 i0 j h e) = joined (by norm_num : 2304 = 256 + 2048) (fun j => pc (ix3 i0 j ⟨512 + (lane h e).val, by omega⟩))
      (fun j => p (ix3 i0 j ⟨512 + (lane h e).val, by omega⟩)) j := by
  pointwise [keys]
  rfl

theorem values_apply (p : FVec Ideal S16x2048x2304 .bf16) (pc : FVec Ideal S16x256x2304 .bf16) (i0 : Fin 16) (j : Fin 2304) (h : Fin 2) (e : Fin 64) :
    values p pc (ix4 i0 j h e) = joined (by norm_num : 2304 = 256 + 2048) (fun j => pc (ix3 i0 j ⟨640 + (h.val * 64 + e.val), by omega⟩))
      (fun j => p (ix3 i0 j ⟨640 + (h.val * 64 + e.val), by omega⟩)) j := by
  pointwise [values]
  rfl

/-- The scores of one query, as the kernel's: a query tile's and a key tile's lanes summed by head. -/
theorem scores_apply (p : FVec Ideal S16x2048x2304 .bf16) (pc : FVec Ideal S16x256x2304 .bf16) (i0 : Fin 16) (h : Fin 2) (g : Fin 4) (i1 : Fin 2048) (j : Fin 2304) :
    scores (queries p) (keys p pc) (ix5 i0 h g i1 j)
      = score (fun d => p (ix3 i0 i1 ⟨g.val * 128 + d.val, by omega⟩)) (fun j d => pc (ix3 i0 j ⟨512 + d.val, by omega⟩))
          (fun j d => p (ix3 i0 j ⟨512 + d.val, by omega⟩)) h j := by
  have : scores (queries p) (keys p pc) (ix5 i0 h g i1 j) = ∑ e, keys p pc (ix4 i0 j h e) * queries p (ix5 i0 i1 h g e) := by
    generalize queries p = q
    generalize keys p pc = k
    pointwise [scores]
  rw [this]
  simp only [queries_apply, keys_apply]
  unfold score joined
  split <;> exact Finset.sum_congr rfl fun e _ => mul_comm _ _

/-- The softmax of scores, entry by entry. -/
theorem probs_apply (s : FVec Ideal S16x2x4x2048x2304 .f32) (i0 : Fin 16) (h : Fin 2) (g : Fin 4) (i1 : Fin 2048) (j : Fin 2304) :
    probs (powers s) (ix5 i0 h g i1 j) = weight (fun x => s (ix5 i0 h g i1 x)) j := by
  pointwise [probs, powers, spread]
  simp only [base_two, pow_two]
  rfl

theorem output_apply (v : FVec Ideal S16x2304x2x64 .f32) (p : FVec Ideal S16x2x4x2048x2304 .f32) (i0 : Fin 16) (i1 : Fin 2048) (j : Fin 512) :
    output v p (ix3 i0 i1 j) = ∑ x, v (ix4 i0 x ⟨j.val / 64 % 2, by omega⟩ ⟨j.val % 64, by omega⟩)
      * p (ix5 i0 ⟨j.val / 64 % 2, by omega⟩ ⟨j.val / 128, by omega⟩ i1 x) := by
  pointwise [output]

/-- The reference's entry: the values of its head under the softmax weights of its query's scores. -/
theorem ref_apply (p : FVec Ideal S16x2048x2304 .bf16) (pc : FVec Ideal S16x256x2304 .bf16) (i0 : Fin 16) (i1 : Fin 2048) (j : Fin 512) :
    result p pc (ix3 i0 i1 j)
      = ∑ x, joined (by norm_num : 2304 = 256 + 2048) (fun r => pc (ix3 i0 r ⟨640 + j.val % 128, by omega⟩)) (fun r => p (ix3 i0 r ⟨640 + j.val % 128, by omega⟩)) x
        * weight (score (fun d => p (ix3 i0 i1 ⟨j.val / 128 * 128 + d.val, by omega⟩)) (fun r d => pc (ix3 i0 r ⟨512 + d.val, by omega⟩))
          (fun r d => p (ix3 i0 r ⟨512 + d.val, by omega⟩)) ⟨j.val / 64 % 2, by omega⟩) x := by
  rw [result, output_apply]
  have hj : (⟨640 + (j.val / 64 % 2 * 64 + j.val % 64), by omega⟩ : Fin 2304) = ⟨640 + j.val % 128, by omega⟩ := Fin.ext (by simp; omega)
  simp only [values_apply, probs_apply, scores_apply]
  rw [hj]

/-- Every projected query and key of mixer A is finite. -/
def Finite (p : FVec Ideal S16x2048x2304 .bf16) (pc : FVec Ideal S16x256x2304 .bf16) : Prop :=
  (∀ i0 i1 (d : Fin 640), p (ix3 i0 i1 ⟨d.val, by omega⟩) ≠ ⊤ ∧ p (ix3 i0 i1 ⟨d.val, by omega⟩) ≠ ⊥)
    ∧ ∀ i0 i1 (d : Fin 128), pc (ix3 i0 i1 ⟨512 + d.val, by omega⟩) ≠ ⊤ ∧ pc (ix3 i0 i1 ⟨512 + d.val, by omega⟩) ≠ ⊥

/-- The reference's entry, for finite queries and keys: the weighted sum of the values over the sum of the weights. -/
theorem ref_soft (p : FVec Ideal S16x2048x2304 .bf16) (pc : FVec Ideal S16x256x2304 .bf16) (hf : Finite p pc) (i0 : Fin 16) (i1 : Fin 2048) (j : Fin 512) :
    result p pc (ix3 i0 i1 j)
      = soft (score (fun d => p (ix3 i0 i1 ⟨j.val / 128 * 128 + d.val, by omega⟩)) (fun r d => pc (ix3 i0 r ⟨512 + d.val, by omega⟩))
          (fun r d => p (ix3 i0 r ⟨512 + d.val, by omega⟩)) ⟨j.val / 64 % 2, by omega⟩)
          (joined (by norm_num : 2304 = 256 + 2048) (fun r => pc (ix3 i0 r ⟨640 + j.val % 128, by omega⟩)) (fun r => p (ix3 i0 r ⟨640 + j.val % 128, by omega⟩))) := by
  have h := score_ne (fun d => p (ix3 i0 i1 ⟨j.val / 128 * 128 + d.val, by omega⟩)) (fun r d => pc (ix3 i0 r ⟨512 + d.val, by omega⟩))
    (fun r d => p (ix3 i0 r ⟨512 + d.val, by omega⟩)) ⟨j.val / 64 % 2, by omega⟩
    (fun d => hf.1 i0 i1 ⟨j.val / 128 * 128 + d.val, by omega⟩) (fun r d => hf.2 i0 r d) (fun r d => hf.1 i0 r ⟨512 + d.val, by omega⟩)
  rw [ref_apply, soft_eq _ _ (fun x => (h x).1) ⟨0, (h 0).2⟩]

end Cert.GqaRefIdeal.Read

end
-- ==== Proof.GqaValue.lean ====
module

public import proofs.«01_k».proof.Proof.GqaTile
public import proofs.«01_k».proof.Proof.GqaRef
public import proofs.«01_k».proof.Proof.Gen.GqaIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GqaIdeal.Value

open Cert.GqaIdeal Cert.GqaIdeal.Gen Cert.Attend
open Cert.GqaRefIdeal.Read (result Finite ref_soft)

variable (m : (ℓ : Loc nD τ sig) → Buf (Elt Ideal) ℓ)

/-- Every window's block index at every grid point. -/
theorem idx : ∀ t : Fin cfg0.N, win0_0.index t = ![t.val / 8, t.val % 8, 0]
    ∧ win0_1.index t = ![t.val / 8, 0, 4]
    ∧ win0_2.index t = ![t.val / 8, 0, 4]
    ∧ win0_3.index t = ![t.val / 8, 0, 5]
    ∧ win0_4.index t = ![t.val / 8, 0, 5]
    ∧ win0_5.index t = ![t.val / 8, t.val % 8, 0] :=
  (by decide +kernel : ∀ t : Fin grid0.N, _)

/-- The reference's term on the kernel's launch arguments. -/
abbrev REF (c : Dev nD) : FVec Ideal Cert.GqaRefIdeal.S16x2048x512 .bf16 :=
  result (m ((c : Thread nD τ).loc main_arg0)) (m ((c : Thread nD τ).loc main_arg1))

/-- The block of queries at grid point `t`, entry by entry. -/
theorem x0_apply (c : Dev nD) (t : Fin cfg0.N) (r : Fin 256) (d : Fin 512) :
    X0_0 m c t (ix3 0 r d) = m ((c : Thread nD τ).loc main_arg0)
      (ix3 ⟨t.val / 8, by have : t.val < 128 := t.isLt; omega⟩ ⟨t.val % 8 * 256 + r.val, by omega⟩ ⟨d.val, by omega⟩) := by
  unfold X0_0 Pipeline.Window.fill
  rw [dif_pos (moved0_0 t _)]
  blk_point [iblk, V, idx t]

/-- A tile of the result of the block at grid point `t`, entry by entry, is the reference's entry. -/
theorem tile_ref (c : Dev nD) (t : Fin cfg0.N) (hf : Finite (m ((c : Thread nD τ).loc main_arg0)) (m ((c : Thread nD τ).loc main_arg1)))
    (g : Nat) (hg : g ≤ 3) (x : S1x256x128.Idx) (y : S1x256x512.Idx) (q : FVec Ideal S1x256x128 .bf16)
    (hq : ∀ d : Fin 128, q (ix3 0 (x 1) d) = X0_0 m c t (ix3 0 (x 1) ⟨g * 128 + d.val, by omega⟩))
    (h1 : (y 1).val = (x 1).val) (h2 : (y 2).val = g * 128 + (x 2).val) :
    tile q (iblk m c 1 t) (iblk m c 3 t) (iblk m c 2 t) (iblk m c 4 t) x = REF m c (((cfg0.win 5).blk t).view.emb y) := by
  idx_vars x
  obtain rfl : x0 = 0 := Subsingleton.elim _ _
  rw [tile_apply]
  obtain ⟨z, hz⟩ : ∃ z : Cert.GqaRefIdeal.S16x2048x512.Idx, z = ((cfg0.win 5).blk t).view.emb y := ⟨_, rfl⟩
  have z0 : (z 0).val = t.val / 8 := by subst hz; have := (y 0).isLt; blk_simp [idx t]
  have z1 : (z 1).val = t.val % 8 * 256 + x1.val := by subst hz; blk_simp [idx t]; omega
  have z2 : (z 2).val = g * 128 + x2.val := by subst hz; blk_simp [idx t]; omega
  refine Eq.trans ?_ (congrArg (REF m c) hz)
  clear hz
  idx_vars z
  rw [REF, ref_soft _ _ hf]
  simp only [hq, x0_apply]
  blk_point [iblk, V, idx t]
  exact Fin.ext (by simp only; omega)

/-- What the body leaves in the output window's buffer at grid point `t` is the reference at the window's block. -/
theorem point (c : Dev nD) (t : Fin cfg0.N) (hf : Finite (m ((c : Thread nD τ).loc main_arg0)) (m ((c : Thread nD τ).loc main_arg1))) (y) :
    outsAt0 m c t y = REF m c (((cfg0.win 5).blk t).view.emb y) := by
  unfold Gen.outsAt0; frame_out
  canon_tiles x h
  · exact tile_ref m c t hf 3 (by omega) x y _ (fun d => View.ld_unit_apply_of _ _ _ _ _ _ fun a => by fin_cases a <;> simp) (by omega) (by omega)
  · exact tile_ref m c t hf 2 (by omega) x y _ (fun d => View.ld_unit_apply_of _ _ _ _ _ _ fun a => by fin_cases a <;> simp) (by omega) (by omega)
  · exact tile_ref m c t hf 1 (by omega) x y _ (fun d => View.ld_unit_apply_of _ _ _ _ _ _ fun a => by fin_cases a <;> simp) (by omega) (by omega)
  · exact tile_ref m c t hf 0 (by omega) x y _ (fun d => View.ld_unit_apply_of _ _ _ _ _ _ fun a => by fin_cases a <;> simp) (by omega) (by omega)

/-- The kernel's result array is the reference's. -/
theorem final (c : Dev nD) (hf : Finite (m ((c : Thread nD τ).loc main_arg0)) (m ((c : Thread nD τ).loc main_arg1))) :
    (dats m 0 c).arrAt 5 (cfgs 0).N = REF m c := by
  refine (dats m 0 c).arrAt_eq_of_covers 5 _ (by decide +kernel) fun t _ y => ?_
  blk_simp; rw [after0_5]
  exact point m c t hf y

end Cert.GqaIdeal.Value

end
-- ==== Proof.GqaClaim.lean ====
module

public import proofs.«01_k».proof.Proof.GqaValue
public import proofs.«01_k».proof.Defs
public import Idealize.ShloMosaic.Lib.ReduceAll
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GqaClaim

/-- The facts that the precondition's operations take. -/
instance preFacts : Cert.Pre_finite.Facts where
  slices_S16x2048x2304_S16x2048x640_0_0_0 := by decide
  bitsLt_bf16_f32 := by decide
  slices_S16x256x2304_S16x256x128_0_0_512 := by decide
  bcast_S_S16x2048x640 := by decide
  reducesTo_S16x2048x640_S_d0_1_2 := by decide
  h_S_ := by decide
  bcast_S_S16x256x128 := by decide
  reducesTo_S16x256x128_S_d0_1_2 := by decide

/-- A number whose absolute value is below plus infinity is finite. -/
theorem finite_of_abs (x : EReal) (h : Ideal.cmp .olt (max x (-x)) (Ideal.ofBits FTy.f32 0x7F800000#32) = 1#1) : x ≠ ⊤ ∧ x ≠ ⊥ := by
  have hi : Ideal.ofBits FTy.f32 0x7F800000#32 = ⊤ := by simp [Ideal.ofBits, Ideal.ieee]
  rw [hi] at h
  constructor <;> (rintro rfl; revert h; simp [Ideal.cmp])

/-- The precondition says that the queries and keys are finite. -/
theorem finite_of_pre (p : FVec Ideal Cert.Pre_finite.S16x2048x2304 .bf16) (pc : FVec Ideal Cert.Pre_finite.S16x256x2304 .bf16)
    (h : Cert.Pre_finite.fn (F := Ideal) p pc = fun _ => 1#1) : Cert.GqaRefIdeal.Read.Finite p pc := by
  have h0 := congrFun h (fun a => a.elim0)
  unfold Cert.Pre_finite.fn at h0
  obtain ⟨ha, hb⟩ : _ ∧ _ := IntOp.andi_eq_one.mp h0
  constructor
  · intro i0 i1 d
    have := Host.reduce_andi_all _ _ _ _ _ ha (ix3 i0 i1 d)
    pointwise at this
    exact finite_of_abs _ this
  · intro i0 i1 d
    have := Host.reduce_andi_all _ _ _ _ _ hb (ix3 i0 i1 d)
    pointwise at this
    exact finite_of_abs _ this

/-- The reference runs to its end, its arguments unchanged and no counter raised. -/
theorem ref_frame : Cert.quiescent_GqaRefIdeal (hGqaRefIdeal := Cert.GqaRefIdeal.Gen.facts) := by
  intro m g hpre
  hlo_run
  · exact fun c => by simp only [and_self]
  · exact sem_eq_zero_of_no_sems (show Cert.GqaRefIdeal.sig.nSem + Cert.GqaRefIdeal.sig.nDmaSem = 0 by decide) _

set_option maxHeartbeats 4000000 in
/-- The kernel call and the reference, run on the same arguments with finite queries and keys, end with the same result. -/
theorem algebraic : Cert.algebraic_GqaIdeal_GqaRefIdeal_pre_finite (hGqaIdeal := Cert.GqaIdeal.Gen.facts) (hGqaRefIdeal := Cert.GqaRefIdeal.Gen.facts)
    (hPre_finite := preFacts) := by
  pair_intro
  · run_from Cert.GqaIdeal.Gen.run_main m g
  · hlo_run
    exact (Cert.GqaIdeal.Value.final m c (finite_of_pre _ _ (hpre c))).symm

end Cert.GqaClaim

end
-- ==== Proof.Differ.lean ====
module

public import proofs.«01_k».proof.Proof.Attend
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Attend

/-- The difference of two attentions over the same values, the second's under a weight. -/
def differ {n : ℕ} (s1 s2 v : Fin n → EReal) (lam : EReal) : EReal := soft s1 v - lam * soft s2 v

/-- For finite scores and values, the difference is the sum of the values under the differences of the softmax weights. -/
theorem differ_eq {n : ℕ} (s1 s2 v : Fin n → EReal) (lam : EReal) (h1 : ∀ x, s1 x ≠ ⊤ ∧ s1 x ≠ ⊥) (h2 : ∀ x, s2 x ≠ ⊤ ∧ s2 x ≠ ⊥)
    (hv : ∀ x, v x ≠ ⊤ ∧ v x ≠ ⊥) (hl : lam ≠ ⊤ ∧ lam ≠ ⊥) (hn : 0 < n) :
    ∑ x, v x * (weight s1 x - lam * weight s2 x) = differ s1 s2 v lam := by
  have hw1 := weight_eq s1 (fun x => (h1 x).1) ⟨⟨0, hn⟩, (h1 _).2⟩
  have hw2 := weight_eq s2 (fun x => (h2 x).1) ⟨⟨0, hn⟩, (h2 _).2⟩
  obtain ⟨w, rfl⟩ : ∃ w : Fin n → ℝ, v = fun x => (w x : EReal) := ⟨fun x => (v x).toReal, funext fun x => (EReal.coe_toReal (hv x).1 (hv x).2).symm⟩
  lift lam to ℝ using hl
  rw [differ, soft_eq s1 _ (fun x => (h1 x).1) ⟨⟨0, hn⟩, (h1 _).2⟩, soft_eq s2 _ (fun x => (h2 x).1) ⟨⟨0, hn⟩, (h2 _).2⟩]
  simp only [hw1, hw2, ← EReal.coe_mul, ← EReal.coe_sub, coe_sum]
  congr 1
  rw [Finset.mul_sum, ← Finset.sum_sub_distrib]
  exact Finset.sum_congr rfl fun x _ => by ring

/-- The second map's weight, from its four vectors. -/
def second (a b c d : Fin 64 → EReal) : EReal :=
  Ideal.exp (∑ e, a e * b e) - Ideal.exp (∑ e, c e * d e) + Ideal.ofBits FTy.f32 0x3E4CCCCD#32

/-- Finite vectors give a finite weight. -/
theorem second_ne (a b c d : Fin 64 → EReal) (ha : ∀ e, a e ≠ ⊤ ∧ a e ≠ ⊥) (hb : ∀ e, b e ≠ ⊤ ∧ b e ≠ ⊥) (hc : ∀ e, c e ≠ ⊤ ∧ c e ≠ ⊥)
    (hd : ∀ e, d e ≠ ⊤ ∧ d e ≠ ⊥) : second a b c d ≠ ⊤ ∧ second a b c d ≠ ⊥ := by
  have h1 := sum_ne (fun e => a e * b e) fun e => mul_ne (ha e) (hb e)
  have h2 := sum_ne (fun e => c e * d e) fun e => mul_ne (hc e) (hd e)
  have h3 : Ideal.ofBits FTy.f32 0x3E4CCCCD#32 ≠ ⊤ ∧ Ideal.ofBits FTy.f32 0x3E4CCCCD#32 ≠ ⊥ := by
    simp [Ideal.ofBits, Ideal.ieee]
    rw [← EReal.coe_mul]
    exact ⟨EReal.coe_ne_top _, EReal.coe_ne_bot _⟩
  unfold second
  generalize ∑ e, a e * b e = x at *
  generalize ∑ e, c e * d e = y at *
  generalize Ideal.ofBits FTy.f32 0x3E4CCCCD#32 = z at *
  lift x to ℝ using h1
  lift y to ℝ using h2
  lift z to ℝ using h3
  rw [Ideal.exp_coe, Ideal.exp_coe, ← EReal.coe_sub, ← EReal.coe_add]
  exact ⟨EReal.coe_ne_top _, EReal.coe_ne_bot _⟩

/-- A head's output, normalised by its root mean square, times the gain and the fixed scale. -/
def normed (o g : Fin 128 → EReal) (j : Fin 128) : EReal :=
  o j * Ideal.rsqrt (Ideal.div (∑ l, o l * o l) (Ideal.ofBits FTy.f32 0x43000000#32) + Ideal.ofBits FTy.f32 0x358637BD#32) * g j
    * Ideal.ofBits FTy.f32 0x3F4CCCCD#32

end Cert.Attend

end
-- ==== Proof.DiffTile.lean ====
module

public import proofs.«01_k».proof.Proof.Differ
public import proofs.«01_k».proof.Proof.Gen.DiffIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DiffIdeal.Value

open Cert.DiffIdeal Cert.DiffIdeal.Gen Cert.Attend

/-- The powers of the scores of a tile's 512 query rows, the first map's above the second's. -/
def powers (q : FVec Ideal S1x512x128 .bf16) (kc : FVec Ideal S1x256x128 .bf16) (kl : FVec Ideal S1x2048x128 .bf16) : FVec Ideal S1024x2304 .bf16 :=
  k0_pay7 (k0_pay5 q) kc kl

/-- The second map's weight, from the rows that hold its vectors. -/
def lam (x : FVec Ideal S8x128 .f32) : FVec Ideal S1x1 .f32 := k0_pay3 x

/-- The attention of every row of powers, over all lanes. -/
def attended (p : FVec Ideal S1024x2304 .bf16) (vc : FVec Ideal S1x256x128 .bf16) (vl : FVec Ideal S1x2048x128 .bf16) : FVec Ideal S1024x128 .f32 :=
  divf (k0_pay12 p vc vl) (k0_pay13 p vc vl)

/-- One tile of the block's result, from the second map's weight, the tile's queries, the block's keys and values, and the gain. -/
def tile (w : FVec Ideal S1x1 .f32) (q : FVec Ideal S1x512x128 .bf16) (kc vc : FVec Ideal S1x256x128 .bf16) (kl vl : FVec Ideal S1x2048x128 .bf16)
    (g : FVec Ideal S1x128 .f32) : FVec Ideal S1x512x128 .bf16 :=
  k0_pay2 w (k0_pay12 (powers q kc kl) vc vl) (k0_pay13 (powers q kc kl) vc vl) g

/-- The upper rows hold the powers of the first map's scores. -/
theorem powers_first (q : FVec Ideal S1x512x128 .bf16) (kc : FVec Ideal S1x256x128 .bf16) (kl : FVec Ideal S1x2048x128 .bf16) (i1 : Fin 512) (j : Fin 2304) :
    powers q kc kl (ix2 ⟨i1.val, by omega⟩ j)
      = Ideal.exp2 (score (fun d => q (ix3 0 i1 d)) (fun j d => kc (ix3 0 j d)) (fun j d => kl (ix3 0 j d)) 0 j
          - top (score (fun d => q (ix3 0 i1 d)) (fun j d => kc (ix3 0 j d)) (fun j d => kl (ix3 0 j d)) 0)) := by
  unfold powers
  open_payloads
  pointwise
  simp only [sum_first]
  rfl

/-- The lower rows hold the powers of the second map's scores. -/
theorem powers_second (q : FVec Ideal S1x512x128 .bf16) (kc : FVec Ideal S1x256x128 .bf16) (kl : FVec Ideal S1x2048x128 .bf16) (i1 : Fin 512) (j : Fin 2304) :
    powers q kc kl (ix2 ⟨512 + i1.val, by omega⟩ j)
      = Ideal.exp2 (score (fun d => q (ix3 0 i1 d)) (fun j d => kc (ix3 0 j d)) (fun j d => kl (ix3 0 j d)) 1 j
          - top (score (fun d => q (ix3 0 i1 d)) (fun j d => kc (ix3 0 j d)) (fun j d => kl (ix3 0 j d)) 1)) := by
  unfold powers
  open_payloads
  pointwise
  simp only [sum_second]
  rfl

/-- A row of powers attends over one lane: the weighted sum of the values over the sum of the powers. -/
theorem attended_apply (p : FVec Ideal S1024x2304 .bf16) (vc : FVec Ideal S1x256x128 .bf16) (vl : FVec Ideal S1x2048x128 .bf16) (r : Fin 1024) (l : Fin 128) :
    attended p vc vl (ix2 r l)
      = Ideal.div (∑ x, p (ix2 r x) * joined (by norm_num : 2304 = 256 + 2048) (fun j => vc (ix3 0 j l)) (fun j => vl (ix3 0 j l)) x) (∑ x, p (ix2 r x)) := by
  have hn : 2304 = 256 + 2048 := by norm_num
  have hs : (fun j => p (ix2 r j)) = joined hn (fun j => p (ix2 r ⟨j.val, by omega⟩)) (fun j => p (ix2 r ⟨256 + j.val, by omega⟩)) := by
    funext j
    unfold joined
    split
    · rfl
    · congr 2; exact Fin.ext (by simp; omega)
  have h1 := sum_joined hn (fun j => p (ix2 r ⟨j.val, by omega⟩)) (fun j => p (ix2 r ⟨256 + j.val, by omega⟩)) (fun j => vc (ix3 0 j l)) (fun j => vl (ix3 0 j l))
    (fun x y => x * y)
  have h2 := sum_joined hn (fun j => p (ix2 r ⟨j.val, by omega⟩)) (fun j => p (ix2 r ⟨256 + j.val, by omega⟩)) (fun j => vc (ix3 0 j l)) (fun j => vl (ix3 0 j l))
    (fun x _ => x)
  unfold attended
  open_payloads
  pointwise
  rw [← hs] at h1 h2
  rw [h1, h2]

/-- A tile's entry is the difference of its two attentions, normalised over the lanes. -/
theorem tile_apply (w : FVec Ideal S1x1 .f32) (q : FVec Ideal S1x512x128 .bf16) (kc vc : FVec Ideal S1x256x128 .bf16) (kl vl : FVec Ideal S1x2048x128 .bf16)
    (g : FVec Ideal S1x128 .f32) (i1 : Fin 512) (i2 : Fin 128) :
    tile w q kc vc kl vl g (ix3 0 i1 i2)
      = normed (fun l => differ (score (fun d => q (ix3 0 i1 d)) (fun j d => kc (ix3 0 j d)) (fun j d => kl (ix3 0 j d)) 0)
            (score (fun d => q (ix3 0 i1 d)) (fun j d => kc (ix3 0 j d)) (fun j d => kl (ix3 0 j d)) 1)
            (joined (by norm_num : 2304 = 256 + 2048) (fun j => vc (ix3 0 j l)) (fun j => vl (ix3 0 j l))) (w (ix2 0 0)))
          (fun l => g (ix2 0 l)) i2 := by
  have hm : tile w q kc vc kl vl g (ix3 0 i1 i2)
      = normed (fun l => attended (powers q kc kl) vc vl (ix2 ⟨i1.val, by omega⟩ l)
          - w (ix2 0 0) * attended (powers q kc kl) vc vl (ix2 ⟨512 + i1.val, by omega⟩ l)) (fun l => g (ix2 0 l)) i2 := by
    unfold tile attended
    generalize k0_pay12 (powers q kc kl) vc vl = A
    generalize k0_pay13 (powers q kc kl) vc vl = B
    open_payloads
    pointwise
    rfl
  rw [hm]
  simp only [attended_apply, powers_first, powers_second]
  rfl

/-- The second map's weight, from the rows of its four vectors. -/
theorem weight_apply (x : FVec Ideal S8x128 .f32) :
    lam x (ix2 0 0) = Ideal.exp (∑ l, x (ix2 0 l) * x (ix2 1 l)) - Ideal.exp (∑ l, x (ix2 2 l) * x (ix2 3 l)) + Ideal.ofBits FTy.f32 0x3E4CCCCD#32 := by
  unfold lam
  open_payloads
  pointwise

end Cert.DiffIdeal.Value

end
-- ==== Proof.DiffHost.lean ====
module

public import proofs.«01_k».proof.Proof.DiffTile
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DiffIdeal.Value

open Cert.DiffIdeal Cert.DiffIdeal.Gen Cert.Attend

variable (m : (ℓ : Loc nD τ sig) → Buf (Elt Ideal) ℓ)

/-- A vector of 64 numbers, padded with zeros, as a row of 128. -/
def padded (x : FVec Ideal S64 .f32) : FVec Ideal S1x128 .f32 :=
  broadcastInDim S1x128 ![1] bcast_S128_S1x128_1 (pad S128 ![0] ![64] ![0] x (sitofp .f32 (constantI S_ 32 0#32)) pads_S64_S128_0640 h_S_)

/-- A padded vector, entry by entry. -/
theorem padded_apply (x : FVec Ideal S64 .f32) (l : Fin 128) : padded x (ix2 0 l) = joined (by norm_num : 128 = 64 + 64) (fun e => x (ix1 e)) (fun _ => 0) l := by
  have h0 : (FloatOps.sitofp FTy.f32 0#32 : Ideal .f32) = (0 : EReal) := by
    show ((((0#32 : BitVec 32).toInt : ℝ)) : EReal) = 0
    simp
  pointwise [padded]
  simp only [h0]
  rfl

/-- The vectors of the second map's weight, one per row. -/
def rows (a b c d : FVec Ideal S64 .f32) : FVec Ideal S8x128 .f32 :=
  concatenate S8x128 0 [⟨S4x128, concatenate S4x128 0 [⟨S1x128, padded a⟩, ⟨S1x128, padded b⟩, ⟨S1x128, padded c⟩, ⟨S1x128, padded d⟩] concatenates_S1x128_S1x128_S1x128_S1x128_S4x128_d0⟩,
    ⟨S4x128, broadcastInDim S4x128 ![] bcast_S_S4x128 (constant S_ .f32 0x00000000#32)⟩] concatenates_S4x128_S4x128_S8x128_d0

/-- The array of the four vectors that the call finds. -/
theorem V_rows (c : Dev nD) : V m c main_v10 = rows (m ((c : Thread nD τ).loc main_arg2)) (m ((c : Thread nD τ).loc main_arg3)) (m ((c : Thread nD τ).loc main_arg4)) (m ((c : Thread nD τ).loc main_arg5)) := by
  simp only [V, hostOps0, hostOps0_1, hostOps0_2, hostOps0_3, hostOps0_4, hostOps0_5, hostOps0_6, hostOps0_7, hostOps0_8, List.flatten_cons, List.flatten_nil,
    List.append_nil, List.cons_append, List.nil_append]
  after_results_simp
  rfl

/-- The gain, as the first of eight rows. -/
def gainRows (g : FVec Ideal S128 .f32) : FVec Ideal S8x128 .f32 :=
  concatenate S8x128 0 [⟨S1x128, broadcastInDim S1x128 ![1] bcast_S128_S1x128_1 g⟩,
    ⟨S7x128, broadcastInDim S7x128 ![] bcast_S_S7x128 (constant S_ .f32 0x00000000#32)⟩] concatenates_S1x128_S7x128_S8x128_d0

/-- The array of the gain that the call finds. -/
theorem V_gain (c : Dev nD) : V m c main_v13 = gainRows (m ((c : Thread nD τ).loc main_arg6)) := by
  simp only [V, hostOps0, hostOps0_1, hostOps0_2, hostOps0_3, hostOps0_4, hostOps0_5, hostOps0_6, hostOps0_7, hostOps0_8, List.flatten_cons, List.flatten_nil,
    List.append_nil, List.cons_append, List.nil_append]
  after_results_simp
  rfl

/-- The sum of the products of two padded vectors is the vectors' sum. -/
theorem sum_padded (x y : FVec Ideal S64 .f32) : ∑ l, padded x (ix2 0 l) * padded y (ix2 0 l) = ∑ e, x (ix1 e) * y (ix1 e) := by
  simp only [padded_apply]
  rw [sum_joined (by norm_num : 128 = 64 + 64) (fun e => x (ix1 e)) (fun _ => 0) (fun e => y (ix1 e)) (fun _ => 0) (· * ·)]
  simp

/-- The second map's weight, from the array of the four vectors, is their own. -/
theorem lam_rows (a b c d : FVec Ideal S64 .f32) :
    lam (rows a b c d) (ix2 0 0) = second (fun e => a (ix1 e)) (fun e => b (ix1 e)) (fun e => c (ix1 e)) (fun e => d (ix1 e)) := by
  rw [weight_apply, second, ← sum_padded, ← sum_padded]
  pointwise [rows]

/-- The gain's row of its array. -/
theorem gainRows_apply (g : FVec Ideal S128 .f32) (l : Fin 128) : gainRows g (ix2 0 l) = g (ix1 l) := by
  pointwise [gainRows]

end Cert.DiffIdeal.Value

end
-- ==== Proof.DiffRef.lean ====
module

public import proofs.«01_k».proof.Proof.Differ
public import proofs.«01_k».proof.Proof.Gen.DiffRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DiffRefIdeal.Read

open Cert.DiffRefIdeal Cert.DiffRefIdeal.Gen

/-- The queries of mixer B by head, map and map dimension. -/
def queries (p : FVec Ideal S16x2048x2304 .bf16) : FVec Ideal S16x2048x4x2x64 .f32 :=
  shapeCast _ (transpose S16x2048x4x2x2x32 [0, 1, 2, 4, 3, 5]
    (shapeCast _ (extractStridedSlice S16x2048x512 ![0, 0, 768] (extf .f32 p bitsLt_bf16_f32) slices_S16x2048x2304_S16x2048x512_0_0_768)
      shapeCasts_S16x2048x512_S16x2048x4x2x2x32) transposes_S16x2048x4x2x2x32_S16x2048x4x2x2x32_0_1_2_4_3_5)
    shapeCasts_S16x2048x4x2x2x32_S16x2048x4x2x64

/-- The keys of mixer B by head, map and map dimension: the context's, then the latents'. -/
def keys (p : FVec Ideal S16x2048x2304 .bf16) (pc : FVec Ideal S16x256x2304 .bf16) : FVec Ideal S16x2304x4x2x64 .f32 :=
  concatenate S16x2304x4x2x64 1
    [⟨S16x256x4x2x64, shapeCast _ (transpose S16x256x4x2x2x32 [0, 1, 2, 4, 3, 5]
        (shapeCast _ (extractStridedSlice S16x256x512 ![0, 0, 1280] (extf .f32 pc bitsLt_bf16_f32) slices_S16x256x2304_S16x256x512_0_0_1280)
          shapeCasts_S16x256x512_S16x256x4x2x2x32) transposes_S16x256x4x2x2x32_S16x256x4x2x2x32_0_1_2_4_3_5)
        shapeCasts_S16x256x4x2x2x32_S16x256x4x2x64⟩,
     ⟨S16x2048x4x2x64, shapeCast _ (transpose S16x2048x4x2x2x32 [0, 1, 2, 4, 3, 5]
        (shapeCast _ (extractStridedSlice S16x2048x512 ![0, 0, 1280] (extf .f32 p bitsLt_bf16_f32) slices_S16x2048x2304_S16x2048x512_0_0_1280)
          shapeCasts_S16x2048x512_S16x2048x4x2x2x32) transposes_S16x2048x4x2x2x32_S16x2048x4x2x2x32_0_1_2_4_3_5)
        shapeCasts_S16x2048x4x2x2x32_S16x2048x4x2x64⟩]
    concatenates_S16x256x4x2x64_S16x2048x4x2x64_S16x2304x4x2x64_d1

/-- The values of mixer B by head and head dimension: the context's, then the latents'. -/
def values (p : FVec Ideal S16x2048x2304 .bf16) (pc : FVec Ideal S16x256x2304 .bf16) : FVec Ideal S16x2304x4x128 .f32 :=
  concatenate S16x2304x4x128 1
    [⟨S16x256x4x128, shapeCast _ (extractStridedSlice S16x256x512 ![0, 0, 1792] (extf .f32 pc bitsLt_bf16_f32) slices_S16x256x2304_S16x256x512_0_0_1792)
        shapeCasts_S16x256x512_S16x256x4x128⟩,
     ⟨S16x2048x4x128, shapeCast _ (extractStridedSlice S16x2048x512 ![0, 0, 1792] (extf .f32 p bitsLt_bf16_f32) slices_S16x2048x2304_S16x2048x512_0_0_1792)
        shapeCasts_S16x2048x512_S16x2048x4x128⟩]
    concatenates_S16x256x4x128_S16x2048x4x128_S16x2304x4x128_d1

/-- The scores of every query against every key of its head and map. -/
def scores (q : FVec Ideal S16x2048x4x2x64 .f32) (k : FVec Ideal S16x2304x4x2x64 .f32) : FVec Ideal S16x4x2x2048x2304 .f32 :=
  Host.dotGeneral dot_S16x2048x4x2x64_S16x2304x4x2x64_S16x4x2x2048x2304_4_4_1_1_023_023 none q k

/-- A number per query and map, at each of its scores. -/
def spread (x : FVec Ideal S16x4x2x2048 .f32) : FVec Ideal S16x4x2x2048x2304 .f32 :=
  broadcastInDim S16x4x2x2048x2304 ![0, 1, 2, 3, 4] bcast_S16x4x2x2048x1_S16x4x2x2048x2304_0_1_2_3_4
    (broadcastInDim S16x4x2x2048x1 ![0, 1, 2, 3] bcast_S16x4x2x2048_S16x4x2x2048x1_0_1_2_3 x)

/-- Two to the power of the scores less their maximum. -/
def powers (s : FVec Ideal S16x4x2x2048x2304 .f32) : FVec Ideal S16x4x2x2048x2304 .f32 :=
  Host.powf (broadcastInDim S16x4x2x2048x2304 ![] bcast_S_S16x4x2x2048x2304 (constant S_ .f32 0x40000000#32))
    (subf s (spread (Host.reduce FloatOps.maximumf s (constant S_ .f32 0xFF800000#32) reducesTo_S16x4x2x2048x2304_S16x4x2x2048_d4 h_S_)))

/-- The softmax of the scores. -/
def probs (e : FVec Ideal S16x4x2x2048x2304 .f32) : FVec Ideal S16x4x2x2048x2304 .f32 :=
  Host.divf e (spread (Host.reduceAdd e (constant S_ .f32 0x00000000#32) reducesTo_S16x4x2x2048x2304_S16x4x2x2048_d4 h_S_))

/-- The second map's weight. -/
def lam (a b c d : FVec Ideal S64 .f32) : FVec Ideal S_ .f32 :=
  addf (subf (Host.exp (Host.reduceAdd (mulf a b) (constant S_ .f32 0x00000000#32) reducesTo_S64_S_d0 h_S_))
    (Host.exp (Host.reduceAdd (mulf c d) (constant S_ .f32 0x00000000#32) reducesTo_S64_S_d0 h_S_))) (constant S_ .f32 0x3E4CCCCD#32)

/-- The first map's softmax less the second's, under its weight. -/
def difference (p : FVec Ideal S16x4x2x2048x2304 .f32) (w : FVec Ideal S_ .f32) : FVec Ideal S16x4x2048x2304 .f32 :=
  subf (shapeCast _ (extractStridedSlice S16x4x1x2048x2304 ![0, 0, 0, 0, 0] p slices_S16x4x2x2048x2304_S16x4x1x2048x2304_0_0_0_0_0) shapeCasts_S16x4x1x2048x2304_S16x4x2048x2304)
    (mulf (broadcastInDim S16x4x2048x2304 ![] bcast_S_S16x4x2048x2304 w)
      (shapeCast _ (extractStridedSlice S16x4x1x2048x2304 ![0, 0, 1, 0, 0] p slices_S16x4x2x2048x2304_S16x4x1x2048x2304_0_0_1_0_0) shapeCasts_S16x4x1x2048x2304_S16x4x2048x2304))

/-- The values under the difference of the maps. -/
def weighted (v : FVec Ideal S16x2304x4x128 .f32) (a : FVec Ideal S16x4x2048x2304 .f32) : FVec Ideal S16x2048x4x128 .f32 :=
  transpose S16x2048x4x128 [0, 3, 1, 2] (Host.dotGeneral dot_S16x2304x4x128_S16x4x2048x2304_S16x4x128x2048_1_3_3_2_02_01 none v a)
    transposes_S16x4x128x2048_S16x2048x4x128_0_3_1_2

/-- Each head normalised, with the gain and the fixed scale, laid out as the call does. -/
def output (o : FVec Ideal S16x2048x4x128 .f32) (g : FVec Ideal S128 .f32) : FVec Ideal S16x2048x512 .bf16 :=
  truncf .bf16 (shapeCast _ (mulf (mulf (mulf o (broadcastInDim S16x2048x4x128 ![0, 1, 2, 3] bcast_S16x2048x4x1_S16x2048x4x128_0_1_2_3
    (Host.rsqrt (addf (Host.divf (broadcastInDim S16x2048x4x1 ![0, 1, 2] bcast_S16x2048x4_S16x2048x4x1_0_1_2
        (Host.reduceAdd (mulf o o) (constant S_ .f32 0x00000000#32) reducesTo_S16x2048x4x128_S16x2048x4_d3 h_S_))
        (broadcastInDim S16x2048x4x1 ![] bcast_S_S16x2048x4x1 (constant S_ .f32 0x43000000#32)))
      (broadcastInDim S16x2048x4x1 ![] bcast_S_S16x2048x4x1 (constant S_ .f32 0x358637BD#32))))))
    (broadcastInDim S16x2048x4x128 ![0, 1, 2, 3] bcast_S1x1x1x128_S16x2048x4x128_0_1_2_3 (broadcastInDim S1x1x1x128 ![3] bcast_S128_S1x1x1x128_3 g)))
    (broadcastInDim S16x2048x4x128 ![] bcast_S_S16x2048x4x128 (constant S_ .f32 0x3F4CCCCD#32))) shapeCasts_S16x2048x4x128_S16x2048x512) bitsLt_bf16_f32

/-- The differential attention of mixer B over the latent queries. -/
def result (p : FVec Ideal S16x2048x2304 .bf16) (pc : FVec Ideal S16x256x2304 .bf16) (a b c d : FVec Ideal S64 .f32) (g : FVec Ideal S128 .f32) :
    FVec Ideal S16x2048x512 .bf16 :=
  output (weighted (values p pc) (difference (probs (powers (scores (queries p) (keys p pc)))) (lam a b c d))) g

open Cert.Attend

theorem queries_apply (p : FVec Ideal S16x2048x2304 .bf16) (i0 : Fin 16) (i1 : Fin 2048) (h : Fin 4) (c : Fin 2) (e : Fin 64) :
    queries p (ix5 i0 i1 h c e) = p (ix3 i0 i1 ⟨768 + (h.val * 128 + (lane c e).val), by omega⟩) := by
  pointwise [queries]
  congr 2; exact Fin.ext (by simp only [lane]; omega)

theorem keys_apply (p : FVec Ideal S16x2048x2304 .bf16) (pc : FVec Ideal S16x256x2304 .bf16) (i0 : Fin 16) (j : Fin 2304) (h : Fin 4) (c : Fin 2) (e : Fin 64) :
    keys p pc (ix5 i0 j h c e) = joined (by norm_num : 2304 = 256 + 2048) (fun j => pc (ix3 i0 j ⟨1280 + (h.val * 128 + (lane c e).val), by omega⟩))
      (fun j => p (ix3 i0 j ⟨1280 + (h.val * 128 + (lane c e).val), by omega⟩)) j := by
  have hx : ∀ h1 h2, (⟨1280 + (h.val * 128 + e.val / 32 * 64 + c.val * 32 + e.val % 32), h1⟩ : Fin 2304) = ⟨1280 + (h.val * 128 + (lane c e).val), h2⟩ :=
    fun _ _ => Fin.ext (by simp only [lane]; omega)
  pointwise [keys]
  unfold joined
  split <;> (congr 2; exact Fin.ext (by simp only [lane]; omega))

theorem values_apply (p : FVec Ideal S16x2048x2304 .bf16) (pc : FVec Ideal S16x256x2304 .bf16) (i0 : Fin 16) (j : Fin 2304) (h : Fin 4) (l : Fin 128) :
    values p pc (ix4 i0 j h l) = joined (by norm_num : 2304 = 256 + 2048) (fun j => pc (ix3 i0 j ⟨1792 + (h.val * 128 + l.val), by omega⟩))
      (fun j => p (ix3 i0 j ⟨1792 + (h.val * 128 + l.val), by omega⟩)) j := by
  pointwise [values]
  rfl

/-- The scores of one query in one map of a head, from the head's tiles. -/
def rowScore (p : FVec Ideal S16x2048x2304 .bf16) (pc : FVec Ideal S16x256x2304 .bf16) (i0 : Fin 16) (i1 : Fin 2048) (h : Fin 4) (c : Fin 2) : Fin 2304 → EReal :=
  score (fun d => p (ix3 i0 i1 ⟨768 + (h.val * 128 + d.val), by omega⟩)) (fun j d => pc (ix3 i0 j ⟨1280 + (h.val * 128 + d.val), by omega⟩))
    (fun j d => p (ix3 i0 j ⟨1280 + (h.val * 128 + d.val), by omega⟩)) c

/-- A head's values in one lane: the context's, then the latents'. -/
def rowValue (p : FVec Ideal S16x2048x2304 .bf16) (pc : FVec Ideal S16x256x2304 .bf16) (i0 : Fin 16) (h : Fin 4) (l : Fin 128) : Fin 2304 → EReal :=
  joined (by norm_num : 2304 = 256 + 2048) (fun j => pc (ix3 i0 j ⟨1792 + (h.val * 128 + l.val), by omega⟩))
    (fun j => p (ix3 i0 j ⟨1792 + (h.val * 128 + l.val), by omega⟩))

theorem scores_apply (p : FVec Ideal S16x2048x2304 .bf16) (pc : FVec Ideal S16x256x2304 .bf16) (i0 : Fin 16) (h : Fin 4) (c : Fin 2) (i1 : Fin 2048) (j : Fin 2304) :
    scores (queries p) (keys p pc) (ix5 i0 h c i1 j) = rowScore p pc i0 i1 h c j := by
  have : scores (queries p) (keys p pc) (ix5 i0 h c i1 j) = ∑ e, queries p (ix5 i0 i1 h c e) * keys p pc (ix5 i0 j h c e) := by
    generalize queries p = q
    generalize keys p pc = k
    pointwise [scores]
  rw [this]
  simp only [queries_apply, keys_apply]
  unfold rowScore score joined
  split <;> rfl

/-- The softmax of scores, entry by entry. -/
theorem probs_apply (s : FVec Ideal S16x4x2x2048x2304 .f32) (i0 : Fin 16) (h : Fin 4) (c : Fin 2) (i1 : Fin 2048) (j : Fin 2304) :
    probs (powers s) (ix5 i0 h c i1 j) = weight (fun x => s (ix5 i0 h c i1 x)) j := by
  pointwise [probs, powers, spread]
  simp only [base_two, pow_two]
  rfl

theorem lam_apply (a b c d : FVec Ideal S64 .f32) (i : S_.Idx) :
    lam a b c d i = second (fun e => a (ix1 e)) (fun e => b (ix1 e)) (fun e => c (ix1 e)) (fun e => d (ix1 e)) := by
  pointwise [lam]
  rfl

theorem difference_apply (p : FVec Ideal S16x4x2x2048x2304 .f32) (w : FVec Ideal S_ .f32) (i0 : Fin 16) (h : Fin 4) (i1 : Fin 2048) (j : Fin 2304) :
    difference p w (ix4 i0 h i1 j) = p (ix5 i0 h 0 i1 j) - w ix0 * p (ix5 i0 h 1 i1 j) := by
  pointwise [difference]

theorem weighted_apply (v : FVec Ideal S16x2304x4x128 .f32) (a : FVec Ideal S16x4x2048x2304 .f32) (i0 : Fin 16) (i1 : Fin 2048) (h : Fin 4) (l : Fin 128) :
    weighted v a (ix4 i0 i1 h l) = ∑ x, v (ix4 i0 x h l) * a (ix4 i0 h i1 x) := by
  pointwise [weighted]

theorem output_apply (o : FVec Ideal S16x2048x4x128 .f32) (g : FVec Ideal S128 .f32) (i0 : Fin 16) (i1 : Fin 2048) (j : Fin 512) :
    output o g (ix3 i0 i1 j) = normed (fun l => o (ix4 i0 i1 ⟨j.val / 128, by omega⟩ l)) (fun l => g (ix1 l)) ⟨j.val % 128, by omega⟩ := by
  pointwise [output]
  rfl

/-- Every projected query, key and value of mixer B is finite, and so are the vectors of the second map's weight. -/
def Finite (p : FVec Ideal S16x2048x2304 .bf16) (pc : FVec Ideal S16x256x2304 .bf16) (a b c d : FVec Ideal S64 .f32) : Prop :=
  (∀ i0 i1 (l : Fin 1536), p (ix3 i0 i1 ⟨768 + l.val, by omega⟩) ≠ ⊤ ∧ p (ix3 i0 i1 ⟨768 + l.val, by omega⟩) ≠ ⊥)
    ∧ (∀ i0 i1 (l : Fin 1024), pc (ix3 i0 i1 ⟨1280 + l.val, by omega⟩) ≠ ⊤ ∧ pc (ix3 i0 i1 ⟨1280 + l.val, by omega⟩) ≠ ⊥)
    ∧ (∀ e, a (ix1 e) ≠ ⊤ ∧ a (ix1 e) ≠ ⊥) ∧ (∀ e, b (ix1 e) ≠ ⊤ ∧ b (ix1 e) ≠ ⊥)
    ∧ (∀ e, c (ix1 e) ≠ ⊤ ∧ c (ix1 e) ≠ ⊥) ∧ ∀ e, d (ix1 e) ≠ ⊤ ∧ d (ix1 e) ≠ ⊥

/-- The reference's entry, for finite arguments: the difference of the two attentions, normalised over the head's lanes. -/
theorem ref_apply (p : FVec Ideal S16x2048x2304 .bf16) (pc : FVec Ideal S16x256x2304 .bf16) (a b c d : FVec Ideal S64 .f32) (g : FVec Ideal S128 .f32)
    (hf : Finite p pc a b c d) (i0 : Fin 16) (i1 : Fin 2048) (j : Fin 512) :
    result p pc a b c d g (ix3 i0 i1 j)
      = normed (fun l => differ (rowScore p pc i0 i1 ⟨j.val / 128, by omega⟩ 0) (rowScore p pc i0 i1 ⟨j.val / 128, by omega⟩ 1)
            (rowValue p pc i0 ⟨j.val / 128, by omega⟩ l) (second (fun e => a (ix1 e)) (fun e => b (ix1 e)) (fun e => c (ix1 e)) (fun e => d (ix1 e))))
          (fun l => g (ix1 l)) ⟨j.val % 128, by omega⟩ := by
  obtain ⟨hp, hc, ha, hb, hc', hd⟩ := hf
  have hs : ∀ (h : Fin 4) (k : Fin 2) (x : Fin 2304), rowScore p pc i0 i1 h k x ≠ ⊤ ∧ rowScore p pc i0 i1 h k x ≠ ⊥ := fun h k x =>
    score_ne _ _ _ k (fun l => hp i0 i1 ⟨h.val * 128 + l.val, by omega⟩) (fun r l => hc i0 r ⟨h.val * 128 + l.val, by omega⟩)
      (fun r l => by have := hp i0 r ⟨512 + (h.val * 128 + l.val), by omega⟩; simpa only [← Nat.add_assoc] using this) x
  have hv : ∀ (h : Fin 4) (l : Fin 128) (x : Fin 2304), rowValue p pc i0 h l x ≠ ⊤ ∧ rowValue p pc i0 h l x ≠ ⊥ := by
    intro h l x
    unfold rowValue joined
    split
    · have := hc i0 ⟨x.val, by assumption⟩ ⟨512 + (h.val * 128 + l.val), by omega⟩; simpa only [← Nat.add_assoc] using this
    · have := hp i0 ⟨x.val - 256, by omega⟩ ⟨1024 + (h.val * 128 + l.val), by omega⟩; simpa only [← Nat.add_assoc] using this
  rw [result, output_apply]
  congr 1
  funext l
  rw [weighted_apply, ← differ_eq _ _ _ _ (hs _ 0) (hs _ 1) (hv _ l) (second_ne _ _ _ _ ha hb hc' hd) (by norm_num)]
  simp only [values_apply, difference_apply, probs_apply, scores_apply, lam_apply]
  rfl

end Cert.DiffRefIdeal.Read

end
-- ==== Proof.DiffValue.lean ====
module

public import proofs.«01_k».proof.Proof.DiffHost
public import proofs.«01_k».proof.Proof.DiffRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DiffIdeal.Value

open Cert.DiffIdeal Cert.DiffIdeal.Gen Cert.Attend
open Cert.DiffRefIdeal.Read (result Finite ref_apply rowScore rowValue)

variable (m : (ℓ : Loc nD τ sig) → Buf (Elt Ideal) ℓ)

/-- Every window's block index at every grid point. -/
theorem idx : ∀ t : Fin cfg0.N, win0_0.index t = ![t.val / 8, t.val % 4, 3 + t.val / 4 % 2]
    ∧ win0_1.index t = ![t.val / 8, 0, 5 + t.val / 4 % 2]
    ∧ win0_2.index t = ![t.val / 8, 0, 5 + t.val / 4 % 2]
    ∧ win0_3.index t = ![t.val / 8, 0, 7 + t.val / 4 % 2]
    ∧ win0_4.index t = ![t.val / 8, 0, 7 + t.val / 4 % 2]
    ∧ win0_5.index t = ![0, 0]
    ∧ win0_6.index t = ![0, 0]
    ∧ win0_7.index t = ![t.val / 8, t.val % 4, t.val / 4 % 2] :=
  (by decide +kernel : ∀ t : Fin grid0.N, _)

/-- The reference's term on the kernel's launch arguments. -/
abbrev REF (c : Dev nD) : FVec Ideal Cert.DiffRefIdeal.S16x2048x512 .bf16 :=
  result (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- The launch arguments are finite where it matters. -/
abbrev FIN (c : Dev nD) : Prop :=
  Finite (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

/-- The second map's weight at every grid point. -/
theorem lam_ref (c : Dev nD) (t : Fin cfg0.N) :
    lam (View.ld (iblk m c 5 t) r0_0) (ix2 0 0)
      = second (fun e => m ((c : Thread nD τ).loc main_arg2) (ix1 e)) (fun e => m ((c : Thread nD τ).loc main_arg3) (ix1 e))
          (fun e => m ((c : Thread nD τ).loc main_arg4) (ix1 e)) (fun e => m ((c : Thread nD τ).loc main_arg5) (ix1 e)) := by
  have h : View.ld (iblk m c 5 t) r0_0 = rows (m ((c : Thread nD τ).loc main_arg2)) (m ((c : Thread nD τ).loc main_arg3))
      (m ((c : Thread nD τ).loc main_arg4)) (m ((c : Thread nD τ).loc main_arg5)) := by
    rw [← V_rows]
    funext x
    idx_vars x
    blk_point [iblk, idx t]
  rw [h, lam_rows]

/-- The gain at every grid point. -/
theorem gain_ref (c : Dev nD) (t : Fin cfg0.N) (l : Fin 128) :
    View.ld (iblk m c 6 t) r0_7 (ix2 0 l) = m ((c : Thread nD τ).loc main_arg6) (ix1 l) := by
  rw [← gainRows_apply (m ((c : Thread nD τ).loc main_arg6)) l, ← V_gain]
  blk_point [iblk, idx t]

/-- A tile of the result of the block at grid point `t`, entry by entry, is the reference's entry. -/
theorem tile_ref (c : Dev nD) (t : Fin cfg0.N) (hf : FIN m c) (o : Nat) (ho : o ≤ 1) (x : S1x512x128.Idx) (y : S1x512x256.Idx)
    (q : FVec Ideal S1x512x128 .bf16) (kc vc : FVec Ideal S1x256x128 .bf16) (kl vl : FVec Ideal S1x2048x128 .bf16)
    (hq : ∀ d : Fin 128, q (ix3 0 (x 1) d) = iblk m c 0 t (ix3 0 (x 1) ⟨o * 128 + d.val, by omega⟩))
    (hkc : ∀ (r : Fin 256) (d : Fin 128), kc (ix3 0 r d) = iblk m c 1 t (ix3 0 r ⟨o * 128 + d.val, by omega⟩))
    (hkl : ∀ (r : Fin 2048) (d : Fin 128), kl (ix3 0 r d) = iblk m c 2 t (ix3 0 r ⟨o * 128 + d.val, by omega⟩))
    (hvc : ∀ (r : Fin 256) (d : Fin 128), vc (ix3 0 r d) = iblk m c 3 t (ix3 0 r ⟨o * 128 + d.val, by omega⟩))
    (hvl : ∀ (r : Fin 2048) (d : Fin 128), vl (ix3 0 r d) = iblk m c 4 t (ix3 0 r ⟨o * 128 + d.val, by omega⟩))
    (h1 : (y 1).val = (x 1).val) (h2 : (y 2).val = o * 128 + (x 2).val) :
    tile (lam (View.ld (iblk m c 5 t) r0_0)) q kc vc kl vl (View.ld (iblk m c 6 t) r0_7) x = REF m c (((cfg0.win 7).blk t).view.emb y) := by
  idx_vars x
  obtain rfl : x0 = 0 := Subsingleton.elim _ _
  rw [tile_apply]
  obtain ⟨z, hz⟩ : ∃ z : Cert.DiffRefIdeal.S16x2048x512.Idx, z = ((cfg0.win 7).blk t).view.emb y := ⟨_, rfl⟩
  have z0 : (z 0).val = t.val / 8 := by subst hz; have := (y 0).isLt; blk_simp [idx t]
  have z1 : (z 1).val = t.val % 4 * 512 + x1.val := by subst hz; blk_simp [idx t]; omega
  have z2 : (z 2).val = t.val / 4 % 2 * 256 + o * 128 + x2.val := by subst hz; blk_simp [idx t]; omega
  refine Eq.trans ?_ (congrArg (REF m c) hz)
  clear hz
  idx_vars z
  rw [REF, ref_apply _ _ _ _ _ _ _ hf]
  simp only [hq, hkc, hkl, hvc, hvl, lam_ref, gain_ref, rowScore, rowValue]
  blk_point [iblk, V, idx t]

/-- What the body leaves in the output window's buffer at grid point `t` is the reference at the window's block. -/
theorem point (c : Dev nD) (t : Fin cfg0.N) (hf : FIN m c) (y) :
    out0_7 (iblk m c 0 t) (iblk m c 1 t) (iblk m c 2 t) (iblk m c 3 t) (iblk m c 4 t) (iblk m c 5 t) (iblk m c 6 t) y
      = REF m c (((cfg0.win 7).blk t).view.emb y) := by
  canon_tiles x h
  · exact tile_ref m c t hf 1 (by omega) x y (View.ld (iblk m c 0 t) r0_2) (View.ld (iblk m c 1 t) r0_5) (View.ld (iblk m c 3 t) r0_5) (View.ld (iblk m c 2 t) r0_6) (View.ld (iblk m c 4 t) r0_6)
      (fun d => View.ld_unit_apply_of _ _ _ _ _ _ fun a => by fin_cases a <;> simp)
      (fun r d => View.ld_unit_apply_of _ _ _ _ _ _ fun a => by fin_cases a <;> simp) (fun r d => View.ld_unit_apply_of _ _ _ _ _ _ fun a => by fin_cases a <;> simp)
      (fun r d => View.ld_unit_apply_of _ _ _ _ _ _ fun a => by fin_cases a <;> simp) (fun r d => View.ld_unit_apply_of _ _ _ _ _ _ fun a => by fin_cases a <;> simp)
      (by omega) (by omega)
  · exact tile_ref m c t hf 0 (by omega) x y (View.ld (iblk m c 0 t) r0_1) (View.ld (iblk m c 1 t) r0_3) (View.ld (iblk m c 3 t) r0_3) (View.ld (iblk m c 2 t) r0_4) (View.ld (iblk m c 4 t) r0_4)
      (fun d => View.ld_unit_apply_of _ _ _ _ _ _ fun a => by fin_cases a <;> simp)
      (fun r d => View.ld_unit_apply_of _ _ _ _ _ _ fun a => by fin_cases a <;> simp) (fun r d => View.ld_unit_apply_of _ _ _ _ _ _ fun a => by fin_cases a <;> simp)
      (fun r d => View.ld_unit_apply_of _ _ _ _ _ _ fun a => by fin_cases a <;> simp) (fun r d => View.ld_unit_apply_of _ _ _ _ _ _ fun a => by fin_cases a <;> simp)
      (by omega) (by omega)

/-- The kernel's result array is the reference's. -/
theorem final (c : Dev nD) (hf : FIN m c) : (dats m 0 c).arrAt 7 (cfgs 0).N = REF m c := by
  refine (dats m 0 c).arrAt_eq_of_covers 7 _ (by decide +kernel) fun t _ y => ?_
  blk_simp; rw [after0_7]
  exact point m c t hf y

end Cert.DiffIdeal.Value

end
-- ==== Proof.DiffClaim.lean ====
module

public import proofs.«01_k».proof.Proof.DiffValue
public import proofs.«01_k».proof.Proof.GqaClaim
public import proofs.«01_k».proof.Defs
public import Idealize.ShloMosaic.Lib.ReduceAll
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DiffClaim

open Cert.GqaClaim (finite_of_abs)

/-- The facts that the precondition's operations take. -/
instance preFacts : Cert.Pre_finite_diff.Facts where
  slices_S16x2048x2304_S16x2048x1536_0_0_768 := by decide
  bitsLt_bf16_f32 := by decide
  slices_S16x256x2304_S16x256x1024_0_0_1280 := by decide
  concatenates_S64_S64_S64_S64_S256_d0 := by decide
  bcast_S_S16x2048x1536 := by decide
  reducesTo_S16x2048x1536_S_d0_1_2 := by decide
  h_S_ := by decide
  bcast_S_S16x256x1024 := by decide
  reducesTo_S16x256x1024_S_d0_1_2 := by decide
  bcast_S_S256 := by decide
  reducesTo_S256_S_d0 := by decide

/-- The precondition says that mixer B's queries, keys and values and the vectors of the second map's weight are finite. -/
theorem finite_of_pre (p : FVec Ideal Cert.Pre_finite_diff.S16x2048x2304 .bf16) (pc : FVec Ideal Cert.Pre_finite_diff.S16x256x2304 .bf16)
    (a b c d : FVec Ideal Cert.Pre_finite_diff.S64 .f32) (g : FVec Ideal Cert.Pre_finite_diff.S128 .f32)
    (h : Cert.Pre_finite_diff.fn (F := Ideal) p pc a b c d g = fun _ => 1#1) : Cert.DiffRefIdeal.Read.Finite p pc a b c d := by
  have h0 := congrFun h (fun a => a.elim0)
  unfold Cert.Pre_finite_diff.fn Cert.Pre_finite_diff.fn_part1 at h0
  obtain ⟨hab, hc⟩ : _ ∧ _ := IntOp.andi_eq_one.mp h0
  obtain ⟨ha, hb⟩ : _ ∧ _ := IntOp.andi_eq_one.mp hab
  have hv (l : Fin 256) := Host.reduce_andi_all _ _ _ _ _ hc (ix1 l)
  refine ⟨fun i0 i1 l => ?_, fun i0 i1 l => ?_, fun e => ?_, fun e => ?_, fun e => ?_, fun e => ?_⟩
  · have := Host.reduce_andi_all _ _ _ _ _ ha (ix3 i0 i1 l)
    pointwise at this
    exact finite_of_abs _ this
  · have := Host.reduce_andi_all _ _ _ _ _ hb (ix3 i0 i1 l)
    pointwise at this
    exact finite_of_abs _ this
  · have := hv ⟨e.val, by omega⟩
    pointwise at this
    exact finite_of_abs _ this
  · have := hv ⟨64 + e.val, by omega⟩
    pointwise at this
    exact finite_of_abs _ this
  · have := hv ⟨128 + e.val, by omega⟩
    pointwise at this
    simp only [show ¬ 128 + e.val < 64 by omega, show 128 + e.val - 64 - 64 = e.val by omega, show ¬ 128 + e.val - 64 < 64 by omega,
      e.isLt, dite_true, dite_false] at this
    exact finite_of_abs _ this
  · have := hv ⟨192 + e.val, by omega⟩
    pointwise at this
    simp only [show ¬ 192 + e.val < 64 by omega, show 192 + e.val - 64 - 64 - 64 = e.val by omega, show ¬ 192 + e.val - 64 < 64 by omega,
      show ¬ 192 + e.val - 64 - 64 < 64 by omega, dite_false] at this
    exact finite_of_abs _ this

/-- The reference runs to its end, its arguments unchanged and no counter raised. -/
theorem ref_frame : Cert.quiescent_DiffRefIdeal (hDiffRefIdeal := Cert.DiffRefIdeal.Gen.facts) := by
  intro m g hpre
  hlo_run
  · exact fun c => by simp only [and_self]
  · exact sem_eq_zero_of_no_sems (show Cert.DiffRefIdeal.sig.nSem + Cert.DiffRefIdeal.sig.nDmaSem = 0 by decide) _

set_option maxHeartbeats 4000000 in
/-- The kernel call and the reference, run on the same arguments, finite where the precondition says, end with the same result. -/
theorem algebraic : Cert.algebraic_DiffIdeal_DiffRefIdeal_pre_finite_diff (hDiffIdeal := Cert.DiffIdeal.Gen.facts)
    (hDiffRefIdeal := Cert.DiffRefIdeal.Gen.facts) (hPre_finite_diff := preFacts) := by
  pair_intro
  · run_from Cert.DiffIdeal.Gen.run_main m g
    all_goals
      simp only [Cert.DiffIdeal.Gen.hostOps0, Cert.DiffIdeal.Gen.hostOps0_1, Cert.DiffIdeal.Gen.hostOps0_2, Cert.DiffIdeal.Gen.hostOps0_3,
        Cert.DiffIdeal.Gen.hostOps0_4, Cert.DiffIdeal.Gen.hostOps0_5, Cert.DiffIdeal.Gen.hostOps0_6, Cert.DiffIdeal.Gen.hostOps0_7,
        Cert.DiffIdeal.Gen.hostOps0_8, List.flatten_cons, List.flatten_nil, List.append_nil, List.cons_append, List.nil_append]
      after_results_simp
  · hlo_run
    exact (Cert.DiffIdeal.Value.final m c (finite_of_pre _ _ _ _ _ _ _ (hpre c))).symm

end Cert.DiffClaim

end
-- ==== Proof.CtxStage.lean ====
module

public import proofs.«01_k».proof.Proof.Row
public import proofs.«01_k».proof.Proof.Gen.CtxAbRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CtxStage

open Cert.CtxAbRefIdeal Cert.CtxAbRefIdeal.Gen

/-- Root-mean-square normalisation over the last axis, times a gain. -/
def norm (y : FVec Ideal S1x4096x1024 .f32) (g : FVec Ideal S1x1024 .f32) : FVec Ideal S1x4096x1024 .f32 :=
  mulf
    (mulf y (broadcastInDim S1x4096x1024 ![0, 1, 2] bcast_S1x4096x1_S1x4096x1024_0_1_2 (Host.rsqrt (addf
      (Host.divf
        (broadcastInDim S1x4096x1 ![0, 1] bcast_S1x4096_S1x4096x1_0_1
          (Host.reduceAdd (mulf y y) (constant S_ .f32 0x00000000#32) reducesTo_S1x4096x1024_S1x4096_d2 h_S_))
        (broadcastInDim S1x4096x1 ![] bcast_S_S1x4096x1 (constant S_ .f32 0x44800000#32)))
      (broadcastInDim S1x4096x1 ![] bcast_S_S1x4096x1 (constant S_ .f32 0x358637BD#32))))))
    (broadcastInDim S1x4096x1024 ![0, 1, 2] bcast_S1x1x1024_S1x4096x1024_0_1_2
      (broadcastInDim S1x1x1024 ![1, 2] bcast_S1x1024_S1x1x1024_1_2 g))

/-- A modulation row at every position. -/
def spread (r : FVec Ideal S1x1x1024 .f32) : FVec Ideal S1x4096x1024 .f32 :=
  broadcastInDim S1x4096x1024 ![0, 1, 2] bcast_S1x1x1024_S1x4096x1024_0_1_2 r

/-- A constant row. -/
def rows (w : BitVec 32) : FVec Ideal S1x1x1024 .f32 :=
  broadcastInDim S1x1x1024 ![] bcast_S_S1x1x1024 (constant S_ .f32 w)

/-- The modulated norm. -/
def hidden (x : FVec Ideal S1x4096x1024 .f32) (g : FVec Ideal S1x1024 .f32) (sc sh : FVec Ideal S1x1x1024 .f32) :
    FVec Ideal S1x4096x1024 .f32 :=
  addf (mulf (norm x g) (spread (addf (rows 0x3F800000#32) sc))) (spread sh)

/-- The logistic function. -/
def sigmoid (g : FVec Ideal S1x4096x2816 .f32) : FVec Ideal S1x4096x2816 .f32 :=
  Host.divf (broadcastInDim S1x4096x2816 ![] bcast_S_S1x4096x2816 (constant S_ .f32 0x3F800000#32))
    (addf (broadcastInDim S1x4096x2816 ![] bcast_S_S1x4096x2816 (constant S_ .f32 0x3F800000#32)) (Host.exp (Host.negf g)))

/-- One of the two up projections. -/
def up (h : FVec Ideal S1x4096x1024 .f32) (w : FVec Ideal S1x1x1024x2816 .f32) : FVec Ideal S1x4096x2816 .f32 :=
  Host.dotGeneral dot_S1x4096x1024_S1024x2816_S1x4096x2816_2_0_01_1_n_n none h (shapeCast _ w shapeCasts_S1x1x1024x2816_S1024x2816)

/-- The gated feed-forward map. -/
def ffn (h : FVec Ideal S1x4096x1024 .f32) (wg wu : FVec Ideal S1x1x1024x2816 .f32) (wd : FVec Ideal S1x1x2816x1024 .f32) :
    FVec Ideal S1x4096x1024 .f32 :=
  Host.dotGeneral dot_S1x4096x2816_S2816x1024_S1x4096x1024_2_0_01_1_n_n none
    (mulf (mulf (up h wg) (sigmoid (up h wg))) (up h wu)) (shapeCast _ wd shapeCasts_S1x1x2816x1024_S2816x1024)

/-- The feed-forward sublayer: the input plus half the gate times the normalised feed-forward map of the modulated norm. -/
def sublayer (x : FVec Ideal S1x4096x1024 .f32) (sh sc gt : FVec Ideal S1x1x1024 .f32) (gpre gpost : FVec Ideal S1x1024 .f32)
    (wg wu : FVec Ideal S1x1x1024x2816 .f32) (wd : FVec Ideal S1x1x2816x1024 .f32) : FVec Ideal S1x4096x1024 .f32 :=
  addf x (mulf (spread (mulf (rows 0x3F000000#32) gt)) (norm (ffn (hidden x gpre sc sh) wg wu wd) gpost))

/-- The mixer's residual: the input plus the gate times the normalised `y`. -/
def mixed (x y : FVec Ideal S1x4096x1024 .f32) (gt : FVec Ideal S1x1x1024 .f32) (gpost : FVec Ideal S1x1024 .f32) :
    FVec Ideal S1x4096x1024 .f32 :=
  addf x (mulf (spread gt) (norm y gpost))

/-- The normalisation at one position. -/
theorem norm_apply (y : FVec Ideal S1x4096x1024 .f32) (g : FVec Ideal S1x1024 .f32) (i0 : Fin 1) (i1 : Fin 4096) (i2 : Fin 1024) :
    norm y g (ix3 i0 i1 i2) = y (ix3 i0 i1 i2) * Row.rinv (fun j => y (ix3 i0 i1 j)) * g (ix2 0 i2) := by
  obtain rfl : i0 = 0 := Subsingleton.elim _ _
  unfold norm
  pointwise
  rfl

/-- The modulated norm, row by row. -/
theorem hidden_apply (x : FVec Ideal S1x4096x1024 .f32) (g : FVec Ideal S1x1024 .f32) (sc sh : FVec Ideal S1x1x1024 .f32)
    (i0 : Fin 1) (i1 : Fin 4096) (i2 : Fin 1024) :
    hidden x g sc sh (ix3 i0 i1 i2)
      = Row.hidden (fun j => x (ix3 i0 i1 j)) (fun j => g (ix2 0 j)) (fun j => sc (ix3 0 0 j)) (fun j => sh (ix3 0 0 j)) i2 := by
  obtain rfl : i0 = 0 := Subsingleton.elim _ _
  pointwise [hidden, spread, rows, norm_apply]
  rfl

/-- The gated feed-forward map, row by row. -/
theorem ffn_apply (h : FVec Ideal S1x4096x1024 .f32) (wg wu : FVec Ideal S1x1x1024x2816 .f32) (wd : FVec Ideal S1x1x2816x1024 .f32)
    (i0 : Fin 1) (i1 : Fin 4096) (i2 : Fin 1024) :
    ffn h wg wu wd (ix3 i0 i1 i2)
      = Row.ffn (fun j => h (ix3 i0 i1 j)) (fun k f => wg (ix4 0 0 k f)) (fun k f => wu (ix4 0 0 k f)) (fun f j => wd (ix4 0 0 f j)) i2 := by
  obtain rfl : i0 = 0 := Subsingleton.elim _ _
  pointwise [ffn, up, sigmoid]
  rfl

/-- The sublayer, row by row. -/
theorem sublayer_apply (x : FVec Ideal S1x4096x1024 .f32) (sh sc gt : FVec Ideal S1x1x1024 .f32) (gpre gpost : FVec Ideal S1x1024 .f32)
    (wg wu : FVec Ideal S1x1x1024x2816 .f32) (wd : FVec Ideal S1x1x2816x1024 .f32) (i0 : Fin 1) (i1 : Fin 4096) (i2 : Fin 1024) :
    sublayer x sh sc gt gpre gpost wg wu wd (ix3 i0 i1 i2)
      = Row.sublayer (fun j => x (ix3 i0 i1 j)) (fun j => sh (ix3 0 0 j)) (fun j => sc (ix3 0 0 j)) (fun j => gt (ix3 0 0 j))
          (fun j => gpre (ix2 0 j)) (fun j => gpost (ix2 0 j)) (fun k f => wg (ix4 0 0 k f)) (fun k f => wu (ix4 0 0 k f))
          (fun f j => wd (ix4 0 0 f j)) i2 := by
  obtain rfl : i0 = 0 := Subsingleton.elim _ _
  pointwise [sublayer, spread, rows, norm_apply]
  simp only [ffn_apply, hidden_apply]
  rfl

/-- The mixer's residual, row by row. -/
theorem mixed_apply (x y : FVec Ideal S1x4096x1024 .f32) (gt : FVec Ideal S1x1x1024 .f32) (gpost : FVec Ideal S1x1024 .f32)
    (i0 : Fin 1) (i1 : Fin 4096) (i2 : Fin 1024) :
    mixed x y gt gpost (ix3 i0 i1 i2)
      = Row.mixed (fun j => x (ix3 i0 i1 j)) (fun j => gt (ix3 0 0 j)) (fun j => gpost (ix2 0 j)) (fun j => y (ix3 i0 i1 j)) i2 := by
  obtain rfl : i0 = 0 := Subsingleton.elim _ _
  pointwise [mixed, spread, norm_apply]
  rfl

end Cert.CtxStage

end
-- ==== Proof.CtxPreRef.lean ====
module

public import proofs.«01_k».proof.Proof.CtxStage
public import proofs.«01_k».proof.Proof.Gen.CtxPreRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CtxPreRefIdeal.Read

open Cert.CtxPreRefIdeal Cert.CtxPreRefIdeal.Gen

variable (x0 : FVec Ideal S1x4096x1024 .f32) (x1 : FVec Ideal S24x9x1024 .f32) (x2 x3 : FVec Ideal S3x1024 .f32)
  (x4 x5 : FVec Ideal S2x2x1024x2816 .f32) (x6 : FVec Ideal S2x2x2816x1024 .f32)

/-- The modulation of the context tokens. -/
def ctxMod (x : FVec Ideal S24x9x1024 .f32) : FVec Ideal S1x9x1024 .f32 :=
  extractStridedSlice S1x9x1024 ![16, 0, 0] x slices_S24x9x1024_S1x9x1024_16_0_0

/-- The reference's result, as a function of its arguments. -/
def result : FVec Ideal S1x4096x1024 .f32 :=
  CtxStage.sublayer x0
    (extractStridedSlice S1x1x1024 ![0, 0, 0] (ctxMod x1) slices_S1x9x1024_S1x1x1024_0_0_0)
    (extractStridedSlice S1x1x1024 ![0, 1, 0] (ctxMod x1) slices_S1x9x1024_S1x1x1024_0_1_0)
    (extractStridedSlice S1x1x1024 ![0, 2, 0] (ctxMod x1) slices_S1x9x1024_S1x1x1024_0_2_0)
    (extractStridedSlice S1x1024 ![0, 0] x2 slices_S3x1024_S1x1024_0_0)
    (extractStridedSlice S1x1024 ![0, 0] x3 slices_S3x1024_S1x1024_0_0)
    (extractStridedSlice S1x1x1024x2816 ![0, 0, 0, 0] x4 slices_S2x2x1024x2816_S1x1x1024x2816_0_0_0_0)
    (extractStridedSlice S1x1x1024x2816 ![0, 0, 0, 0] x5 slices_S2x2x1024x2816_S1x1x1024x2816_0_0_0_0)
    (extractStridedSlice S1x1x2816x1024 ![0, 0, 0, 0] x6 slices_S2x2x2816x1024_S1x1x2816x1024_0_0_0_0)

/-- The reference's result, row by row. -/
theorem ref_apply (i0 : Fin 1) (i1 : Fin 4096) (i2 : Fin 1024) :
    result x0 x1 x2 x3 x4 x5 x6 (ix3 i0 i1 i2)
      = Row.sublayer (fun j => x0 (ix3 i0 i1 j))
          (fun j => x1 (ix3 16 0 j)) (fun j => x1 (ix3 16 1 j))
          (fun j => x1 (ix3 16 2 j)) (fun j => x2 (ix2 0 j)) (fun j => x3 (ix2 0 j))
          (fun k f => x4 (ix4 0 0 k f)) (fun k f => x5 (ix4 0 0 k f)) (fun f j => x6 (ix4 0 0 f j)) i2 := by
  obtain rfl : i0 = 0 := Subsingleton.elim _ _
  rw [result, CtxStage.sublayer_apply]
  pointwise [ctxMod]

end Cert.CtxPreRefIdeal.Read

end
-- ==== Proof.CtxPreValue.lean ====
module

public import proofs.«01_k».proof.Proof.FfnPreTile
public import proofs.«01_k».proof.Proof.CtxPreRef
public import proofs.«01_k».proof.Proof.Gen.CtxPreIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CtxPreIdeal.Value

open Cert.CtxPreIdeal Cert.CtxPreIdeal.Gen
open Cert.CtxPreRefIdeal.Read (result)

variable (m : (ℓ : Loc nD τ sig) → Buf (Elt Ideal) ℓ)

/-- Every window's block index at every grid point. -/
theorem idx : ∀ t : Fin cfg0.N, win0_0.index t = ![0, t.val, 0]
    ∧ win0_1.index t = ![16, 0, 0]
    ∧ win0_2.index t = ![0, 0]
    ∧ win0_3.index t = ![0, 0]
    ∧ win0_4.index t = ![0, 0, 0, 0]
    ∧ win0_5.index t = ![0, 0, 0, 0]
    ∧ win0_6.index t = ![0, 0, 0, 0]
    ∧ win0_7.index t = ![0, t.val, 0] :=
  (by decide +kernel : ∀ t : Fin grid0.N, _)

/-- The reference's term on the kernel's launch arguments. -/
abbrev REF (c : Dev nD) : FVec Ideal Cert.CtxPreRefIdeal.S1x4096x1024 .f32 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The result of the slab starting at row `o` of the block at grid point `t`, entry by entry, is the reference's entry. -/
theorem slab_ref (c : Dev nD) (t : Fin cfg0.N) (o : Nat) (ho : o ≤ 768) (x : S1x256x1024.Idx) (y : S1x1024x1024.Idx)
    (X : FVec Ideal S256x1024 .f32)
    (hX : ∀ j : Fin 1024, X (ix2 (x 1) j) = iblk m c 0 t (ix3 0 ⟨o + (x 1).val, by have : (x 1).val < 256 := (x 1).isLt; omega⟩ j))
    (h1 : (y 1).val = o + (x 1).val) (h2 : (y 2).val = (x 2).val) :
    Cert.FfnPreIdeal.Value.slab X (View.ld (iblk m c 1 t) r0_4) (View.ld (iblk m c 1 t) r0_5) (View.ld (iblk m c 1 t) r0_9) (View.ld (iblk m c 2 t) r0_6)
        (View.ld (iblk m c 3 t) r0_6) (View.ld (iblk m c 4 t) r0_7) (View.ld (iblk m c 5 t) r0_7) (View.ld (iblk m c 6 t) r0_8) x
      = REF m c (((cfg0.win 7).blk t).view.emb y) := by
  idx_vars x
  rw [Cert.FfnPreIdeal.Value.slab_apply]
  obtain ⟨z, hz⟩ : ∃ z : Cert.CtxPreRefIdeal.S1x4096x1024.Idx, z = ((cfg0.win 7).blk t).view.emb y := ⟨_, rfl⟩
  have z0 : (z 0).val = 0 := by have : (z 0).val < 1 := (z 0).isLt; omega
  have z1 : (z 1).val = t.val * 1024 + o + x1.val := by subst hz; blk_simp [idx t]; omega
  have z2 : (z 2).val = x2.val := by subst hz; blk_simp [idx t]; omega
  refine Eq.trans ?_ (congrArg (REF m c) hz)
  clear hz
  idx_vars z
  rw [REF, Cert.CtxPreRefIdeal.Read.ref_apply]
  simp only [hX]
  blk_point [iblk, V, idx t]
  exact Fin.ext z2.symm

/-- What the body leaves in the output window's buffer at grid point `t` is the reference at the window's block. -/
theorem point (c : Dev nD) (t : Fin cfg0.N) (y) :
    out0_7 (iblk m c 0 t) (iblk m c 1 t) (iblk m c 2 t) (iblk m c 3 t) (iblk m c 4 t) (iblk m c 5 t) (iblk m c 6 t) y
      = REF m c (((cfg0.win 7).blk t).view.emb y) := by
  canon_tiles x h
  · exact slab_ref m c t 768 (by omega) x y (k0_pay5 (View.ld (iblk m c 0 t) r0_3)) (fun j => by open_payloads; pointwise) h1 h2
  · exact slab_ref m c t 512 (by omega) x y (k0_pay5 (View.ld (iblk m c 0 t) r0_2)) (fun j => by open_payloads; pointwise) h1 h2
  · exact slab_ref m c t 256 (by omega) x y (k0_pay5 (View.ld (iblk m c 0 t) r0_1)) (fun j => by open_payloads; pointwise) h1 h2
  · exact slab_ref m c t 0 (by omega) x y (k0_pay5 (View.ld (iblk m c 0 t) r0_0)) (fun j => by open_payloads; pointwise) (by omega) h2

/-- The kernel's result array is the reference's. -/
theorem final (c : Dev nD) : (dats m 0 c).arrAt 7 (cfgs 0).N = REF m c := by
  refine (dats m 0 c).arrAt_eq_of_covers 7 _ (by decide +kernel) fun t hf y => ?_
  blk_simp; rw [after0_7]
  exact point m c t y

end Cert.CtxPreIdeal.Value

end
-- ==== Proof.CtxPreClaim.lean ====
module

public import proofs.«01_k».proof.Proof.CtxPreValue
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CtxPreClaim

/-- The reference runs to its end, its arguments unchanged and no counter raised. -/
theorem ref_frame : Cert.quiescent_CtxPreRefIdeal (hCtxPreRefIdeal := Cert.CtxPreRefIdeal.Gen.facts) := by
  intro m g hpre
  hlo_run
  · exact fun c => by simp only [and_self]
  · exact sem_eq_zero_of_no_sems (show Cert.CtxPreRefIdeal.sig.nSem + Cert.CtxPreRefIdeal.sig.nDmaSem = 0 by decide) _

set_option maxHeartbeats 4000000 in
/-- The kernel call and the reference, run on the same arguments, end with the same result. -/
theorem algebraic : Cert.algebraic_CtxPreIdeal_CtxPreRefIdeal (hCtxPreIdeal := Cert.CtxPreIdeal.Gen.facts) (hCtxPreRefIdeal := Cert.CtxPreRefIdeal.Gen.facts) := by
  pair_intro
  · run_from Cert.CtxPreIdeal.Gen.run_main m g
  · hlo_run
    exact (Cert.CtxPreIdeal.Value.final m c).symm

end Cert.CtxPreClaim

end
-- ==== Proof.CtxAbRef.lean ====
module

public import proofs.«01_k».proof.Proof.CtxStage
public import proofs.«01_k».proof.Proof.Gen.CtxAbRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CtxAbRefIdeal.Read

open Cert.CtxAbRefIdeal Cert.CtxAbRefIdeal.Gen

variable (x0 x1 : FVec Ideal S1x4096x512 .bf16) (x2 : FVec Ideal S1x4096x1024 .f32) (x3 : FVec Ideal S24x9x1024 .f32) (x4 x5 : FVec Ideal S3x1024 .f32)
  (x6 : FVec Ideal S1024x1024 .f32) (x7 x8 : FVec Ideal S2x2x1024x2816 .f32) (x9 : FVec Ideal S2x2x2816x1024 .f32)

/-- The modulation of the context tokens. -/
def ctxMod (x : FVec Ideal S24x9x1024 .f32) : FVec Ideal S1x9x1024 .f32 :=
  extractStridedSlice S1x9x1024 ![16, 0, 0] x slices_S24x9x1024_S1x9x1024_16_0_0

/-- The reference's output projection of the two mixers' outputs side by side. -/
def y : FVec Ideal S1x4096x1024 .f32 :=
  Host.dotGeneral dot_S1x4096x1024_S1024x1024_S1x4096x1024_2_0_01_1_n_n none
    (concatenate S1x4096x1024 2 [⟨S1x4096x512, extf .f32 x0 bitsLt_bf16_f32⟩, ⟨S1x4096x512, extf .f32 x1 bitsLt_bf16_f32⟩]
      concatenates_S1x4096x512_S1x4096x512_S1x4096x1024_d2) x6

/-- The reference's array after the mixer's residual. -/
def afterMixer : FVec Ideal S1x4096x1024 .f32 :=
  CtxStage.mixed x2 (y x0 x1 x6) (extractStridedSlice S1x1x1024 ![0, 5, 0] (ctxMod x3) slices_S1x9x1024_S1x1x1024_0_5_0)
    (extractStridedSlice S1x1024 ![1, 0] x5 slices_S3x1024_S1x1024_1_0)

/-- The reference's result, as a function of its arguments. -/
def result : FVec Ideal S1x4096x1024 .f32 :=
  CtxStage.sublayer (afterMixer x0 x1 x2 x3 x5 x6)
    (extractStridedSlice S1x1x1024 ![0, 6, 0] (ctxMod x3) slices_S1x9x1024_S1x1x1024_0_6_0)
    (extractStridedSlice S1x1x1024 ![0, 7, 0] (ctxMod x3) slices_S1x9x1024_S1x1x1024_0_7_0)
    (extractStridedSlice S1x1x1024 ![0, 8, 0] (ctxMod x3) slices_S1x9x1024_S1x1x1024_0_8_0)
    (extractStridedSlice S1x1024 ![2, 0] x4 slices_S3x1024_S1x1024_2_0)
    (extractStridedSlice S1x1024 ![2, 0] x5 slices_S3x1024_S1x1024_2_0)
    (extractStridedSlice S1x1x1024x2816 ![0, 1, 0, 0] x7 slices_S2x2x1024x2816_S1x1x1024x2816_0_1_0_0)
    (extractStridedSlice S1x1x1024x2816 ![0, 1, 0, 0] x8 slices_S2x2x1024x2816_S1x1x1024x2816_0_1_0_0)
    (extractStridedSlice S1x1x2816x1024 ![0, 1, 0, 0] x9 slices_S2x2x2816x1024_S1x1x2816x1024_0_1_0_0)

/-- The output projection, row by row. -/
theorem y_apply (i0 : Fin 1) (i1 : Fin 4096) (i2 : Fin 1024) :
    y x0 x1 x6 (ix3 i0 i1 i2)
      = Row.proj2 (fun k => x0 (ix3 i0 i1 k)) (fun k => x1 (ix3 i0 i1 k)) (fun k c => x6 (ix2 k c)) i2 := by
  obtain rfl : i0 = 0 := Subsingleton.elim _ _
  pointwise [y]
  rfl

/-- The reference's row after the mixer's residual. -/
theorem mixed_apply (i0 : Fin 1) (i1 : Fin 4096) (i2 : Fin 1024) :
    afterMixer x0 x1 x2 x3 x5 x6 (ix3 i0 i1 i2)
      = Row.mixed (fun j => x2 (ix3 i0 i1 j)) (fun j => x3 (ix3 16 5 j)) (fun j => x5 (ix2 1 j))
          (Row.proj2 (fun k => x0 (ix3 i0 i1 k)) (fun k => x1 (ix3 i0 i1 k)) (fun k c => x6 (ix2 k c))) i2 := by
  obtain rfl : i0 = 0 := Subsingleton.elim _ _
  rw [afterMixer, CtxStage.mixed_apply]
  simp only [y_apply]
  pointwise [ctxMod]

/-- The reference's result, row by row. -/
theorem ref_apply (i0 : Fin 1) (i1 : Fin 4096) (i2 : Fin 1024) :
    result x0 x1 x2 x3 x4 x5 x6 x7 x8 x9 (ix3 i0 i1 i2)
      = Row.sublayer (Row.mixed (fun j => x2 (ix3 i0 i1 j)) (fun j => x3 (ix3 16 5 j)) (fun j => x5 (ix2 1 j))
          (Row.proj2 (fun k => x0 (ix3 i0 i1 k)) (fun k => x1 (ix3 i0 i1 k)) (fun k c => x6 (ix2 k c))))
          (fun j => x3 (ix3 16 6 j)) (fun j => x3 (ix3 16 7 j))
          (fun j => x3 (ix3 16 8 j)) (fun j => x4 (ix2 2 j)) (fun j => x5 (ix2 2 j))
          (fun k f => x7 (ix4 0 1 k f)) (fun k f => x8 (ix4 0 1 k f)) (fun f j => x9 (ix4 0 1 f j)) i2 := by
  obtain rfl : i0 = 0 := Subsingleton.elim _ _
  rw [result, CtxStage.sublayer_apply]
  simp only [mixed_apply]
  pointwise [ctxMod]

end Cert.CtxAbRefIdeal.Read

end
-- ==== Proof.CtxAbValue.lean ====
module

public import proofs.«01_k».proof.Proof.FfnPreTile
public import proofs.«01_k».proof.Proof.FfnAbTile
public import proofs.«01_k».proof.Proof.CtxAbRef
public import proofs.«01_k».proof.Proof.Gen.CtxAbIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CtxAbIdeal.Value

open Cert.CtxAbIdeal Cert.CtxAbIdeal.Gen
open Cert.CtxAbRefIdeal.Read (result)

variable (m : (ℓ : Loc nD τ sig) → Buf (Elt Ideal) ℓ)

/-- Every window's block index at every grid point. -/
theorem idx : ∀ t : Fin cfg0.N, win0_0.index t = ![0, t.val, 0]
    ∧ win0_1.index t = ![0, t.val, 0]
    ∧ win0_2.index t = ![0, t.val, 0]
    ∧ win0_3.index t = ![16, 0, 0]
    ∧ win0_4.index t = ![0, 0]
    ∧ win0_5.index t = ![0, 0]
    ∧ win0_6.index t = ![0, 0]
    ∧ win0_7.index t = ![0, 1, 0, 0]
    ∧ win0_8.index t = ![0, 1, 0, 0]
    ∧ win0_9.index t = ![0, 1, 0, 0]
    ∧ win0_10.index t = ![0, t.val, 0] :=
  (by decide +kernel : ∀ t : Fin grid0.N, _)

/-- The reference's term on the kernel's launch arguments. -/
abbrev REF (c : Dev nD) : FVec Ideal Cert.CtxAbRefIdeal.S1x4096x1024 .f32 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- A row of the block at grid point `t` after the mixer's residual. -/
abbrev mrow (c : Dev nD) (t : Fin cfg0.N) (q : Fin 1024) : Fin 1024 → EReal :=
  Row.mixed (fun j => iblk m c 2 t (ix3 0 q j)) (fun j => iblk m c 3 t (ix3 0 5 j)) (fun j => iblk m c 5 t (ix2 1 j))
    (Row.proj2 (fun k => iblk m c 0 t (ix3 0 q k)) (fun k => iblk m c 1 t (ix3 0 q k)) (fun k c' => iblk m c 6 t (ix2 k c')))

/-- The result of the slab starting at row `o` of the block at grid point `t`, entry by entry, is the reference's entry. -/
theorem slab_ref (c : Dev nD) (t : Fin cfg0.N) (o : Nat) (ho : o ≤ 768) (x : S1x256x1024.Idx) (y : S1x1024x1024.Idx)
    (X : FVec Ideal S256x1024 .f32)
    (hX : ∀ j : Fin 1024, X (ix2 (x 1) j) = mrow m c t ⟨o + (x 1).val, by have : (x 1).val < 256 := (x 1).isLt; omega⟩ j)
    (h1 : (y 1).val = o + (x 1).val) (h2 : (y 2).val = (x 2).val) :
    Cert.FfnPreIdeal.Value.slab X (View.ld (iblk m c 3 t) r0_12) (View.ld (iblk m c 3 t) r0_13) (View.ld (iblk m c 3 t) r0_17) (View.ld (iblk m c 4 t) r0_14)
        (View.ld (iblk m c 5 t) r0_14) (View.ld (iblk m c 7 t) r0_15) (View.ld (iblk m c 8 t) r0_15) (View.ld (iblk m c 9 t) r0_16) x
      = REF m c (((cfg0.win 10).blk t).view.emb y) := by
  idx_vars x
  rw [Cert.FfnPreIdeal.Value.slab_apply]
  obtain ⟨z, hz⟩ : ∃ z : Cert.CtxAbRefIdeal.S1x4096x1024.Idx, z = ((cfg0.win 10).blk t).view.emb y := ⟨_, rfl⟩
  have z0 : (z 0).val = 0 := by have : (z 0).val < 1 := (z 0).isLt; omega
  have z1 : (z 1).val = t.val * 1024 + o + x1.val := by subst hz; blk_simp [idx t]; omega
  have z2 : (z 2).val = x2.val := by subst hz; blk_simp [idx t]; omega
  refine Eq.trans ?_ (congrArg (REF m c) hz)
  clear hz
  idx_vars z
  rw [REF, Cert.CtxAbRefIdeal.Read.ref_apply]
  simp only [hX, mrow]
  blk_point [iblk, V, idx t]
  exact Fin.ext z2.symm

/-- A slab after the mixer's residual, row by row, is the block's row after it. -/
theorem mixed_ref (c : Dev nD) (t : Fin cfg0.N) (o : Nat) (ho : o ≤ 768) (r : Fin 256) (X : FVec Ideal S1x256x1024 .f32) (A B : FVec Ideal S1x256x512 .bf16)
    (hX : ∀ j : Fin 1024, X (ix3 0 r j) = iblk m c 2 t (ix3 0 ⟨o + r.val, by omega⟩ j))
    (hA : ∀ j : Fin 512, A (ix3 0 r j) = iblk m c 0 t (ix3 0 ⟨o + r.val, by omega⟩ j))
    (hB : ∀ j : Fin 512, B (ix3 0 r j) = iblk m c 1 t (ix3 0 ⟨o + r.val, by omega⟩ j)) (j : Fin 1024) :
    Cert.FfnAbIdeal.Value.mixedSlab X A B (View.ld (iblk m c 6 t) r0_5) (View.ld (iblk m c 6 t) r0_6) (View.ld (iblk m c 3 t) r0_7) (View.ld (iblk m c 5 t) r0_8) (ix2 r j) = mrow m c t ⟨o + r.val, by omega⟩ j := by
  rw [Cert.FfnAbIdeal.Value.mixedSlab_apply]
  simp only [hX, hA, hB]
  pointwise
  rfl

/-- What the body leaves in the output window's buffer at grid point `t` is the reference at the window's block. -/
theorem point (c : Dev nD) (t : Fin cfg0.N) (y) :
    out0_10 (iblk m c 0 t) (iblk m c 1 t) (iblk m c 2 t) (iblk m c 3 t) (iblk m c 4 t) (iblk m c 5 t) (iblk m c 6 t) (iblk m c 7 t) (iblk m c 8 t) (iblk m c 9 t) y
      = REF m c (((cfg0.win 10).blk t).view.emb y) := by
  canon_tiles x h
  · exact slab_ref m c t 768 (by omega) x y
      (Cert.FfnAbIdeal.Value.mixedSlab (View.ld (iblk m c 2 t) r0_3) (View.ld (iblk m c 0 t) r0_11) (View.ld (iblk m c 1 t) r0_11) (View.ld (iblk m c 6 t) r0_5)
        (View.ld (iblk m c 6 t) r0_6) (View.ld (iblk m c 3 t) r0_7) (View.ld (iblk m c 5 t) r0_8))
      (mixed_ref m c t 768 (by omega) (x 1) _ _ _ (fun j => View.ld_unit_apply_of _ _ _ _ _ _ fun a => by fin_cases a <;> simp)
        (fun j => View.ld_unit_apply_of _ _ _ _ _ _ fun a => by fin_cases a <;> simp)
        (fun j => View.ld_unit_apply_of _ _ _ _ _ _ fun a => by fin_cases a <;> simp)) h1 h2
  · exact slab_ref m c t 512 (by omega) x y
      (Cert.FfnAbIdeal.Value.mixedSlab (View.ld (iblk m c 2 t) r0_2) (View.ld (iblk m c 0 t) r0_10) (View.ld (iblk m c 1 t) r0_10) (View.ld (iblk m c 6 t) r0_5)
        (View.ld (iblk m c 6 t) r0_6) (View.ld (iblk m c 3 t) r0_7) (View.ld (iblk m c 5 t) r0_8))
      (mixed_ref m c t 512 (by omega) (x 1) _ _ _ (fun j => View.ld_unit_apply_of _ _ _ _ _ _ fun a => by fin_cases a <;> simp)
        (fun j => View.ld_unit_apply_of _ _ _ _ _ _ fun a => by fin_cases a <;> simp)
        (fun j => View.ld_unit_apply_of _ _ _ _ _ _ fun a => by fin_cases a <;> simp)) h1 h2
  · exact slab_ref m c t 256 (by omega) x y
      (Cert.FfnAbIdeal.Value.mixedSlab (View.ld (iblk m c 2 t) r0_1) (View.ld (iblk m c 0 t) r0_9) (View.ld (iblk m c 1 t) r0_9) (View.ld (iblk m c 6 t) r0_5)
        (View.ld (iblk m c 6 t) r0_6) (View.ld (iblk m c 3 t) r0_7) (View.ld (iblk m c 5 t) r0_8))
      (mixed_ref m c t 256 (by omega) (x 1) _ _ _ (fun j => View.ld_unit_apply_of _ _ _ _ _ _ fun a => by fin_cases a <;> simp)
        (fun j => View.ld_unit_apply_of _ _ _ _ _ _ fun a => by fin_cases a <;> simp)
        (fun j => View.ld_unit_apply_of _ _ _ _ _ _ fun a => by fin_cases a <;> simp)) h1 h2
  · exact slab_ref m c t 0 (by omega) x y
      (Cert.FfnAbIdeal.Value.mixedSlab (View.ld (iblk m c 2 t) r0_0) (View.ld (iblk m c 0 t) r0_4) (View.ld (iblk m c 1 t) r0_4) (View.ld (iblk m c 6 t) r0_5)
        (View.ld (iblk m c 6 t) r0_6) (View.ld (iblk m c 3 t) r0_7) (View.ld (iblk m c 5 t) r0_8))
      (mixed_ref m c t 0 (by omega) (x 1) _ _ _ (fun j => View.ld_unit_apply_of _ _ _ _ _ _ fun a => by fin_cases a <;> simp)
        (fun j => View.ld_unit_apply_of _ _ _ _ _ _ fun a => by fin_cases a <;> simp)
        (fun j => View.ld_unit_apply_of _ _ _ _ _ _ fun a => by fin_cases a <;> simp)) (by omega) h2

/-- The kernel's result array is the reference's. -/
theorem final (c : Dev nD) : (dats m 0 c).arrAt 10 (cfgs 0).N = REF m c := by
  refine (dats m 0 c).arrAt_eq_of_covers 10 _ (by decide +kernel) fun t hf y => ?_
  blk_simp; rw [after0_10]
  exact point m c t y

end Cert.CtxAbIdeal.Value

end
-- ==== Proof.CtxAbClaim.lean ====
module

public import proofs.«01_k».proof.Proof.CtxAbValue
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CtxAbClaim

/-- The reference runs to its end, its arguments unchanged and no counter raised. -/
theorem ref_frame : Cert.quiescent_CtxAbRefIdeal (hCtxAbRefIdeal := Cert.CtxAbRefIdeal.Gen.facts) := by
  intro m g hpre
  hlo_run
  · exact fun c => by simp only [and_self]
  · exact sem_eq_zero_of_no_sems (show Cert.CtxAbRefIdeal.sig.nSem + Cert.CtxAbRefIdeal.sig.nDmaSem = 0 by decide) _

set_option maxHeartbeats 4000000 in
/-- The kernel call and the reference, run on the same arguments, end with the same result. -/
theorem algebraic : Cert.algebraic_CtxAbIdeal_CtxAbRefIdeal (hCtxAbIdeal := Cert.CtxAbIdeal.Gen.facts) (hCtxAbRefIdeal := Cert.CtxAbRefIdeal.Gen.facts) := by
  pair_intro
  · run_from Cert.CtxAbIdeal.Gen.run_main m g
  · hlo_run
    exact (Cert.CtxAbIdeal.Value.final m c).symm

end Cert.CtxAbClaim

end
-- ==== Proof.Lanes.lean ====
module

public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Lanes

/-! A head's 64 entries, their rotation by position, and the order in which a block of 128 columns holds two heads: the first halves of
    both, then the second halves of both. -/

/-- The rotation of a head's entries: entry `d` and entry `d + 32` turn by the angle whose cosine and sine are given. -/
def rope (x : Fin 64 → EReal) (cs sn : Fin 32 → EReal) (d : Fin 64) : EReal :=
  if h : d.val < 32 then x ⟨d.val, d.isLt⟩ * cs ⟨d.val, h⟩ - x ⟨d.val + 32, by omega⟩ * sn ⟨d.val, h⟩
  else x ⟨d.val, d.isLt⟩ * cs ⟨d.val - 32, by omega⟩ + x ⟨d.val - 32, by omega⟩ * sn ⟨d.val - 32, by omega⟩

/-- The head's entry that column `c` holds. -/
def entry (c : ℕ) : Fin 64 := ⟨c % 128 / 64 * 32 + c % 32, by omega⟩

/-- The angle of column `c`. -/
def angle (c : ℕ) : Fin 32 := ⟨c % 32, by omega⟩

/-- The lane half a block away. -/
def swap (l : Fin 128) : Fin 128 := ⟨(l.val + 64) % 128, by omega⟩

/-- The rotation as a block of 128 lanes computes it: each lane times its cosine, plus the lane half a block away times the signed sine. -/
theorem rope_lanes (v ct st : Fin 128 → EReal) (x : Fin 64 → EReal) (cs sn : Fin 32 → EReal) (l : Fin 128)
    (h1 : v l = x (entry l.val)) (h2 : v (swap l) = x (entry (swap l).val)) (hc : ct l = cs (angle l.val))
    (hs : st l = if l.val < 64 then -sn (angle l.val) else sn (angle l.val)) :
    v l * ct l + v (swap l) * st l = rope x cs sn (entry l.val) := by
  rw [h1, h2, hc, hs, rope]
  by_cases h : l.val < 64
  · have e : (entry l.val).val < 32 := by show l.val % 128 / 64 * 32 + l.val % 32 < 32; omega
    rw [if_pos h, dif_pos e, mul_neg, sub_eq_add_neg]
    have a1 : angle l.val = ⟨(entry l.val).val, e⟩ := Fin.ext (by show l.val % 32 = l.val % 128 / 64 * 32 + l.val % 32; omega)
    have a2 : entry (swap l).val = ⟨(entry l.val).val + 32, by omega⟩ := Fin.ext (by
      show (l.val + 64) % 128 % 128 / 64 * 32 + (l.val + 64) % 128 % 32 = l.val % 128 / 64 * 32 + l.val % 32 + 32; omega)
    rw [a1, a2]
  · have e : ¬ (entry l.val).val < 32 := by show ¬ l.val % 128 / 64 * 32 + l.val % 32 < 32; omega
    rw [if_neg h, dif_neg e]
    have a1 : angle l.val = ⟨(entry l.val).val - 32, by omega⟩ := Fin.ext (by
      show l.val % 32 = l.val % 128 / 64 * 32 + l.val % 32 - 32; omega)
    have a2 : entry (swap l).val = ⟨(entry l.val).val - 32, by omega⟩ := Fin.ext (by
      show (l.val + 64) % 128 % 128 / 64 * 32 + (l.val + 64) % 128 % 32 = l.val % 128 / 64 * 32 + l.val % 32 - 32; omega)
    rw [a1, a2]

/-- The scale of the queries: the inverse square root of 64 over the logarithm of two. -/
abbrev unit : EReal := Ideal.ofBits FTy.f32 0x3E38AA3B#32

end Cert.Lanes

end
-- ==== Proof.ProjCTile.lean ====
module

public import proofs.«01_k».proof.Proof.Row
public import proofs.«01_k».proof.Proof.Lanes
public import proofs.«01_k».proof.Proof.Gen.ProjCIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjCIdeal.Value

open Cert.ProjCIdeal Cert.ProjCIdeal.Gen Cert.Lanes

/-- The rows of the block with the modulated norm and the projection applied. -/
abbrev proj (x : FVec Ideal S1x512x1024 .f32) (sh sc : FVec Ideal S1x1x1024 .f32) (g : FVec Ideal S1x1024 .f32) (w : FVec Ideal S1024x1536 .bf16) :
    FVec Ideal S512x1536 .f32 := k0_pay1 x sh sc g w

theorem proj_apply (x : FVec Ideal S1x512x1024 .f32) (sh sc : FVec Ideal S1x1x1024 .f32) (g : FVec Ideal S1x1024 .f32) (w : FVec Ideal S1024x1536 .bf16)
    (r : Fin 512) (j : Fin 1536) :
    proj x sh sc g w (ix2 r j)
      = ∑ k, Row.hidden (fun j => x (ix3 0 r j)) (fun j => g (ix2 0 j)) (fun j => sc (ix3 0 0 j)) (fun j => sh (ix3 0 0 j)) k * w (ix2 k j) := by
  unfold proj
  open_payloads
  pointwise
  rfl

/-- A block of 128 columns, rotated. -/
def turned (v cs sn : FVec Ideal S512x128 .f32) : FVec Ideal S512x128 .f32 :=
  addf (mulf v cs) (mulf (dynamicRotate 1 64#32 none v rotates_S512x128_d1) (shapeCast S512x128 sn shapeCasts_S512x128_S512x128))

theorem turned_apply (v cs sn : FVec Ideal S512x128 .f32) (r : Fin 512) (l : Fin 128) :
    turned v cs sn (ix2 r l) = v (ix2 r l) * cs (ix2 r l) + v (ix2 r (swap l)) * sn (ix2 r l) := by
  pointwise [turned]
  have e : ∀ q, (⟨(l.val + 128 - 64) % 128, q⟩ : Fin 128) = swap l := fun q => Fin.ext (by simp only [swap]; omega)
  rw [e]

/-- The 128 columns of the projected rows that start at column `o`. -/
def cols (o : ℕ) (h : S512x1536.Slices ![0, o] S512x128) (p : FVec Ideal S512x1536 .f32) : FVec Ideal S512x128 .f32 :=
  extractStridedSlice S512x128 ![0, o] p h

theorem cols_apply (o : ℕ) (ho : o + 128 ≤ 1536) (h) (p : FVec Ideal S512x1536 .f32) (r : Fin 512) (l : Fin 128) :
    cols o h p (ix2 r l) = p (ix2 r ⟨o + l.val, by omega⟩) := by
  pointwise [cols]

/-- A block of the result that holds queries. -/
def queryTile (o : ℕ) (h : S512x1536.Slices ![0, o] S512x128) (p : FVec Ideal S512x1536 .f32) (cs sn : FVec Ideal S512x128 .f32) :
    FVec Ideal S1x512x128 .bf16 :=
  shapeCast S1x512x128 (truncf .bf16 (mulf (turned (cols o h p) cs sn) (broadcast S512x128 (Scalar.ofBits .f32 0x3E38AA3B#32))) bitsLt_bf16_f32)
    shapeCasts_S512x128_S1x512x128

/-- A block of the result that holds keys. -/
def keyTile (o : ℕ) (h : S512x1536.Slices ![0, o] S512x128) (p : FVec Ideal S512x1536 .f32) (cs sn : FVec Ideal S512x128 .f32) :
    FVec Ideal S1x512x128 .bf16 :=
  shapeCast S1x512x128 (truncf .bf16 (turned (cols o h p) cs sn) bitsLt_bf16_f32) shapeCasts_S512x128_S1x512x128

/-- A block of the result that holds values. -/
def valueTile (o : ℕ) (h : S512x1536.Slices ![0, o] S512x128) (p : FVec Ideal S512x1536 .f32) : FVec Ideal S1x512x128 .bf16 :=
  shapeCast S1x512x128 (truncf .bf16 (cols o h p) bitsLt_bf16_f32) shapeCasts_S512x128_S1x512x128

theorem queryTile_apply (o : ℕ) (ho : o + 128 ≤ 1536) (h) (p : FVec Ideal S512x1536 .f32) (cs sn : FVec Ideal S512x128 .f32) (r : Fin 512) (l : Fin 128) :
    queryTile o h p cs sn (ix3 0 r l)
      = (p (ix2 r ⟨o + l.val, by omega⟩) * cs (ix2 r l) + p (ix2 r ⟨o + (swap l).val, by omega⟩) * sn (ix2 r l)) * unit := by
  pointwise [queryTile]
  rw [turned_apply, cols_apply o ho, cols_apply o ho]

theorem keyTile_apply (o : ℕ) (ho : o + 128 ≤ 1536) (h) (p : FVec Ideal S512x1536 .f32) (cs sn : FVec Ideal S512x128 .f32) (r : Fin 512) (l : Fin 128) :
    keyTile o h p cs sn (ix3 0 r l)
      = p (ix2 r ⟨o + l.val, by omega⟩) * cs (ix2 r l) + p (ix2 r ⟨o + (swap l).val, by omega⟩) * sn (ix2 r l) := by
  pointwise [keyTile]
  rw [turned_apply, cols_apply o ho, cols_apply o ho]

theorem valueTile_apply (o : ℕ) (ho : o + 128 ≤ 1536) (h) (p : FVec Ideal S512x1536 .f32) (r : Fin 512) (l : Fin 128) :
    valueTile o h p (ix3 0 r l) = p (ix2 r ⟨o + l.val, by omega⟩) := by
  pointwise [valueTile]
  rw [cols_apply o ho]

end Cert.ProjCIdeal.Value

end
-- ==== Proof.Pick.lean ====
module

public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Pick

variable {α : Type}

/-- The dimension numbers of picking columns of a matrix, one start index per result column. -/
abbrev colDims (N C R : Nat) (wf : GatherDims.WF ⟨2, ![N, C]⟩ ⟨2, ![R, 1]⟩ ⟨2, ![N, R]⟩ [0] [1] [] [1] [] 1 ![N, 1]) :
    GatherDims ⟨2, ![N, C]⟩ ⟨2, ![R, 1]⟩ ⟨2, ![N, R]⟩ where
  offsetDims := [0]
  collapsedSliceDims := [1]
  operandBatchingDims := []
  startIndicesBatchingDims := []
  startIndexMap := [1]
  indexVectorDim := 1
  sliceSizes := ![N, 1]
  wf := wf

/-- Picking columns: the entry at `(k, j)` is the operand's in row `k` and in the column that start index `j` names. -/
theorem pick_cols {N C R w : Nat} (wf) (x : (⟨2, ![N, C]⟩ : Shape).Idx → α) (idx : IVec ⟨2, ![R, 1]⟩ w) (k : Fin N) (j : Fin R)
    (s : Fin C) (hs : (idx (ix2 j 0)).toInt.toNat = s.val) :
    Host.gather (colDims N C R wf) x idx (ix2 k j) = x (ix2 k s) := by
  unfold Host.gather
  congr 1
  funext a
  refine Fin.ext ?_
  show (colDims N C R wf).start (ix2 k j) idx a + (colDims N C R wf).batchCoord (ix2 k j) a
    + (colDims N C R wf).offCoord (ix2 k j) a = _
  rw [GatherDims.batchCoord_eq_zero _ _ _ List.not_mem_nil]
  have hi : ∀ c, (colDims N C R wf).siIdx (ix2 k j) c = ix2 j 0 := by
    intro c
    funext b
    refine Fin.ext ?_
    match b with
    | ⟨0, _⟩ => rfl
    | ⟨1, _⟩ => exact Nat.lt_one_iff.mp c.isLt
  unfold GatherDims.start
  simp only [hi, hs]
  match a with
  | ⟨0, _⟩ => exact Nat.zero_add _
  | ⟨1, _⟩ =>
    have : s.val ≤ C - 1 := by omega
    exact Nat.min_eq_left this

/-- The dimension numbers of picking heads of a matrix whose columns are given as heads by entries. -/
abbrev headDims (N H D R : Nat)
    (wf : GatherDims.WF ⟨3, ![N, H, D]⟩ ⟨2, ![R, 1]⟩ ⟨3, ![N, R, D]⟩ [0, 2] [1] [] [1] [] 1 ![N, 1, D]) :
    GatherDims ⟨3, ![N, H, D]⟩ ⟨2, ![R, 1]⟩ ⟨3, ![N, R, D]⟩ where
  offsetDims := [0, 2]
  collapsedSliceDims := [1]
  operandBatchingDims := []
  startIndicesBatchingDims := []
  startIndexMap := [1]
  indexVectorDim := 1
  sliceSizes := ![N, 1, D]
  wf := wf

/-- Picking heads: the entry at `(k, j, e)` is the operand's in row `k`, in the head that start index `j` names, at entry `e`. -/
theorem pick_heads {N H D R w : Nat} (wf) (x : (⟨3, ![N, H, D]⟩ : Shape).Idx → α) (idx : IVec ⟨2, ![R, 1]⟩ w) (k : Fin N) (j : Fin R)
    (e : Fin D) (s : Fin H) (hs : (idx (ix2 j 0)).toInt.toNat = s.val) :
    Host.gather (headDims N H D R wf) x idx (ix3 k j e) = x (ix3 k s e) := by
  unfold Host.gather
  congr 1
  funext a
  refine Fin.ext ?_
  show (headDims N H D R wf).start (ix3 k j e) idx a + (headDims N H D R wf).batchCoord (ix3 k j e) a
    + (headDims N H D R wf).offCoord (ix3 k j e) a = _
  rw [GatherDims.batchCoord_eq_zero _ _ _ List.not_mem_nil]
  have hi : ∀ c, (headDims N H D R wf).siIdx (ix3 k j e) c = ix2 j 0 := by
    intro c
    funext b
    refine Fin.ext ?_
    match b with
    | ⟨0, _⟩ => rfl
    | ⟨1, _⟩ => exact Nat.lt_one_iff.mp c.isLt
  unfold GatherDims.start
  simp only [hi, hs]
  match a with
  | ⟨0, _⟩ => exact Nat.zero_add _
  | ⟨1, _⟩ =>
    have : s.val ≤ H - 1 := by omega
    exact Nat.min_eq_left this
  | ⟨2, _⟩ => exact Nat.zero_add _

end Cert.Pick

end
-- ==== Proof.ProjCRef.lean ====
module

public import proofs.«01_k».proof.Proof.RefStage
public import proofs.«01_k».proof.Proof.Lanes
public import proofs.«01_k».proof.Proof.Gen.ProjCRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjCRefIdeal.Read

open Cert.ProjCRefIdeal Cert.ProjCRefIdeal.Gen Cert.Lanes

variable (x0 : FVec Ideal S16x2048x1024 .f32) (x1 : FVec Ideal S24x9x1024 .f32) (x2 : FVec Ideal S3x1024 .f32)
  (x3 : FVec Ideal S1024x1536 .f32) (x4 x5 : FVec Ideal S2048x32 .f32)

/-- The projection of the modulated norm. -/
def projected : FVec Ideal S16x2048x1536 .f32 :=
  Host.dotGeneral dot_S16x2048x1024_S1024x1536_S16x2048x1536_2_0_01_1_n_n none
    (RefStage.hidden x0 (extractStridedSlice S1x1024 ![1, 0] x2 slices_S3x1024_S1x1024_1_0)
      (extractStridedSlice S16x1x1024 ![0, 4, 0] x1 slices_S24x9x1024_S16x1x1024_0_4_0)
      (extractStridedSlice S16x1x1024 ![0, 3, 0] x1 slices_S24x9x1024_S16x1x1024_0_3_0)) x3

/-- A table of angles, for every batch and head. -/
def table16 (t : FVec Ideal S2048x32 .f32) : FVec Ideal S16x2048x16x32 .f32 :=
  broadcastInDim S16x2048x16x32 ![0, 1, 2, 3] bcast_S1x2048x1x32_S16x2048x16x32_0_1_2_3
    (broadcastInDim S1x2048x1x32 ![1, 3] bcast_S2048x32_S1x2048x1x32_1_3 t)

/-- The rotation of sixteen heads. -/
def rope16 (x : FVec Ideal S16x2048x16x64 .f32) : FVec Ideal S16x2048x16x64 .f32 :=
  concatenate S16x2048x16x64 3
    [⟨S16x2048x16x32, subf (mulf (extractStridedSlice S16x2048x16x32 ![0, 0, 0, 0] x slices_S16x2048x16x64_S16x2048x16x32_0_0_0_0) (table16 x4))
        (mulf (extractStridedSlice S16x2048x16x32 ![0, 0, 0, 32] x slices_S16x2048x16x64_S16x2048x16x32_0_0_0_32) (table16 x5))⟩,
     ⟨S16x2048x16x32, addf (mulf (extractStridedSlice S16x2048x16x32 ![0, 0, 0, 32] x slices_S16x2048x16x64_S16x2048x16x32_0_0_0_32) (table16 x4))
        (mulf (extractStridedSlice S16x2048x16x32 ![0, 0, 0, 0] x slices_S16x2048x16x64_S16x2048x16x32_0_0_0_0) (table16 x5))⟩]
    concatenates_S16x2048x16x32_S16x2048x16x32_S16x2048x16x64_d3

/-- A table of angles, for every batch and key head. -/
def table4 (t : FVec Ideal S2048x32 .f32) : FVec Ideal S16x2048x4x32 .f32 :=
  broadcastInDim S16x2048x4x32 ![0, 1, 2, 3] bcast_S1x2048x1x32_S16x2048x4x32_0_1_2_3
    (broadcastInDim S1x2048x1x32 ![1, 3] bcast_S2048x32_S1x2048x1x32_1_3 t)

/-- The rotation of four heads. -/
def rope4 (x : FVec Ideal S16x2048x4x64 .f32) : FVec Ideal S16x2048x4x64 .f32 :=
  concatenate S16x2048x4x64 3
    [⟨S16x2048x4x32, subf (mulf (extractStridedSlice S16x2048x4x32 ![0, 0, 0, 0] x slices_S16x2048x4x64_S16x2048x4x32_0_0_0_0) (table4 x4))
        (mulf (extractStridedSlice S16x2048x4x32 ![0, 0, 0, 32] x slices_S16x2048x4x64_S16x2048x4x32_0_0_0_32) (table4 x5))⟩,
     ⟨S16x2048x4x32, addf (mulf (extractStridedSlice S16x2048x4x32 ![0, 0, 0, 32] x slices_S16x2048x4x64_S16x2048x4x32_0_0_0_32) (table4 x4))
        (mulf (extractStridedSlice S16x2048x4x32 ![0, 0, 0, 0] x slices_S16x2048x4x64_S16x2048x4x32_0_0_0_0) (table4 x5))⟩]
    concatenates_S16x2048x4x32_S16x2048x4x32_S16x2048x4x64_d3

/-- The queries' scale. -/
def scaled (x : FVec Ideal S16x2048x16x64 .f32) : FVec Ideal S16x2048x16x64 .f32 :=
  mulf x (broadcastInDim S16x2048x16x64 ![] bcast_S_S16x2048x16x64 (constant S_ .f32 0x3E38AA3B#32))

/-- The queries' columns in the order of the result. -/
def qcols (x : FVec Ideal S16x2048x16x64 .f32) : FVec Ideal S16x2048x1024 .f32 :=
  shapeCast _ (transpose S16x2048x2x4x2x2x32 [0, 1, 2, 4, 5, 3, 6]
    (shapeCast _ x shapeCasts_S16x2048x16x64_S16x2048x2x2x4x2x32) transposes_S16x2048x2x2x4x2x32_S16x2048x2x4x2x2x32_0_1_2_4_5_3_6)
    shapeCasts_S16x2048x2x4x2x2x32_S16x2048x1024

/-- The keys' columns in the order of the result. -/
def kcols (x : FVec Ideal S16x2048x4x64 .f32) : FVec Ideal S16x2048x256 .f32 :=
  shapeCast _ (transpose S16x2048x2x2x2x32 [0, 1, 2, 4, 3, 5]
    (shapeCast _ x shapeCasts_S16x2048x4x64_S16x2048x2x2x2x32) transposes_S16x2048x2x2x2x32_S16x2048x2x2x2x32_0_1_2_4_3_5)
    shapeCasts_S16x2048x2x2x2x32_S16x2048x256

/-- The queries by head. -/
def qheads (p : FVec Ideal S16x2048x1536 .f32) : FVec Ideal S16x2048x16x64 .f32 :=
  shapeCast _ (extractStridedSlice S16x2048x1024 ![0, 0, 0] p slices_S16x2048x1536_S16x2048x1024_0_0_0) shapeCasts_S16x2048x1024_S16x2048x16x64

/-- The keys by head. -/
def kheads (p : FVec Ideal S16x2048x1536 .f32) : FVec Ideal S16x2048x4x64 .f32 :=
  shapeCast _ (extractStridedSlice S16x2048x256 ![0, 0, 1024] p slices_S16x2048x1536_S16x2048x256_0_0_1024) shapeCasts_S16x2048x256_S16x2048x4x64

/-- The result from the projection. -/
def assembled (p : FVec Ideal S16x2048x1536 .f32) : FVec Ideal S16x2048x1536 .bf16 :=
  truncf .bf16 (concatenate S16x2048x1536 2 [⟨S16x2048x1024, qcols (scaled (rope16 x4 x5 (qheads p)))⟩, ⟨S16x2048x256, kcols (rope4 x4 x5 (kheads p))⟩,
    ⟨S16x2048x256, extractStridedSlice S16x2048x256 ![0, 0, 1280] p slices_S16x2048x1536_S16x2048x256_0_0_1280⟩]
    concatenates_S16x2048x1024_S16x2048x256_S16x2048x256_S16x2048x1536_d2) bitsLt_bf16_f32

/-- The reference's result, as a function of its arguments. -/
def result : FVec Ideal S16x2048x1536 .bf16 := assembled x4 x5 (projected x0 x1 x2 x3)

/-- The projection, row by row. -/
theorem projected_apply (i0 : Fin 16) (i1 : Fin 2048) (c : Fin 1536) :
    projected x0 x1 x2 x3 (ix3 i0 i1 c)
      = ∑ k, Row.hidden (fun j => x0 (ix3 i0 i1 j)) (fun j => x2 (ix2 1 j)) (fun j => x1 (ix3 ⟨i0.val, by omega⟩ 4 j))
          (fun j => x1 (ix3 ⟨i0.val, by omega⟩ 3 j)) k * x3 (ix2 k c) := by
  pointwise [projected]
  simp only [RefStage.hidden_apply]
  pointwise

theorem rope16_apply (x : FVec Ideal S16x2048x16x64 .f32) (i0 : Fin 16) (i1 : Fin 2048) (h : Fin 16) (d : Fin 64) :
    rope16 x4 x5 x (ix4 i0 i1 h d) = rope (fun d => x (ix4 i0 i1 h d)) (fun a => x4 (ix2 i1 a)) (fun a => x5 (ix2 i1 a)) d := by
  pointwise [rope16, table16]
  rw [rope]
  split
  · simp only [Nat.add_comm]
  · rename_i hd
    have e : ∀ q, (⟨32 + (d.val - 32), q⟩ : Fin 64) = d := fun q => Fin.ext (by show 32 + (d.val - 32) = d.val; omega)
    rw [e]

theorem rope4_apply (x : FVec Ideal S16x2048x4x64 .f32) (i0 : Fin 16) (i1 : Fin 2048) (h : Fin 4) (d : Fin 64) :
    rope4 x4 x5 x (ix4 i0 i1 h d) = rope (fun d => x (ix4 i0 i1 h d)) (fun a => x4 (ix2 i1 a)) (fun a => x5 (ix2 i1 a)) d := by
  pointwise [rope4, table4]
  rw [rope]
  split
  · simp only [Nat.add_comm]
  · rename_i hd
    have e : ∀ q, (⟨32 + (d.val - 32), q⟩ : Fin 64) = d := fun q => Fin.ext (by show 32 + (d.val - 32) = d.val; omega)
    rw [e]

/-- The query head that column `c` holds. -/
def headQ (c : ℕ) : Fin 16 := ⟨c % 1024 / 512 * 8 + c % 64 / 32 * 4 + c % 512 / 128, by omega⟩

/-- The key head that column `c` holds. -/
def headK (c : ℕ) : Fin 4 := ⟨c % 256 / 128 * 2 + c % 64 / 32, by omega⟩

theorem qcols_apply (x : FVec Ideal S16x2048x16x64 .f32) (i0 : Fin 16) (i1 : Fin 2048) (c : Fin 1024) :
    qcols x (ix3 i0 i1 c) = x (ix4 i0 i1 (headQ c.val) (entry c.val)) := by
  pointwise [qcols]
  congr 2 <;> exact Fin.ext (by simp only [headQ, entry]; omega)

theorem kcols_apply (x : FVec Ideal S16x2048x4x64 .f32) (i0 : Fin 16) (i1 : Fin 2048) (c : Fin 256) :
    kcols x (ix3 i0 i1 c) = x (ix4 i0 i1 (headK c.val) (entry c.val)) := by
  pointwise [kcols]
  congr 2 <;> exact Fin.ext (by simp only [headK, entry]; omega)

theorem scaled_apply (x : FVec Ideal S16x2048x16x64 .f32) (i0 : Fin 16) (i1 : Fin 2048) (h : Fin 16) (d : Fin 64) :
    scaled x (ix4 i0 i1 h d) = x (ix4 i0 i1 h d) * unit := by
  pointwise [scaled]

theorem qheads_apply (p : FVec Ideal S16x2048x1536 .f32) (i0 : Fin 16) (i1 : Fin 2048) (h : Fin 16) (d : Fin 64) :
    qheads p (ix4 i0 i1 h d) = p (ix3 i0 i1 ⟨h.val * 64 + d.val, by omega⟩) := by
  pointwise [qheads]

theorem kheads_apply (p : FVec Ideal S16x2048x1536 .f32) (i0 : Fin 16) (i1 : Fin 2048) (h : Fin 4) (d : Fin 64) :
    kheads p (ix4 i0 i1 h d) = p (ix3 i0 i1 ⟨1024 + h.val * 64 + d.val, by omega⟩) := by
  pointwise [kheads]
  congr 2
  exact Fin.ext (by show 1024 + (h.val * 64 + d.val) = 1024 + h.val * 64 + d.val; omega)

/-- One row of the result from one row of the projection: scaled rotated queries, rotated keys, values. -/
def rowOut (p : Fin 1536 → EReal) (cs sn : Fin 32 → EReal) (c : Fin 1536) : EReal :=
  if c.val < 1024 then rope (fun d => p ⟨(headQ c.val).val * 64 + d.val, by omega⟩) cs sn (entry c.val) * unit
  else if c.val < 1280 then rope (fun d => p ⟨1024 + (headK c.val).val * 64 + d.val, by omega⟩) cs sn (entry c.val)
  else p c

theorem assembled_apply (p : FVec Ideal S16x2048x1536 .f32) (i0 : Fin 16) (i1 : Fin 2048) (c : Fin 1536) :
    assembled x4 x5 p (ix3 i0 i1 c) = rowOut (fun c => p (ix3 i0 i1 c)) (fun a => x4 (ix2 i1 a)) (fun a => x5 (ix2 i1 a)) c := by
  pointwise [assembled]
  simp only [qcols_apply, kcols_apply, scaled_apply, rope16_apply, rope4_apply, qheads_apply, kheads_apply]
  rw [rowOut]
  by_cases h1 : c.val < 1024
  · rw [dif_pos h1, if_pos h1]
  rw [dif_neg h1, if_neg h1]
  by_cases h2 : c.val < 1280
  · have e1 : headK (c.val - 1024) = headK c.val := Fin.ext (by simp only [headK]; omega)
    have e2 : entry (c.val - 1024) = entry c.val := Fin.ext (by simp only [entry]; omega)
    rw [dif_pos (by omega), if_pos h2, e1, e2]
  · rw [dif_neg (by omega), if_neg h2]
    congr 2
    exact Fin.ext (by show 1280 + (c.val - 1024 - 256) = c.val; omega)

/-- The reference's result, row by row. -/
theorem result_apply (i0 : Fin 16) (i1 : Fin 2048) (c : Fin 1536) :
    result x0 x1 x2 x3 x4 x5 (ix3 i0 i1 c)
      = rowOut (fun c => ∑ k, Row.hidden (fun j => x0 (ix3 i0 i1 j)) (fun j => x2 (ix2 1 j)) (fun j => x1 (ix3 ⟨i0.val, by omega⟩ 4 j))
          (fun j => x1 (ix3 ⟨i0.val, by omega⟩ 3 j)) k * x3 (ix2 k c)) (fun a => x4 (ix2 i1 a)) (fun a => x5 (ix2 i1 a)) c := by
  rw [result, assembled_apply]
  simp only [projected_apply]

end Cert.ProjCRefIdeal.Read

end
-- ==== Proof.ProjCHost.lean ====
module

public import proofs.«01_k».proof.Proof.Pick
public import proofs.«01_k».proof.Proof.ProjCRef
public import proofs.«01_k».proof.Proof.Gen.ProjCIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjCIdeal.Value

open Cert.ProjCIdeal Cert.ProjCIdeal.Gen Cert.Lanes Cert.ProjCRefIdeal.Read

variable (m : (ℓ : Loc nD τ sig) → Buf (Elt Ideal) ℓ)

/-- Column `j`'s place before the two heads of a block are interleaved by halves; only the queries' and keys' blocks are. -/
def place (j : Fin 1536) : Fin 1536 :=
  ⟨if j.val < 1280 then j.val / 128 * 128 + j.val % 64 / 32 * 64 + j.val % 128 / 64 * 32 + j.val % 32 else j.val, by split <;> omega⟩

/-- The index table of the columns. -/
def colIdx : IVec S1536x1 32 :=
  broadcastInDim S1536x1 ![0] bcast_S1536_S1536x1_0
    (select (constantI S1536 1 0#1) (addi (fun i => lit1 (S1536.rowMajor i)) (broadcastInDim S1536 ![] bcast_S_S1536 (constantI S_ 32 1536#32)))
      (fun i => lit1 (S1536.rowMajor i)))

/-- The index table of the query heads. -/
def headIdx : IVec S16x1 32 :=
  broadcastInDim S16x1 ![0] bcast_S16_S16x1_0
    (select (constantI S16 1 0#1) (addi (fun i => lit0 (S16.rowMajor i)) (broadcastInDim S16 ![] bcast_S_S16 (constantI S_ 32 16#32)))
      (fun i => lit0 (S16.rowMajor i)))

theorem lit1_apply : ∀ j : Fin 1536, (lit1 j).toInt.toNat = (place j).val := by decide +kernel

/-- The natural head at place `h` of the queries. -/
def headAt (h : Fin 16) : Fin 16 := ⟨h.val / 8 * 8 + h.val % 2 * 4 + h.val % 8 / 2, by omega⟩

theorem lit0_apply : ∀ h : Fin 16, (lit0 h).toInt.toNat = (headAt h).val := by decide +kernel

theorem colIdx_apply (j : Fin 1536) : (colIdx (ix2 j 0)).toInt.toNat = (place j).val := by
  have e : colIdx (ix2 j 0) = lit1 (S1536.rowMajor (ix1 j)) := by pointwise [colIdx]
  have r : ∀ j : Fin 1536, (S1536.rowMajor (ix1 j)).val = j.val := by decide +kernel
  rw [e, show S1536.rowMajor (ix1 j) = j from Fin.ext (r j), lit1_apply]

theorem headIdx_apply (h : Fin 16) : (headIdx (ix2 h 0)).toInt.toNat = (headAt h).val := by
  have e : headIdx (ix2 h 0) = lit0 (S16.rowMajor (ix1 h)) := by pointwise [headIdx]
  have r : ∀ h : Fin 16, (S16.rowMajor (ix1 h)).val = h.val := by decide +kernel
  rw [e, show S16.rowMajor (ix1 h) = h from Fin.ext (r h), lit0_apply]

/-- The query heads of the weights, reordered. -/
def heads (w : FVec Ideal S1024x1536 .f32) : FVec Ideal S1024x16x64 .f32 :=
  Host.gather gather_S1024x16x64_S16x1_S1024x16x64_02_1_n_n_1_1_1024164
    (shapeCast S1024x16x64 (extractStridedSlice S1024x1024 ![0, 0] w slices_S1024x1536_S1024x1024_0_0) shapeCasts_S1024x1024_S1024x16x64) headIdx

/-- The weights with the query heads reordered. -/
def byHead (w : FVec Ideal S1024x1536 .f32) : FVec Ideal S1024x1536 .f32 :=
  concatenate S1024x1536 1 [⟨S1024x1024, shapeCast S1024x1024 (heads w) shapeCasts_S1024x16x64_S1024x1024⟩,
    ⟨S1024x512, extractStridedSlice S1024x512 ![0, 1024] w slices_S1024x1536_S1024x512_0_1024⟩] concatenates_S1024x1024_S1024x512_S1024x1536_d1

/-- The weights in the order in which the call takes them. -/
def ordered (w : FVec Ideal S1024x1536 .f32) : FVec Ideal S1024x1536 .bf16 :=
  truncf .bf16 (Host.gather gather_S1024x1536_S1536x1_S1024x1536_0_1_n_n_1_1_10241 (byHead w) colIdx) bitsLt_bf16_f32

theorem gather_heads (x : FVec Ideal S1024x16x64 .f32) (idx : IVec S16x1 32) (k : Fin 1024) (h s : Fin 16) (e : Fin 64)
    (hs : (idx (ix2 h 0)).toInt.toNat = s.val) :
    Host.gather gather_S1024x16x64_S16x1_S1024x16x64_02_1_n_n_1_1_1024164 x idx (ix3 k h e) = x (ix3 k s e) :=
  Pick.pick_heads _ x idx k h e s hs

theorem gather_cols (x : FVec Ideal S1024x1536 .f32) (idx : IVec S1536x1 32) (k : Fin 1024) (j s : Fin 1536)
    (hs : (idx (ix2 j 0)).toInt.toNat = s.val) :
    Host.gather gather_S1024x1536_S1536x1_S1024x1536_0_1_n_n_1_1_10241 x idx (ix2 k j) = x (ix2 k s) :=
  Pick.pick_cols _ x idx k j s hs

/-- The natural column that column `c` of the reordered heads holds. -/
def natural (c : Fin 1536) : Fin 1536 :=
  ⟨if c.val < 1024 then (c.val / 512 * 8 + c.val / 64 % 2 * 4 + c.val % 512 / 128) * 64 + c.val % 64 else c.val, by split <;> omega⟩

theorem heads_apply (w : FVec Ideal S1024x1536 .f32) (k : Fin 1024) (h : Fin 16) (e : Fin 64) :
    heads w (ix3 k h e) = w (ix2 k ⟨(headAt h).val * 64 + e.val, by omega⟩) := by
  refine (gather_heads _ headIdx k h (headAt h) e (headIdx_apply h)).trans ?_
  pointwise

theorem byHead_apply (w : FVec Ideal S1024x1536 .f32) (k : Fin 1024) (c : Fin 1536) : byHead w (ix2 k c) = w (ix2 k (natural c)) := by
  pointwise [byHead]
  simp only [heads_apply]
  by_cases h : c.val < 1024
  · rw [dif_pos h]
    congr 2
    exact Fin.ext (by simp only [natural, headAt, if_pos h]; omega)
  · rw [dif_neg h]
    congr 2
    exact Fin.ext (by simp only [natural, if_neg h]; omega)

/-- The natural column that column `j` of the call's weights holds. -/
abbrev source (j : Fin 1536) : Fin 1536 := natural (place j)

theorem ordered_apply (w : FVec Ideal S1024x1536 .f32) (k : Fin 1024) (j : Fin 1536) : ordered w (ix2 k j) = w (ix2 k (source j)) :=
  (gather_cols (byHead w) colIdx k j (place j) (colIdx_apply j)).trans (byHead_apply w k (place j))

/-- Queries: the natural column of column `j`. -/
theorem source_q : ∀ j : Fin 1536, j.val < 1024 → (source j).val = (headQ j.val).val * 64 + (entry j.val).val := by decide +kernel

/-- Keys: the natural column of column `j`. -/
theorem source_k : ∀ j : Fin 1536, ¬ j.val < 1024 → j.val < 1280 → (source j).val = 1024 + (headK j.val).val * 64 + (entry j.val).val := by
  decide +kernel

/-- Values: the natural column of column `j`. -/
theorem source_v : ∀ j : Fin 1536, ¬ j.val < 1280 → source j = j := by decide +kernel

/-- The array of weights that the call finds. -/
theorem V_w (c : Dev nD) : V m c main_v15 = ordered (m ((c : Thread nD τ).loc main_arg3)) := by
  simp only [V, hostOps0, List.flatten_cons, List.flatten_nil, List.append_nil, List.cons_append, List.nil_append]
  after_results_simp
  rfl

/-- The cosines, four times side by side. -/
def cosTable (t : FVec Ideal S2048x32 .f32) : FVec Ideal S2048x128 .f32 :=
  shapeCast S2048x128 (broadcastInDim S1x2048x4x32 ![0, 1, 2, 3] bcast_S1x2048x1x32_S1x2048x4x32_0_1_2_3
    (shapeCast S1x2048x1x32 t shapeCasts_S2048x32_S1x2048x1x32)) shapeCasts_S1x2048x4x32_S2048x128

/-- The signed sines. -/
def sinTable (t : FVec Ideal S2048x32 .f32) : FVec Ideal S2048x128 .f32 :=
  concatenate S2048x128 1 [⟨S2048x32, Host.negf t⟩, ⟨S2048x32, Host.negf t⟩, ⟨S2048x32, t⟩, ⟨S2048x32, t⟩]
    concatenates_S2048x32_S2048x32_S2048x32_S2048x32_S2048x128_d1

theorem cosTable_apply (t : FVec Ideal S2048x32 .f32) (i : Fin 2048) (l : Fin 128) : cosTable t (ix2 i l) = t (ix2 i (angle l.val)) := by
  pointwise [cosTable]
  congr 2
  all_goals exact Fin.ext (by simp only [angle]; omega)

theorem sinTable_apply (t : FVec Ideal S2048x32 .f32) (i : Fin 2048) (l : Fin 128) :
    sinTable t (ix2 i l) = if l.val < 64 then -t (ix2 i (angle l.val)) else t (ix2 i (angle l.val)) := by
  pointwise [sinTable]
  by_cases h1 : l.val < 32
  · have h : l.val < 64 := by omega
    have e : (⟨l.val, h1⟩ : Fin 32) = angle l.val := Fin.ext (by simp only [angle]; omega)
    rw [dif_pos h1, if_pos h, e]
  by_cases h2 : l.val - 32 < 32
  · have h : l.val < 64 := by omega
    have e : (⟨l.val - 32, h2⟩ : Fin 32) = angle l.val := Fin.ext (by simp only [angle]; omega)
    rw [dif_neg h1, dif_pos h2, if_pos h, e]
  have h : ¬ l.val < 64 := by omega
  by_cases h3 : l.val - 32 - 32 < 32
  · have e : (⟨l.val - 32 - 32, h3⟩ : Fin 32) = angle l.val := Fin.ext (by simp only [angle]; omega)
    rw [dif_neg h1, dif_neg h2, dif_pos h3, if_neg h, e]
  · have h4 : l.val - 32 - 32 - 32 < 32 := by omega
    have e : (⟨l.val - 32 - 32 - 32, h4⟩ : Fin 32) = angle l.val := Fin.ext (by simp only [angle]; omega)
    rw [dif_neg h1, dif_neg h2, dif_neg h3, if_neg h, e]

theorem V_cos (c : Dev nD) : V m c main_v19 = cosTable (m ((c : Thread nD τ).loc main_arg4)) := by
  simp only [V, hostOps0, List.flatten_cons, List.flatten_nil, List.append_nil, List.cons_append, List.nil_append]
  after_results_simp
  rfl

theorem V_sin (c : Dev nD) : V m c main_v22 = sinTable (m ((c : Thread nD τ).loc main_arg5)) := by
  simp only [V, hostOps0, List.flatten_cons, List.flatten_nil, List.append_nil, List.cons_append, List.nil_append]
  after_results_simp
  rfl

end Cert.ProjCIdeal.Value

end
-- ==== Proof.ProjCValue.lean ====
module

public import proofs.«01_k».proof.Proof.ProjCTile
public import proofs.«01_k».proof.Proof.ProjCHost
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjCIdeal.Value

open Cert.ProjCIdeal Cert.ProjCIdeal.Gen Cert.Lanes Cert.ProjCRefIdeal.Read

variable (m : (ℓ : Loc nD τ sig) → Buf (Elt Ideal) ℓ)

/-- Every window's block index at every grid point. -/
theorem idx : ∀ t : Fin cfg0.N, win0_0.index t = ![t.val / 4, t.val % 4, 0]
    ∧ win0_1.index t = ![t.val / 4, 0, 0]
    ∧ win0_2.index t = ![0, 0]
    ∧ win0_3.index t = ![0, 0]
    ∧ win0_4.index t = ![t.val % 4, 0]
    ∧ win0_5.index t = ![t.val % 4, 0]
    ∧ win0_6.index t = ![0, 0]
    ∧ win0_7.index t = ![t.val / 4, t.val % 4, 0] :=
  (by decide +kernel : ∀ t : Fin grid0.N, _)

/-- The projection of the kernel's launch arguments. -/
abbrev PROJ (c : Dev nD) : FVec Ideal Cert.ProjCRefIdeal.S16x2048x1536 .f32 :=
  projected (m ((c : Thread nD τ).loc main_arg0)) (m ((c : Thread nD τ).loc main_arg1)) (m ((c : Thread nD τ).loc main_arg2)) (m ((c : Thread nD τ).loc main_arg3))

/-- The reference's term on the kernel's launch arguments. -/
abbrev REF (c : Dev nD) : FVec Ideal Cert.ProjCRefIdeal.S16x2048x1536 .bf16 :=
  result (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

/-- The projected rows of the block at grid point `t`. -/
abbrev rowsAt (c : Dev nD) (t : Fin cfg0.N) : FVec Ideal S512x1536 .f32 :=
  k0_pay22 (iblk m c 0 t) (iblk m c 1 t) (iblk m c 2 t) (iblk m c 3 t) (iblk m c 4 t) (iblk m c 5 t) (iblk m c 6 t)

/-- A column of the block's projected rows is a natural column of the projection. -/
theorem rowsAt_apply (c : Dev nD) (t : Fin cfg0.N) (r : Fin 512) (j : Fin 1536) (z0 : Fin 16) (z1 : Fin 2048)
    (h0 : z0.val = t.val / 4) (h1 : z1.val = t.val % 4 * 512 + r.val) :
    rowsAt m c t (ix2 r j) = PROJ m c (ix3 z0 z1 (source j)) := by
  have hw (k : Fin 1024) : m ((c : Thread nD τ).loc main_arg3) (ix2 k (source j)) = View.ld (iblk m c 3 t) r0_4 (ix2 k j) := by
    rw [← ordered_apply (m ((c : Thread nD τ).loc main_arg3)), ← V_w]
    symm
    refine (show View.ld (iblk m c 3 t) r0_4 (ix2 k j) = iblk m c 3 t (ix2 k j) from
      View.ld_unit_apply_of _ _ _ _ _ _ fun a => by fin_cases a <;> simp).trans ?_
    show V m c main_v15 (((cfg0.win 3).blk t).view.emb (ix2 k j)) = V m c main_v15 (ix2 k j)
    refine congrArg (V m c main_v15) ?_
    funext a
    apply Fin.ext
    fin_cases a <;> (try simp only [ValueKit.finMkLit, Fin.isValue]) <;> blk_simp [idx t] <;> omega
  rw [PROJ, projected_apply]
  simp only [hw]
  refine (proj_apply _ _ _ _ _ r j).trans ?_
  blk_point [iblk, V, idx t]

/-- The kernel's cosines. -/
abbrev COS (c : Dev nD) : FVec Ideal S2048x32 .f32 := m ((c : Thread nD τ).loc main_arg4)

/-- The kernel's sines. -/
abbrev SIN (c : Dev nD) : FVec Ideal S2048x32 .f32 := m ((c : Thread nD τ).loc main_arg5)

/-- The block's cosines. -/
theorem cos_ref (c : Dev nD) (t : Fin cfg0.N) (r : Fin 512) (l : Fin 128) (z1 : Fin 2048) (h1 : z1.val = t.val % 4 * 512 + r.val) :
    View.ld (iblk m c 4 t) r0_5 (ix2 r l) = COS m c (ix2 z1 (angle l.val)) := by
  rw [← cosTable_apply (COS m c), ← V_cos]
  refine (show View.ld (iblk m c 4 t) r0_5 (ix2 r l) = iblk m c 4 t (ix2 r l) from
    View.ld_unit_apply_of _ _ _ _ _ _ fun a => by fin_cases a <;> simp).trans ?_
  show V m c main_v19 (((cfg0.win 4).blk t).view.emb (ix2 r l)) = V m c main_v19 (ix2 z1 l)
  refine congrArg (V m c main_v19) ?_
  funext a
  apply Fin.ext
  fin_cases a <;> (try simp only [ValueKit.finMkLit, Fin.isValue]) <;> blk_simp [idx t] <;> omega

/-- The block's signed sines. -/
theorem sin_ref (c : Dev nD) (t : Fin cfg0.N) (r : Fin 512) (l : Fin 128) (z1 : Fin 2048) (h1 : z1.val = t.val % 4 * 512 + r.val) :
    View.ld (iblk m c 5 t) r0_5 (ix2 r l)
      = if l.val < 64 then -SIN m c (ix2 z1 (angle l.val)) else SIN m c (ix2 z1 (angle l.val)) := by
  rw [← sinTable_apply (SIN m c), ← V_sin]
  refine (show View.ld (iblk m c 5 t) r0_5 (ix2 r l) = iblk m c 5 t (ix2 r l) from
    View.ld_unit_apply_of _ _ _ _ _ _ fun a => by fin_cases a <;> simp).trans ?_
  show V m c main_v22 (((cfg0.win 5).blk t).view.emb (ix2 r l)) = V m c main_v22 (ix2 z1 l)
  refine congrArg (V m c main_v22) ?_
  funext a
  apply Fin.ext
  fin_cases a <;> (try simp only [ValueKit.finMkLit, Fin.isValue]) <;> blk_simp [idx t] <;> omega

/-- The column half a block away. -/
def partner (j : Fin 1536) : Fin 1536 := ⟨j.val / 128 * 128 + (j.val + 64) % 128, by omega⟩

theorem headQ_partner : ∀ j : Fin 1536, headQ (partner j).val = headQ j.val := by decide +kernel

theorem headK_partner : ∀ j : Fin 1536, headK (partner j).val = headK j.val := by decide +kernel

/-- A rotated lane of the block is the rotation of a natural head, when the block's columns are the head's entries. -/
theorem turned_ref (c : Dev nD) (t : Fin cfg0.N) (r : Fin 512) (l : Fin 128) (j : Fin 1536) (z0 : Fin 16) (z1 : Fin 2048) (base : Fin 64 → Fin 1536)
    (h0 : z0.val = t.val / 4) (h1 : z1.val = t.val % 4 * 512 + r.val) (hl : j.val % 128 = l.val)
    (hb : source j = base (entry j.val)) (hb' : source (partner j) = base (entry (partner j).val)) :
    rowsAt m c t (ix2 r j) * View.ld (iblk m c 4 t) r0_5 (ix2 r l) + rowsAt m c t (ix2 r (partner j)) * View.ld (iblk m c 5 t) r0_5 (ix2 r l)
      = rope (fun d => PROJ m c (ix3 z0 z1 (base d))) (fun a => COS m c (ix2 z1 a))
          (fun a => SIN m c (ix2 z1 a)) (entry j.val) := by
  have e1 : entry j.val = entry l.val := Fin.ext (by simp only [entry]; omega)
  have e2 : entry (partner j).val = entry (swap l).val := Fin.ext (by simp only [entry, partner, swap]; omega)
  rw [e1] at hb ⊢
  rw [e2] at hb'
  rw [rowsAt_apply m c t r j z0 z1 h0 h1, rowsAt_apply m c t r (partner j) z0 z1 h0 h1, hb, hb', cos_ref m c t r l z1 h1, sin_ref m c t r l z1 h1]
  exact rope_lanes (fun l => PROJ m c (ix3 z0 z1 (base (entry l.val)))) (fun l => COS m c (ix2 z1 (angle l.val)))
    (fun l => if l.val < 64 then -SIN m c (ix2 z1 (angle l.val)) else SIN m c (ix2 z1 (angle l.val)))
    _ _ _ l rfl rfl rfl rfl

/-- A query block of the result, entry by entry. -/
theorem query_entry (c : Dev nD) (t : Fin cfg0.N) (o : ℕ) (ho : o + 128 ≤ 1024) (ho' : o % 128 = 0) (h) (r : Fin 512) (l : Fin 128)
    (z0 : Fin 16) (z1 : Fin 2048) (z2 : Fin 1536) (h0 : z0.val = t.val / 4) (h1 : z1.val = t.val % 4 * 512 + r.val) (h2 : z2.val = o + l.val) :
    queryTile o h (rowsAt m c t) (View.ld (iblk m c 4 t) r0_5) (View.ld (iblk m c 5 t) r0_5) (ix3 0 r l) = REF m c (ix3 z0 z1 z2) := by
  have hlt : z2.val < 1024 := by omega
  rw [queryTile_apply o (by omega), REF, result, assembled_apply, rowOut, if_pos hlt]
  have a1 : (⟨o + l.val, by omega⟩ : Fin 1536) = z2 := Fin.ext h2.symm
  have a2 : (⟨o + (swap l).val, by omega⟩ : Fin 1536) = partner z2 := Fin.ext (by simp only [swap, partner]; omega)
  rw [a1, a2]
  exact congrArg (· * unit) (turned_ref m c t r l z2 z0 z1 (fun d => ⟨(headQ z2.val).val * 64 + d.val, by omega⟩) h0 h1 (by omega)
    (Fin.ext (source_q z2 hlt)) (Fin.ext ((source_q (partner z2) (by simp only [partner]; omega)).trans (by rw [headQ_partner]))))

/-- A key block of the result, entry by entry. -/
theorem key_entry (c : Dev nD) (t : Fin cfg0.N) (o : ℕ) (ho : o + 128 ≤ 1280) (ho' : o % 128 = 0) (ho'' : 1024 ≤ o) (h) (r : Fin 512) (l : Fin 128)
    (z0 : Fin 16) (z1 : Fin 2048) (z2 : Fin 1536) (h0 : z0.val = t.val / 4) (h1 : z1.val = t.val % 4 * 512 + r.val) (h2 : z2.val = o + l.val) :
    keyTile o h (rowsAt m c t) (View.ld (iblk m c 4 t) r0_5) (View.ld (iblk m c 5 t) r0_5) (ix3 0 r l) = REF m c (ix3 z0 z1 z2) := by
  have hge : ¬ z2.val < 1024 := by omega
  have hlt : z2.val < 1280 := by omega
  rw [keyTile_apply o (by omega), REF, result, assembled_apply, rowOut, if_neg hge, if_pos hlt]
  have a1 : (⟨o + l.val, by omega⟩ : Fin 1536) = z2 := Fin.ext h2.symm
  have a2 : (⟨o + (swap l).val, by omega⟩ : Fin 1536) = partner z2 := Fin.ext (by simp only [swap, partner]; omega)
  rw [a1, a2]
  exact turned_ref m c t r l z2 z0 z1 (fun d => ⟨1024 + (headK z2.val).val * 64 + d.val, by omega⟩) h0 h1 (by omega)
    (Fin.ext (source_k z2 hge hlt)) (Fin.ext ((source_k (partner z2) (by simp only [partner]; omega) (by simp only [partner]; omega)).trans
      (by rw [headK_partner])))

/-- A value block of the result, entry by entry. -/
theorem value_entry (c : Dev nD) (t : Fin cfg0.N) (o : ℕ) (ho : o + 128 ≤ 1536) (ho'' : 1280 ≤ o) (h) (r : Fin 512) (l : Fin 128)
    (z0 : Fin 16) (z1 : Fin 2048) (z2 : Fin 1536) (h0 : z0.val = t.val / 4) (h1 : z1.val = t.val % 4 * 512 + r.val) (h2 : z2.val = o + l.val) :
    valueTile o h (rowsAt m c t) (ix3 0 r l) = REF m c (ix3 z0 z1 z2) := by
  have hge : ¬ z2.val < 1024 := by omega
  have hge' : ¬ z2.val < 1280 := by omega
  rw [valueTile_apply o (by omega), REF, result, assembled_apply, rowOut, if_neg hge, if_neg hge']
  have a1 : (⟨o + l.val, by omega⟩ : Fin 1536) = z2 := Fin.ext h2.symm
  rw [a1, rowsAt_apply m c t r z2 z0 z1 h0 h1, source_v z2 hge']

/-- The array index of a block's entry. -/
theorem emb_entry (t : Fin cfg0.N) (o : ℕ) (x : S1x512x128.Idx) (y : S1x512x1536.Idx) (h1 : (y 1).val = (x 1).val) (h2 : (y 2).val = o + (x 2).val) :
    ∃ (z0 : Fin 16) (z1 : Fin 2048) (z2 : Fin 1536), z0.val = t.val / 4 ∧ z1.val = t.val % 4 * 512 + (x 1).val ∧ z2.val = o + (x 2).val
      ∧ ((cfg0.win 7).blk t).view.emb y = ix3 z0 z1 z2 := by
  obtain ⟨z, hz⟩ : ∃ z : Cert.ProjCRefIdeal.S16x2048x1536.Idx, z = ((cfg0.win 7).blk t).view.emb y := ⟨_, rfl⟩
  have hz0 : (z 0).val = t.val / 4 := by subst hz; have := (y 0).isLt; blk_simp [idx t]
  have hz1 : (z 1).val = t.val % 4 * 512 + (x 1).val := by subst hz; blk_simp [idx t]; omega
  have hz2 : (z 2).val = o + (x 2).val := by subst hz; blk_simp [idx t]; omega
  rw [← hz]
  clear hz
  idx_vars z
  exact ⟨z0, z1, z2, hz0, hz1, hz2, rfl⟩

/-- A query block of the result at grid point `t`, entry by entry, is the reference's entry. -/
theorem query_ref (c : Dev nD) (t : Fin cfg0.N) (o : ℕ) (ho : o + 128 ≤ 1024) (ho' : o % 128 = 0) (h) (x : S1x512x128.Idx) (y : S1x512x1536.Idx)
    (h1 : (y 1).val = (x 1).val) (h2 : (y 2).val = o + (x 2).val) :
    queryTile o h (rowsAt m c t) (View.ld (iblk m c 4 t) r0_5) (View.ld (iblk m c 5 t) r0_5) x = REF m c (((cfg0.win 7).blk t).view.emb y) := by
  obtain ⟨z0, z1, z2, e0, e1, e2, hz⟩ := emb_entry t o x y h1 h2
  refine Eq.trans ?_ (congrArg (REF m c) hz.symm)
  idx_vars x
  obtain rfl : x0 = 0 := Subsingleton.elim _ _
  exact query_entry m c t o ho ho' h x1 x2 z0 z1 z2 e0 e1 e2

/-- A key block of the result at grid point `t`, entry by entry, is the reference's entry. -/
theorem key_ref (c : Dev nD) (t : Fin cfg0.N) (o : ℕ) (ho : o + 128 ≤ 1280) (ho' : o % 128 = 0) (ho'' : 1024 ≤ o) (h) (x : S1x512x128.Idx) (y : S1x512x1536.Idx)
    (h1 : (y 1).val = (x 1).val) (h2 : (y 2).val = o + (x 2).val) :
    keyTile o h (rowsAt m c t) (View.ld (iblk m c 4 t) r0_5) (View.ld (iblk m c 5 t) r0_5) x = REF m c (((cfg0.win 7).blk t).view.emb y) := by
  obtain ⟨z0, z1, z2, e0, e1, e2, hz⟩ := emb_entry t o x y h1 h2
  refine Eq.trans ?_ (congrArg (REF m c) hz.symm)
  idx_vars x
  obtain rfl : x0 = 0 := Subsingleton.elim _ _
  exact key_entry m c t o ho ho' ho'' h x1 x2 z0 z1 z2 e0 e1 e2

/-- A value block of the result at grid point `t`, entry by entry, is the reference's entry. -/
theorem value_ref (c : Dev nD) (t : Fin cfg0.N) (o : ℕ) (ho : o + 128 ≤ 1536) (ho'' : 1280 ≤ o) (h) (x : S1x512x128.Idx) (y : S1x512x1536.Idx)
    (h1 : (y 1).val = (x 1).val) (h2 : (y 2).val = o + (x 2).val) :
    valueTile o h (rowsAt m c t) x = REF m c (((cfg0.win 7).blk t).view.emb y) := by
  obtain ⟨z0, z1, z2, e0, e1, e2, hz⟩ := emb_entry t o x y h1 h2
  refine Eq.trans ?_ (congrArg (REF m c) hz.symm)
  idx_vars x
  obtain rfl : x0 = 0 := Subsingleton.elim _ _
  exact value_entry m c t o ho ho'' h x1 x2 z0 z1 z2 e0 e1 e2

/-- What the body leaves in the output window's buffer at grid point `t` is the reference at the window's block. -/
theorem point (c : Dev nD) (t : Fin cfg0.N) (y) :
    out0_7 (iblk m c 0 t) (iblk m c 1 t) (iblk m c 2 t) (iblk m c 3 t) (iblk m c 4 t) (iblk m c 5 t) (iblk m c 6 t) y
      = REF m c (((cfg0.win 7).blk t).view.emb y) := by
  canon_tiles x h
  · exact value_ref m c t 1408 (by omega) (by omega) slices_S512x1536_o0_1408_S512x128 x y (by omega) (by omega)
  · exact value_ref m c t 1280 (by omega) (by omega) slices_S512x1536_o0_1280_S512x128 x y (by omega) (by omega)
  · exact key_ref m c t 1152 (by omega) (by omega) (by omega) slices_S512x1536_o0_1152_S512x128 x y (by omega) (by omega)
  · exact key_ref m c t 1024 (by omega) (by omega) (by omega) slices_S512x1536_o0_1024_S512x128 x y (by omega) (by omega)
  · exact query_ref m c t 896 (by omega) (by omega) slices_S512x1536_o0_896_S512x128 x y (by omega) (by omega)
  · exact query_ref m c t 768 (by omega) (by omega) slices_S512x1536_o0_768_S512x128 x y (by omega) (by omega)
  · exact query_ref m c t 640 (by omega) (by omega) slices_S512x1536_o0_640_S512x128 x y (by omega) (by omega)
  · exact query_ref m c t 512 (by omega) (by omega) slices_S512x1536_o0_512_S512x128 x y (by omega) (by omega)
  · exact query_ref m c t 384 (by omega) (by omega) slices_S512x1536_o0_384_S512x128 x y (by omega) (by omega)
  · exact query_ref m c t 256 (by omega) (by omega) slices_S512x1536_o0_256_S512x128 x y (by omega) (by omega)
  · exact query_ref m c t 128 (by omega) (by omega) slices_S512x1536_o0_128_S512x128 x y (by omega) (by omega)
  · exact query_ref m c t 0 (by omega) (by omega) slices_S512x1536_o0_0_S512x128 x y (by omega) (by omega)

/-- The kernel's result array is the reference's. -/
theorem final (c : Dev nD) : (dats m 0 c).arrAt 7 (cfgs 0).N = REF m c := by
  refine (dats m 0 c).arrAt_eq_of_covers 7 _ (by decide +kernel) fun t hf y => ?_
  blk_simp; rw [after0_7]
  exact point m c t y

end Cert.ProjCIdeal.Value

end
-- ==== Proof.ProjCRun.lean ====
module

public import proofs.«01_k».proof.Proof.ProjCRef
public import proofs.«01_k».proof.Defs
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.ProjCRefIdeal.Read

open Cert.ProjCRefIdeal Cert.ProjCRefIdeal.Gen

/-- Three parts equal to the queries, the keys and the values of a projection make up the assembled result. -/
theorem assembled_of (p : FVec Ideal S16x2048x1536 .f32) (x4 x5 : FVec Ideal S2048x32 .f32)
    {a : FVec Ideal S16x2048x1024 .f32} {b d : FVec Ideal S16x2048x256 .f32}
    (ha : a = qcols (scaled (rope16 x4 x5 (qheads p)))) (hb : b = kcols (rope4 x4 x5 (kheads p)))
    (hd : d = extractStridedSlice S16x2048x256 ![0, 0, 1280] p slices_S16x2048x1536_S16x2048x256_0_0_1280) :
    (truncf .bf16 (concatenate S16x2048x1536 2 [⟨S16x2048x1024, a⟩, ⟨S16x2048x256, b⟩, ⟨S16x2048x256, d⟩]
      concatenates_S16x2048x1024_S16x2048x256_S16x2048x256_S16x2048x1536_d2) bitsLt_bf16_f32 : FVec Ideal S16x2048x1536 .bf16)
      = assembled x4 x5 p := by
  subst ha hb hd
  rfl

/-- Two halves of heads that are the rotation's halves make up the queries of the result. -/
theorem queries_of (p : FVec Ideal S16x2048x1536 .f32) (x4 x5 : FVec Ideal S2048x32 .f32) {a b : FVec Ideal S16x2048x16x32 .f32}
    (ha : a = subf (mulf (extractStridedSlice S16x2048x16x32 ![0, 0, 0, 0] (qheads p) slices_S16x2048x16x64_S16x2048x16x32_0_0_0_0) (table16 x4))
      (mulf (extractStridedSlice S16x2048x16x32 ![0, 0, 0, 32] (qheads p) slices_S16x2048x16x64_S16x2048x16x32_0_0_0_32) (table16 x5)))
    (hb : b = addf (mulf (extractStridedSlice S16x2048x16x32 ![0, 0, 0, 32] (qheads p) slices_S16x2048x16x64_S16x2048x16x32_0_0_0_32) (table16 x4))
      (mulf (extractStridedSlice S16x2048x16x32 ![0, 0, 0, 0] (qheads p) slices_S16x2048x16x64_S16x2048x16x32_0_0_0_0) (table16 x5))) :
    qcols (scaled (concatenate S16x2048x16x64 3 [⟨S16x2048x16x32, a⟩, ⟨S16x2048x16x32, b⟩] concatenates_S16x2048x16x32_S16x2048x16x32_S16x2048x16x64_d3 : FVec Ideal S16x2048x16x64 .f32))
      = qcols (scaled (rope16 x4 x5 (qheads p))) := by
  subst ha hb
  rfl

/-- Two halves of heads that are the rotation's halves make up the keys of the result. -/
theorem keys_of (p : FVec Ideal S16x2048x1536 .f32) (x4 x5 : FVec Ideal S2048x32 .f32) {a b : FVec Ideal S16x2048x4x32 .f32}
    (ha : a = subf (mulf (extractStridedSlice S16x2048x4x32 ![0, 0, 0, 0] (kheads p) slices_S16x2048x4x64_S16x2048x4x32_0_0_0_0) (table4 x4))
      (mulf (extractStridedSlice S16x2048x4x32 ![0, 0, 0, 32] (kheads p) slices_S16x2048x4x64_S16x2048x4x32_0_0_0_32) (table4 x5)))
    (hb : b = addf (mulf (extractStridedSlice S16x2048x4x32 ![0, 0, 0, 32] (kheads p) slices_S16x2048x4x64_S16x2048x4x32_0_0_0_32) (table4 x4))
      (mulf (extractStridedSlice S16x2048x4x32 ![0, 0, 0, 0] (kheads p) slices_S16x2048x4x64_S16x2048x4x32_0_0_0_0) (table4 x5))) :
    kcols ((concatenate S16x2048x4x64 3 [⟨S16x2048x4x32, a⟩, ⟨S16x2048x4x32, b⟩] concatenates_S16x2048x4x32_S16x2048x4x32_S16x2048x4x64_d3 : FVec Ideal S16x2048x4x64 .f32))
      = kcols (rope4 x4 x5 (kheads p)) := by
  subst ha hb
  rfl

set_option maxHeartbeats 4000000 in
/-- The reference's run ends with `result` of its arguments, and with its arguments unchanged. -/
theorem run (m : (ℓ : Loc nD τ sig) → Buf (Elt Ideal) ℓ) (g : Dev nD → PrngReg) :
    θ_run defs (onTc main) (s₀ m g) fun r => ∀ c : Dev nD,
      r.2.mem ((c.tc : Thread nD τ).loc main_v67) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) := by
  refine Idealize.ShloMosaic.θ_run_mono (Idealize.ShloMosaic.StableHlo.run_hlo _ _ (by hlo_seq) (by decide) (by decide) (by simp)
    (by intro _ h; (repeat (cases h with | head => rfl | tail _ h => ?_)); exact nomatch h) _ _) ?_
  intro r hr c
  refine ⟨(hr c main_v67).trans ?_, (hr c main_arg0).trans ?_, (hr c main_arg1).trans ?_, (hr c main_arg2).trans ?_, (hr c main_arg3).trans ?_,
    (hr c main_arg4).trans ?_, (hr c main_arg5).trans ?_⟩
  rotate_left
  iterate 6 · after_reads_simp
  after_reads_simp
  refine assembled_of (projected (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (a := StableHlo.upto (τ := τ) (sig := sig) (Val := Elt Ideal) _ _ 71 (Proc.devRef .tc main_v61))
    (b := StableHlo.upto (τ := τ) (sig := sig) (Val := Elt Ideal) _ _ 71 (Proc.devRef .tc main_v64)) (d := StableHlo.upto (τ := τ) (sig := sig) (Val := Elt Ideal) _ _ 71 (Proc.devRef .tc main_v65)) ?_ ?_ ?_
  · after_reads_simp
    refine queries_of _ _ _ (a := (StableHlo.upto (τ := τ) (sig := sig) (Val := Elt Ideal) _ _ _ (Proc.devRef .tc main_v33))) (b := (StableHlo.upto (τ := τ) (sig := sig) (Val := Elt Ideal) _ _ _ (Proc.devRef .tc main_v38))) ?_ ?_
    all_goals
      after_reads_simp
      rfl
  · after_reads_simp
    refine keys_of _ _ _ (a := (StableHlo.upto (τ := τ) (sig := sig) (Val := Elt Ideal) _ _ _ (Proc.devRef .tc main_v52))) (b := (StableHlo.upto (τ := τ) (sig := sig) (Val := Elt Ideal) _ _ _ (Proc.devRef .tc main_v57))) ?_ ?_
    all_goals
      after_reads_simp
      rfl
  · after_reads_simp
    rfl

end Cert.ProjCRefIdeal.Read

end
-- ==== Proof.ProjCClaim.lean ====
module

public import proofs.«01_k».proof.Proof.ProjCValue
public import proofs.«01_k».proof.Proof.ProjCRun
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjCClaim

/-- The reference runs to its end, its arguments unchanged and no counter raised. -/
theorem ref_frame : Cert.quiescent_ProjCRefIdeal (hProjCRefIdeal := Cert.ProjCRefIdeal.Gen.facts) := by
  intro m g hpre
  hlo_run
  · exact fun c => by simp only [and_self]
  · exact sem_eq_zero_of_no_sems (show Cert.ProjCRefIdeal.sig.nSem + Cert.ProjCRefIdeal.sig.nDmaSem = 0 by decide) _

set_option maxHeartbeats 4000000 in
/-- The kernel call and the reference, run on the same arguments, end with the same result. -/
theorem algebraic : Cert.algebraic_ProjCIdeal_ProjCRefIdeal (hProjCIdeal := Cert.ProjCIdeal.Gen.facts) (hProjCRefIdeal := Cert.ProjCRefIdeal.Gen.facts) := by
  pair_intro
  · run_from Cert.ProjCIdeal.Gen.run_main m g
    all_goals
      simp only [Cert.ProjCIdeal.Gen.hostOps0, List.flatten_cons, List.flatten_nil, List.append_nil, List.cons_append, List.nil_append]
      after_results_simp
  · refine θ_run_mono (Cert.ProjCRefIdeal.Read.run m' g') ?_
    intro r hr c
    obtain ⟨h, h0⟩ := hr c
    refine ⟨h.trans ?_, h0⟩
    simp only [hagree c]
    exact (Cert.ProjCIdeal.Value.final m c).symm

end Cert.ProjCClaim

end
-- ==== Proof.lean ====
module

public import proofs.«01_k».proof.Defs
public import proofs.«01_k».proof.Proof.Gen.FfnPre
public import proofs.«01_k».proof.Proof.Gen.FfnPre.Skeleton
public import proofs.«01_k».proof.Proof.Gen.FfnPre.Launch
public import proofs.«01_k».proof.Proof.Gen.FfnPre.Points
public import proofs.«01_k».proof.Proof.Gen.FfnPre.Frame
public import proofs.«01_k».proof.Proof.Gen.FfnPreIdeal
public import proofs.«01_k».proof.Proof.Gen.FfnPreIdeal.Skeleton
public import proofs.«01_k».proof.Proof.Gen.FfnPreIdeal.Launch
public import proofs.«01_k».proof.Proof.Gen.FfnPreIdeal.Points
public import proofs.«01_k».proof.Proof.Gen.FfnPreIdeal.Frame
public import proofs.«01_k».proof.Proof.Gen.FfnPreIdeal.Value
public import proofs.«01_k».proof.Proof.Gen.FfnPreRefIdeal
public import proofs.«01_k».proof.Proof.Gen.FfnAb
public import proofs.«01_k».proof.Proof.Gen.FfnAb.Skeleton
public import proofs.«01_k».proof.Proof.Gen.FfnAb.Launch
public import proofs.«01_k».proof.Proof.Gen.FfnAb.Points
public import proofs.«01_k».proof.Proof.Gen.FfnAb.Frame
public import proofs.«01_k».proof.Proof.Gen.FfnAbIdeal
public import proofs.«01_k».proof.Proof.Gen.FfnAbIdeal.Skeleton
public import proofs.«01_k».proof.Proof.Gen.FfnAbIdeal.Launch
public import proofs.«01_k».proof.Proof.Gen.FfnAbIdeal.Points
public import proofs.«01_k».proof.Proof.Gen.FfnAbIdeal.Frame
public import proofs.«01_k».proof.Proof.Gen.FfnAbIdeal.Value
public import proofs.«01_k».proof.Proof.Gen.FfnAbRefIdeal
public import proofs.«01_k».proof.Proof.Gen.FfnC
public import proofs.«01_k».proof.Proof.Gen.FfnC.Skeleton
public import proofs.«01_k».proof.Proof.Gen.FfnC.Launch
public import proofs.«01_k».proof.Proof.Gen.FfnC.Points
public import proofs.«01_k».proof.Proof.Gen.FfnC.Frame
public import proofs.«01_k».proof.Proof.Gen.FfnCIdeal
public import proofs.«01_k».proof.Proof.Gen.FfnCIdeal.Skeleton
public import proofs.«01_k».proof.Proof.Gen.FfnCIdeal.Launch
public import proofs.«01_k».proof.Proof.Gen.FfnCIdeal.Points
public import proofs.«01_k».proof.Proof.Gen.FfnCIdeal.Frame
public import proofs.«01_k».proof.Proof.Gen.FfnCIdeal.Value
public import proofs.«01_k».proof.Proof.Gen.FfnCRefIdeal
public import proofs.«01_k».proof.Proof.Gen.Gqa
public import proofs.«01_k».proof.Proof.Gen.Gqa.Skeleton
public import proofs.«01_k».proof.Proof.Gen.Gqa.Launch
public import proofs.«01_k».proof.Proof.Gen.Gqa.Points
public import proofs.«01_k».proof.Proof.Gen.Gqa.Frame
public import proofs.«01_k».proof.Proof.Gen.GqaIdeal
public import proofs.«01_k».proof.Proof.Gen.GqaIdeal.Skeleton
public import proofs.«01_k».proof.Proof.Gen.GqaIdeal.Launch
public import proofs.«01_k».proof.Proof.Gen.GqaIdeal.Points
public import proofs.«01_k».proof.Proof.Gen.GqaIdeal.Frame
public import proofs.«01_k».proof.Proof.Gen.GqaIdeal.Value
public import proofs.«01_k».proof.Proof.Gen.GqaRefIdeal
public import proofs.«01_k».proof.Proof.Gen.Diff
public import proofs.«01_k».proof.Proof.Gen.Diff.Skeleton
public import proofs.«01_k».proof.Proof.Gen.Diff.Launch
public import proofs.«01_k».proof.Proof.Gen.Diff.Points
public import proofs.«01_k».proof.Proof.Gen.Diff.Frame
public import proofs.«01_k».proof.Proof.Gen.DiffIdeal
public import proofs.«01_k».proof.Proof.Gen.DiffIdeal.Skeleton
public import proofs.«01_k».proof.Proof.Gen.DiffIdeal.Launch
public import proofs.«01_k».proof.Proof.Gen.DiffIdeal.Points
public import proofs.«01_k».proof.Proof.Gen.DiffIdeal.Frame
public import proofs.«01_k».proof.Proof.Gen.DiffIdeal.Value
public import proofs.«01_k».proof.Proof.Gen.DiffRefIdeal
public import proofs.«01_k».proof.Proof.Gen.CtxPre
public import proofs.«01_k».proof.Proof.Gen.CtxPre.Skeleton
public import proofs.«01_k».proof.Proof.Gen.CtxPre.Launch
public import proofs.«01_k».proof.Proof.Gen.CtxPre.Points
public import proofs.«01_k».proof.Proof.Gen.CtxPre.Frame
public import proofs.«01_k».proof.Proof.Gen.CtxPreIdeal
public import proofs.«01_k».proof.Proof.Gen.CtxPreIdeal.Skeleton
public import proofs.«01_k».proof.Proof.Gen.CtxPreIdeal.Launch
public import proofs.«01_k».proof.Proof.Gen.CtxPreIdeal.Points
public import proofs.«01_k».proof.Proof.Gen.CtxPreIdeal.Frame
public import proofs.«01_k».proof.Proof.Gen.CtxPreIdeal.Value
public import proofs.«01_k».proof.Proof.Gen.CtxPreRefIdeal
public import proofs.«01_k».proof.Proof.Gen.CtxAb
public import proofs.«01_k».proof.Proof.Gen.CtxAb.Skeleton
public import proofs.«01_k».proof.Proof.Gen.CtxAb.Launch
public import proofs.«01_k».proof.Proof.Gen.CtxAb.Points
public import proofs.«01_k».proof.Proof.Gen.CtxAb.Frame
public import proofs.«01_k».proof.Proof.Gen.CtxAbIdeal
public import proofs.«01_k».proof.Proof.Gen.CtxAbIdeal.Skeleton
public import proofs.«01_k».proof.Proof.Gen.CtxAbIdeal.Launch
public import proofs.«01_k».proof.Proof.Gen.CtxAbIdeal.Points
public import proofs.«01_k».proof.Proof.Gen.CtxAbIdeal.Frame
public import proofs.«01_k».proof.Proof.Gen.CtxAbIdeal.Value
public import proofs.«01_k».proof.Proof.Gen.CtxAbRefIdeal
public import proofs.«01_k».proof.Proof.Gen.ProjC
public import proofs.«01_k».proof.Proof.Gen.ProjC.Skeleton
public import proofs.«01_k».proof.Proof.Gen.ProjC.Launch
public import proofs.«01_k».proof.Proof.Gen.ProjC.Points
public import proofs.«01_k».proof.Proof.Gen.ProjC.Frame
public import proofs.«01_k».proof.Proof.Gen.ProjCIdeal
public import proofs.«01_k».proof.Proof.Gen.ProjCIdeal.Skeleton
public import proofs.«01_k».proof.Proof.Gen.ProjCIdeal.Launch
public import proofs.«01_k».proof.Proof.Gen.ProjCIdeal.Points
public import proofs.«01_k».proof.Proof.Gen.ProjCIdeal.Frame
public import proofs.«01_k».proof.Proof.Gen.ProjCIdeal.Value
public import proofs.«01_k».proof.Proof.Gen.ProjCRefIdeal
public import proofs.«01_k».proof.Proof.FfnPreClaim
public import proofs.«01_k».proof.Proof.FfnAbClaim
public import proofs.«01_k».proof.Proof.FfnCClaim
public import proofs.«01_k».proof.Proof.GqaClaim
public import proofs.«01_k».proof.Proof.DiffClaim
public import proofs.«01_k».proof.Proof.CtxPreClaim
public import proofs.«01_k».proof.Proof.CtxAbClaim
public import proofs.«01_k».proof.Proof.ProjCClaim
public import Idealize.ShloMosaic.Adequacy
public import Idealize.ShloMosaic.Init

@[expose] public section

noncomputable section

namespace Cert.Proof

open Idealize.ShloMosaic Idealize.SL.Sem Cert.FfnPre

/-- Everything claimed: each program's frame, and for each call the two claims on its idealization. -/
theorem claim : Cert.Claim := ⟨
  Cert.FfnPre.Gen.facts, Cert.FfnPreIdeal.Gen.facts, Cert.FfnPreRefIdeal.Gen.facts,
  Cert.FfnAb.Gen.facts, Cert.FfnAbIdeal.Gen.facts, Cert.FfnAbRefIdeal.Gen.facts,
  Cert.FfnC.Gen.facts, Cert.FfnCIdeal.Gen.facts, Cert.FfnCRefIdeal.Gen.facts,
  Cert.Gqa.Gen.facts, Cert.GqaIdeal.Gen.facts, Cert.GqaRefIdeal.Gen.facts,
  Cert.Diff.Gen.facts, Cert.DiffIdeal.Gen.facts, Cert.DiffRefIdeal.Gen.facts,
  Cert.CtxPre.Gen.facts, Cert.CtxPreIdeal.Gen.facts, Cert.CtxPreRefIdeal.Gen.facts,
  Cert.CtxAb.Gen.facts, Cert.CtxAbIdeal.Gen.facts, Cert.CtxAbRefIdeal.Gen.facts,
  Cert.ProjC.Gen.facts, Cert.ProjCIdeal.Gen.facts, Cert.ProjCRefIdeal.Gen.facts,
  Cert.GqaClaim.preFacts, Cert.DiffClaim.preFacts,
  fun m ρ _ => Cert.FfnPre.Gen.frame m ρ, fun m ρ _ => Cert.FfnPreIdeal.Gen.frame m ρ, Cert.FfnPreClaim.ref_frame,
  fun m ρ _ => Cert.FfnAb.Gen.frame m ρ, fun m ρ _ => Cert.FfnAbIdeal.Gen.frame m ρ, Cert.FfnAbClaim.ref_frame,
  fun m ρ _ => Cert.FfnC.Gen.frame m ρ, fun m ρ _ => Cert.FfnCIdeal.Gen.frame m ρ, Cert.FfnCClaim.ref_frame,
  fun m ρ _ => Cert.Gqa.Gen.frame m ρ, fun m ρ _ => Cert.GqaIdeal.Gen.frame m ρ, fun m ρ _ => Cert.GqaIdeal.Gen.frame m ρ, Cert.GqaClaim.ref_frame, fun m g _ => Cert.GqaClaim.ref_frame m g trivial,
  fun m ρ _ => Cert.Diff.Gen.frame m ρ, fun m ρ _ => Cert.DiffIdeal.Gen.frame m ρ, fun m ρ _ => Cert.DiffIdeal.Gen.frame m ρ, Cert.DiffClaim.ref_frame, fun m g _ => Cert.DiffClaim.ref_frame m g trivial,
  fun m ρ _ => Cert.CtxPre.Gen.frame m ρ, fun m ρ _ => Cert.CtxPreIdeal.Gen.frame m ρ, Cert.CtxPreClaim.ref_frame,
  fun m ρ _ => Cert.CtxAb.Gen.frame m ρ, fun m ρ _ => Cert.CtxAbIdeal.Gen.frame m ρ, Cert.CtxAbClaim.ref_frame,
  fun m ρ _ => Cert.ProjC.Gen.frame m ρ, fun m ρ _ => Cert.ProjCIdeal.Gen.frame m ρ, Cert.ProjCClaim.ref_frame,
  trivial, Cert.FfnPreClaim.algebraic,
  trivial, Cert.FfnAbClaim.algebraic,
  trivial, Cert.FfnCClaim.algebraic,
  trivial, Cert.GqaClaim.algebraic,
  trivial, Cert.DiffClaim.algebraic,
  trivial, Cert.CtxPreClaim.algebraic,
  trivial, Cert.CtxAbClaim.algebraic,
  trivial, Cert.ProjCClaim.algebraic⟩

end Cert.Proof

end
